-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_seq" .f32 0x3A924925#32 ((1 / 896 : ℝ) : EReal)
  ∧ IdealRules.named_const.Statement Cert.KernelIdeal.κ "c" .f32 0x3E0293EE#32 (((Real.sqrt 128)⁻¹ * (Real.log 2)⁻¹ : ℝ) : EReal)
  ∧ IdealRules.named_const.Statement Cert.KernelIdeal.κ "log2_6" .f32 0x40257007#32 (((Real.log 6) * (Real.log 2)⁻¹ : ℝ) : EReal)
  ∧ IdealRules.named_const.Statement Cert.KernelIdeal.κ "inv_c" .f32 0x40FAF233#32 (((Real.sqrt 128) * (Real.log 2) : ℝ) : EReal)
  ∧ IdealRules.named_const.Statement Cert.KernelIdeal.κ "sixth" .f32 0x3E2AAAAB#32 ((1 / 6 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v3_0) = v1 c
          ∧ r.2.mem ((c.tc : Thread Cert.ReferenceIdeal.nD Cert.ReferenceIdeal.τ).loc Cert.ReferenceIdeal.main_v3_1) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_6) = v5 c
          ∧ r.2.mem ((c.tc : Thread Cert.ReferenceIdeal.nD Cert.ReferenceIdeal.τ).loc Cert.ReferenceIdeal.main_v3_7) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x20x128 : Shape := ⟨4, ![2, 896, 20, 128]⟩
abbrev S2x896x5x128 : Shape := ⟨4, ![2, 896, 5, 128]⟩
abbrev S2x20x896x128 : Shape := ⟨4, ![2, 20, 896, 128]⟩
abbrev S2x5x896x128 : Shape := ⟨4, ![2, 5, 896, 128]⟩
abbrev S2x20x4x896 : Shape := ⟨4, ![2, 20, 4, 896]⟩
abbrev S2x5x4x896 : Shape := ⟨4, ![2, 5, 4, 896]⟩
abbrev S2x5x28x128 : Shape := ⟨4, ![2, 5, 28, 128]⟩
abbrev S1x4x896x128 : Shape := ⟨4, ![1, 4, 896, 128]⟩
abbrev S1x1x896x128 : Shape := ⟨4, ![1, 1, 896, 128]⟩
abbrev S1x4x4x896 : Shape := ⟨4, ![1, 4, 4, 896]⟩
abbrev S1x1x4x896 : Shape := ⟨4, ![1, 1, 4, 896]⟩
abbrev S1x1x28x128 : Shape := ⟨4, ![1, 1, 28, 128]⟩
abbrev S896x128 : Shape := ⟨2, ![896, 128]⟩
abbrev S768x128 : Shape := ⟨2, ![768, 128]⟩
abbrev S512x128 : Shape := ⟨2, ![512, 128]⟩
abbrev S128x768 : Shape := ⟨2, ![128, 768]⟩
abbrev S128x512 : Shape := ⟨2, ![128, 512]⟩
abbrev S2x896x256 : Shape := ⟨3, ![2, 896, 256]⟩
abbrev S128 : Shape := ⟨1, ![128]⟩
abbrev S1x128 : Shape := ⟨2, ![1, 128]⟩
abbrev S128x896 : Shape := ⟨2, ![128, 896]⟩
abbrev S4x32x896 : Shape := ⟨3, ![4, 32, 896]⟩
abbrev S4x896 : Shape := ⟨2, ![4, 896]⟩
abbrev S255x4x896 : Shape := ⟨3, ![255, 4, 896]⟩
abbrev S1x4x896 : Shape := ⟨3, ![1, 4, 896]⟩
abbrev S4x1x896 : Shape := ⟨3, ![4, 1, 896]⟩
abbrev S8x128 : Shape := ⟨2, ![8, 128]⟩
abbrev S256x128 : Shape := ⟨2, ![256, 128]⟩
abbrev S128x128 : Shape := ⟨2, ![128, 128]⟩
abbrev S28x32x128 : Shape := ⟨3, ![28, 32, 128]⟩
abbrev S28x128 : Shape := ⟨2, ![28, 128]⟩
abbrev S255x28x128 : Shape := ⟨3, ![255, 28, 128]⟩
abbrev S1x28x128 : Shape := ⟨3, ![1, 28, 128]⟩
abbrev S28x1x128 : Shape := ⟨3, ![28, 1, 128]⟩
abbrev S128x256 : Shape := ⟨2, ![128, 256]⟩
abbrev S8x256 : Shape := ⟨2, ![8, 256]⟩
abbrev S1x1x128x128 : Shape := ⟨4, ![1, 1, 128, 128]⟩
abbrev S4x32x128 : Shape := ⟨3, ![4, 32, 128]⟩
abbrev S4x128 : Shape := ⟨2, ![4, 128]⟩
abbrev S255x4x128 : Shape := ⟨3, ![255, 4, 128]⟩
abbrev S1x4x128 : Shape := ⟨3, ![1, 4, 128]⟩
abbrev S4x1x128 : Shape := ⟨3, ![4, 1, 128]⟩
abbrev S1x1x4x128 : Shape := ⟨4, ![1, 1, 4, 128]⟩
abbrev S16x8x256 : Shape := ⟨3, ![16, 8, 256]⟩
abbrev S1x8x256 : Shape := ⟨3, ![1, 8, 256]⟩
abbrev S1x128x256 : Shape := ⟨3, ![1, 128, 256]⟩
abbrev S255x8x256 : Shape := ⟨3, ![255, 8, 256]⟩
abbrev S16x256 : Shape := ⟨2, ![16, 256]⟩
abbrev S1x64x256 : Shape := ⟨3, ![1, 64, 256]⟩
abbrev S64x256 : Shape := ⟨2, ![64, 256]⟩
abbrev S8x8x256 : Shape := ⟨3, ![8, 8, 256]⟩
abbrev S8x16x256 : Shape := ⟨3, ![8, 16, 256]⟩
abbrev S1x16x256 : Shape := ⟨3, ![1, 16, 256]⟩
abbrev S256x256 : Shape := ⟨2, ![256, 256]⟩
abbrev S32x8x256 : Shape := ⟨3, ![32, 8, 256]⟩
abbrev S1x256x256 : Shape := ⟨3, ![1, 256, 256]⟩
abbrev S16x16x256 : Shape := ⟨3, ![16, 16, 256]⟩

abbrev nBuf : Space → Nat
  | .hbm => 13
  | .vmem => 26
  | .smem => 0
  | _ => 0

abbrev bufTy : (tb : Table) → Fin (tcTables nBuf tb) → BufTy
  | .hbm, ⟨0, _⟩ => ⟨S2x896x20x128, .bf16⟩
  | .hbm, ⟨1, _⟩ => ⟨S2x896x5x128, .bf16⟩
  | .hbm, ⟨2, _⟩ => ⟨S2x896x5x128, .bf16⟩
  | .hbm, ⟨3, _⟩ => ⟨S2x20x896x128, .bf16⟩
  | .hbm, ⟨4, _⟩ => ⟨S2x5x896x128, .bf16⟩
  | .hbm, ⟨5, _⟩ => ⟨S2x5x896x128, .bf16⟩
  | .hbm, ⟨6, _⟩ => ⟨S2x20x896x128, .bf16⟩
  | .hbm, ⟨7, _⟩ => ⟨S2x20x896x128, .fp8e4m3⟩
  | .hbm, ⟨8, _⟩ => ⟨S2x20x4x896, .i8⟩
  | .hbm, ⟨9, _⟩ => ⟨S2x5x896x128, .fp8e4m3⟩
  | .hbm, ⟨10, _⟩ => ⟨S2x5x4x896, .i8⟩
  | .hbm, ⟨11, _⟩ => ⟨S2x5x896x128, .fp8e4m3⟩
  | .hbm, ⟨12, _⟩ => ⟨S2x5x28x128, .i8⟩
  | .local _ .vmem, ⟨0, _⟩ => ⟨S1x4x896x128, .bf16⟩
  | .local _ .vmem, ⟨1, _⟩ => ⟨S1x4x896x128, .bf16⟩
  | .local _ .vmem, ⟨2, _⟩ => ⟨S1x1x896x128, .bf16⟩
  | .local _ .vmem, ⟨3, _⟩ => ⟨S1x1x896x128, .bf16⟩
  | .local _ .vmem, ⟨4, _⟩ => ⟨S1x1x896x128, .bf16⟩
  | .local _ .vmem, ⟨5, _⟩ => ⟨S1x1x896x128, .bf16⟩
  | .local _ .vmem, ⟨6, _⟩ => ⟨S1x4x896x128, .bf16⟩
  | .local _ .vmem, ⟨7, _⟩ => ⟨S1x4x896x128, .bf16⟩
  | .local _ .vmem, ⟨8, _⟩ => ⟨S1x4x896x128, .fp8e4m3⟩
  | .local _ .vmem, ⟨9, _⟩ => ⟨S1x4x896x128, .fp8e4m3⟩
  | .local _ .vmem, ⟨10, _⟩ => ⟨S1x4x4x896, .i8⟩
  | .local _ .vmem, ⟨11, _⟩ => ⟨S1x4x4x896, .i8⟩
  | .local _ .vmem, ⟨12, _⟩ => ⟨S1x1x896x128, .fp8e4m3⟩
  | .local _ .vmem, ⟨13, _⟩ => ⟨S1x1x896x128, .fp8e4m3⟩
  | .local _ .vmem, ⟨14, _⟩ => ⟨S1x1x4x896, .i8⟩
  | .local _ .vmem, ⟨15, _⟩ => ⟨S1x1x4x896, .i8⟩
  | .local _ .vmem, ⟨16, _⟩ => ⟨S1x1x896x128, .fp8e4m3⟩
  | .local _ .vmem, ⟨17, _⟩ => ⟨S1x1x896x128, .fp8e4m3⟩
  | .local _ .vmem, ⟨18, _⟩ => ⟨S1x1x28x128, .i8⟩
  | .local _ .vmem, ⟨19, _⟩ => ⟨S1x1x28x128, .i8⟩
  | .local _ .vmem, ⟨20, _⟩ => ⟨S896x128, .f32⟩
  | .local _ .vmem, ⟨21, _⟩ => ⟨S768x128, .bf16⟩
  | .local _ .vmem, ⟨22, _⟩ => ⟨S512x128, .bf16⟩
  | .local _ .vmem, ⟨23, _⟩ => ⟨S128x768, .bf16⟩
  | .local _ .vmem, ⟨24, _⟩ => ⟨S128x512, .bf16⟩
  | .local _ .vmem, ⟨25, _⟩ => ⟨S2x896x256, .f32⟩
  | _, _ => ⟨S2x896x20x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x896x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x896x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x896x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x896x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x896x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x4x896 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x896x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4x896 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x896x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x28x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "c" => some (((Real.sqrt 128)⁻¹ * (Real.log 2)⁻¹ : ℝ) : EReal)
  | "inv_c" => some (((Real.sqrt 128) * (Real.log 2) : ℝ) : EReal)
  | "inv_seq" => some ((1 / 896 : ℝ) : EReal)
  | "log2_6" => some (((Real.log 6) * (Real.log 2)⁻¹ : ℝ) : EReal)
  | "sixth" => some ((1 / 6 : ℝ) : EReal)
  | _ => none
-- ==== ReferenceIdeal.lean ====
abbrev S2x896x20x128 : Shape := ⟨4, ![2, 896, 20, 128]⟩
abbrev S2x896x5x128 : Shape := ⟨4, ![2, 896, 5, 128]⟩
abbrev S2x20x896x128 : Shape := ⟨4, ![2, 20, 896, 128]⟩
abbrev S2x5x896x128 : Shape := ⟨4, ![2, 5, 896, 128]⟩
abbrev S2x20x4x896 : Shape := ⟨4, ![2, 20, 4, 896]⟩
abbrev S2x5x4x896 : Shape := ⟨4, ![2, 5, 4, 896]⟩
abbrev S2x5x28x128 : Shape := ⟨4, ![2, 5, 28, 128]⟩
abbrev S2x5x128 : Shape := ⟨3, ![2, 5, 128]⟩
abbrev S2x5x1x128 : Shape := ⟨4, ![2, 5, 1, 128]⟩
abbrev S2x20x896x4x32 : Shape := ⟨5, ![2, 20, 896, 4, 32]⟩
abbrev S2x20x896x4 : Shape := ⟨4, ![2, 20, 896, 4]⟩
abbrev S2x20x896x4x1 : Shape := ⟨5, ![2, 20, 896, 4, 1]⟩
abbrev S2x5x896x4x32 : Shape := ⟨5, ![2, 5, 896, 4, 32]⟩
abbrev S2x5x896x4 : Shape := ⟨4, ![2, 5, 896, 4]⟩
abbrev S2x5x896x4x1 : Shape := ⟨5, ![2, 5, 896, 4, 1]⟩
abbrev S2x5x28x32x128 : Shape := ⟨5, ![2, 5, 28, 32, 128]⟩
abbrev S2x5x28x1x128 : Shape := ⟨5, ![2, 5, 28, 1, 128]⟩
abbrev S2x5x1x896x128 : Shape := ⟨5, ![2, 5, 1, 896, 128]⟩
abbrev S2x5x4x896x128 : Shape := ⟨5, ![2, 5, 4, 896, 128]⟩
abbrev S2x20x896x896 : Shape := ⟨4, ![2, 20, 896, 896]⟩
abbrev S_ : Shape := ⟨0, ![]⟩
abbrev S896 : Shape := ⟨1, ![896]⟩
abbrev S1x896 : Shape := ⟨2, ![1, 896]⟩
abbrev S896x1 : Shape := ⟨2, ![896, 1]⟩
abbrev S896x896 : Shape := ⟨2, ![896, 896]⟩
abbrev S2x20x896 : Shape := ⟨3, ![2, 20, 896]⟩
abbrev S2x20x896x14x64 : Shape := ⟨5, ![2, 20, 896, 14, 64]⟩
abbrev S2x20x896x14 : Shape := ⟨4, ![2, 20, 896, 14]⟩
abbrev S2x20x896x1 : Shape := ⟨4, ![2, 20, 896, 1]⟩
abbrev S2x20x896x14x1 : Shape := ⟨5, ![2, 20, 896, 14, 1]⟩
abbrev S2x20x896x28x32 : Shape := ⟨5, ![2, 20, 896, 28, 32]⟩
abbrev S2x20x896x28 : Shape := ⟨4, ![2, 20, 896, 28]⟩
abbrev S2x20x896x28x1 : Shape := ⟨5, ![2, 20, 896, 28, 1]⟩
abbrev S2x20x14x64x128 : Shape := ⟨5, ![2, 20, 14, 64, 128]⟩
abbrev S2x20x14x896x128 : Shape := ⟨5, ![2, 20, 14, 896, 128]⟩
abbrev S2x20x14x896 : Shape := ⟨4, ![2, 20, 14, 896]⟩
abbrev S2x20x14x896x1 : Shape := ⟨5, ![2, 20, 14, 896, 1]⟩

abbrev nBuf : Space → Nat
  | .hbm => 180
  | .vmem => 12
  | .smem => 0
  | _ => 0

abbrev hbmTy0_0 (i : Nat) : BufTy := match i % 128 with
  | 0 => ⟨S2x896x20x128, .bf16⟩
  | 1 => ⟨S2x896x5x128, .bf16⟩
  | 2 => ⟨S2x896x5x128, .bf16⟩
  | 3 => ⟨S2x20x896x128, .bf16⟩
  | 4 => ⟨S2x5x896x128, .bf16⟩
  | 5 => ⟨S2x5x896x128, .bf16⟩
  | 6 => ⟨S2x20x896x128, .fp8e4m3⟩
  | 7 => ⟨S2x20x4x896, .i8⟩
  | 8 => ⟨S2x20x896x128, .bf16⟩
  | 9 => ⟨S2x5x896x128, .fp8e4m3⟩
  | 10 => ⟨S2x5x4x896, .i8⟩
  | 11 => ⟨S2x5x896x128, .bf16⟩
  | 12 => ⟨S2x5x896x128, .fp8e4m3⟩
  | 13 => ⟨S2x5x28x128, .i8⟩
  | 14 => ⟨S2x5x896x128, .bf16⟩
  | 15 => ⟨S2x5x1x896x128, .bf16⟩
  | 16 => ⟨S2x5x4x896x128, .bf16⟩
  | 17 => ⟨S2x20x896x128, .bf16⟩
  | 18 => ⟨S2x20x896x896, .f32⟩
  | 19 => ⟨S_, .f32⟩
  | 20 => ⟨S2x20x896x896, .f32⟩
  | 21 => ⟨S2x20x896x896, .f32⟩
  | 22 => ⟨S2x20x896x896, .f32⟩
  | 23 => ⟨S2x20x896x896, .f32⟩
  | 24 => ⟨S896, .i32⟩
  | 25 => ⟨S1x896, .i32⟩
  | 26 => ⟨S896x1, .i32⟩
  | 27 => ⟨S896x896, .i32⟩
  | 28 => ⟨S896x896, .i32⟩
  | 29 => ⟨S896x896, .i1⟩
  | 30 => ⟨S_, .f32⟩
  | 31 => ⟨S_, .f32⟩
  | 32 => ⟨S2x20x896x896, .i1⟩
  | 33 => ⟨S2x20x896x896, .f32⟩
  | 34 => ⟨S2x20x896x896, .f32⟩
  | 35 => ⟨S_, .f32⟩
  | 36 => ⟨S2x20x896, .f32⟩
  | 37 => ⟨S2x20x896x14x64, .f32⟩
  | 38 => ⟨S_, .f32⟩
  | 39 => ⟨S2x20x896x14, .f32⟩
  | 40 => ⟨S_, .f32⟩
  | 41 => ⟨S2x20x896x14, .f32⟩
  | 42 => ⟨S2x20x896x14, .i1⟩
  | 43 => ⟨S2x20x896x1, .f32⟩
  | 44 => ⟨S2x20x896x14, .f32⟩
  | 45 => ⟨S2x20x896x14, .f32⟩
  | 46 => ⟨S2x20x896x14x1, .f32⟩
  | 47 => ⟨S2x20x896x14x64, .f32⟩
  | 48 => ⟨S2x20x896x14x64, .f32⟩
  | 49 => ⟨S2x20x896x14x64, .f32⟩
  | 50 => ⟨S_, .f32⟩
  | 51 => ⟨S2x20x896x14x64, .f32⟩
  | 52 => ⟨S2x20x896x14x64, .f32⟩
  | 53 => ⟨S2x20x896x1, .f32⟩
  | 54 => ⟨S2x20x896x14, .f32⟩
  | 55 => ⟨S2x20x896x14, .f32⟩
  | 56 => ⟨S2x20x896x14, .f32⟩
  | 57 => ⟨S_, .f32⟩
  | 58 => ⟨S2x20x896x14, .f32⟩
  | 59 => ⟨S2x20x896x14, .f32⟩
  | 60 => ⟨S2x20x896x896, .f32⟩
  | 61 => ⟨S2x20x896x28x32, .f32⟩
  | 62 => ⟨S2x20x896x28x32, .f32⟩
  | 63 => ⟨S_, .f32⟩
  | 64 => ⟨S2x20x896x28, .f32⟩
  | 65 => ⟨S2x20x896x28, .f32⟩
  | 66 => ⟨S_, .f32⟩
  | 67 => ⟨S2x20x896x28, .f32⟩
  | 68 => ⟨S2x20x896x28, .f32⟩
  | 69 => ⟨S2x20x896x28, .f32⟩
  | 70 => ⟨S2x20x896x28, .f32⟩
  | 71 => ⟨S2x20x896x28, .f32⟩
  | 72 => ⟨S_, .f32⟩
  | 73 => ⟨S_, .f32⟩
  | 74 => ⟨S_, .f32⟩
  | 75 => ⟨S2x20x896x28, .f32⟩
  | 76 => ⟨S2x20x896x28, .f32⟩
  | 77 => ⟨S_, .f32⟩
  | 78 => ⟨S2x20x896x28, .f32⟩
  | 79 => ⟨S2x20x896x28, .f32⟩
  | 80 => ⟨S_, .f32⟩
  | 81 => ⟨S2x20x896x28, .f32⟩
  | 82 => ⟨S2x20x896x28, .i1⟩
  | 83 => ⟨S_, .f32⟩
  | 84 => ⟨S2x20x896x28, .f32⟩
  | 85 => ⟨S2x20x896x28, .f32⟩
  | 86 => ⟨S_, .f32⟩
  | 87 => ⟨S2x20x896x28, .f32⟩
  | 88 => ⟨S2x20x896x28, .f32⟩
  | 89 => ⟨S_, .f32⟩
  | 90 => ⟨S_, .f32⟩
  | 91 => ⟨S2x20x896x28, .f32⟩
  | 92 => ⟨S2x20x896x28, .f32⟩
  | 93 => ⟨S_, .f32⟩
  | 94 => ⟨S2x20x896x28, .f32⟩
  | 95 => ⟨S2x20x896x28, .f32⟩
  | 96 => ⟨S2x20x896x28, .f32⟩
  | 97 => ⟨S2x20x896x28x1, .f32⟩
  | 98 => ⟨S2x20x896x28x32, .f32⟩
  | 99 => ⟨S2x20x896x28x32, .f32⟩
  | 100 => ⟨S2x20x896x28x32, .f32⟩
  | 101 => ⟨S_, .f32⟩
  | 102 => ⟨S2x20x896x28x32, .f32⟩
  | 103 => ⟨S2x20x896x28x32, .i1⟩
  | 104 => ⟨S_, .f32⟩
  | 105 => ⟨S2x20x896x28x32, .f32⟩
  | 106 => ⟨S2x20x896x28x32, .i1⟩
  | 107 => ⟨S_, .f32⟩
  | 108 => ⟨S_, .f32⟩
  | 109 => ⟨S2x20x896x28x32, .f32⟩
  | 110 => ⟨S2x20x896x28x32, .f32⟩
  | 111 => ⟨S2x20x896x28x32, .f32⟩
  | 112 => ⟨S_, .f32⟩
  | 113 => ⟨S2x20x896x28x32, .f32⟩
  | 114 => ⟨S2x20x896x28x32, .f32⟩
  | 115 => ⟨S2x20x896x28x32, .f32⟩
  | 116 => ⟨S2x20x896x28x32, .f32⟩
  | 117 => ⟨S2x20x896x28x32, .f32⟩
  | 118 => ⟨S2x20x896x28x32, .f32⟩
  | 119 => ⟨S2x20x896x28x32, .f32⟩
  | 120 => ⟨S_, .f32⟩
  | 121 => ⟨S2x20x896x28x32, .f32⟩
  | 122 => ⟨S2x20x896x28x32, .f32⟩
  | 123 => ⟨S_, .f32⟩
  | 124 => ⟨S2x20x896x28x32, .f32⟩
  | 125 => ⟨S2x20x896x28x32, .i1⟩
  | 126 => ⟨S2x20x896x28x32, .f32⟩
  | 127 => ⟨S2x20x896x28x32, .f32⟩
  | _ => ⟨S2x896x20x128, .bf16⟩

abbrev hbmTy0_1 (i : Nat) : BufTy := match i % 128 with
  | 0 => ⟨S2x20x896x28x32, .bf16⟩
  | 1 => ⟨S_, .f32⟩
  | 2 => ⟨S2x20x896x28, .f32⟩
  | 3 => ⟨S2x20x896x28, .i1⟩
  | 4 => ⟨S_, .f32⟩
  | 5 => ⟨S_, .f32⟩
  | 6 => ⟨S2x20x896x28, .f32⟩
  | 7 => ⟨S2x20x896x28, .f32⟩
  | 8 => ⟨S2x20x896x28, .bf16⟩
  | 9 => ⟨S2x20x896x28x1, .bf16⟩
  | 10 => ⟨S2x20x896x28x32, .bf16⟩
  | 11 => ⟨S2x20x896x28x32, .bf16⟩
  | 12 => ⟨S2x20x896x896, .bf16⟩
  | 13 => ⟨S_, .f32⟩
  | 14 => ⟨S2x20x896x28, .f32⟩
  | 15 => ⟨S2x20x896x28, .f32⟩
  | 16 => ⟨S2x20x896x28, .i32⟩
  | 17 => ⟨S2x20x896x896, .bf16⟩
  | 18 => ⟨S2x20x896x1, .f32⟩
  | 19 => ⟨S2x20x896x896, .f32⟩
  | 20 => ⟨S2x20x896x896, .f32⟩
  | 21 => ⟨S2x20x896x896, .f32⟩
  | 22 => ⟨S2x20x896x28x32, .f32⟩
  | 23 => ⟨S2x20x896x28x1, .i32⟩
  | 24 => ⟨S_, .i32⟩
  | 25 => ⟨S2x20x896x28x1, .i32⟩
  | 26 => ⟨S2x20x896x28x1, .i1⟩
  | 27 => ⟨S_, .f32⟩
  | 28 => ⟨S_, .f32⟩
  | 29 => ⟨S2x20x896x28x32, .i1⟩
  | 30 => ⟨S2x20x896x28x32, .f32⟩
  | 31 => ⟨S2x20x896x28x32, .f32⟩
  | 32 => ⟨S_, .f32⟩
  | 33 => ⟨S2x20x896x28, .f32⟩
  | 34 => ⟨S_, .f32⟩
  | 35 => ⟨S2x20x896, .f32⟩
  | 36 => ⟨S2x20x896x14x64, .bf16⟩
  | 37 => ⟨S2x5x1x896x128, .bf16⟩
  | 38 => ⟨S2x5x4x896x128, .bf16⟩
  | 39 => ⟨S2x20x896x128, .bf16⟩
  | 40 => ⟨S2x20x14x64x128, .bf16⟩
  | 41 => ⟨S2x20x14x896x128, .f32⟩
  | 42 => ⟨S2x20x14x896, .f32⟩
  | 43 => ⟨S2x20x14x896x1, .f32⟩
  | 44 => ⟨S2x20x14x896x128, .f32⟩
  | 45 => ⟨S2x20x14x896x128, .f32⟩
  | 46 => ⟨S_, .f32⟩
  | 47 => ⟨S2x20x896x128, .f32⟩
  | 48 => ⟨S2x20x896x1, .f32⟩
  | 49 => ⟨S2x20x896x128, .f32⟩
  | 50 => ⟨S2x20x896x128, .f32⟩
  | 51 => ⟨S2x20x896x128, .bf16⟩
  | _ => ⟨S2x896x20x128, .bf16⟩

abbrev hbmTy (i : Nat) : BufTy := match i / 128 with
  | 0 => hbmTy0_0 i
  | 1 => hbmTy0_1 i
  | _ => ⟨S2x896x20x128, .bf16⟩

abbrev bufTy : (tb : Table) → Fin (tcTables nBuf tb) → BufTy
  | .hbm, ⟨i, _⟩ => hbmTy i
  | .local _ .vmem, ⟨0, _⟩ => ⟨S2x20x896x128, .bf16⟩
  | .local _ .vmem, ⟨1, _⟩ => ⟨S2x5x896x128, .bf16⟩
  | .local _ .vmem, ⟨2, _⟩ => ⟨S2x5x896x128, .bf16⟩
  | .local _ .vmem, ⟨3, _⟩ => ⟨S2x20x896x128, .fp8e4m3⟩
  | .local _ .vmem, ⟨4, _⟩ => ⟨S2x20x4x896, .i8⟩
  | .local _ .vmem, ⟨5, _⟩ => ⟨S2x20x896x128, .bf16⟩
  | .local _ .vmem, ⟨6, _⟩ => ⟨S2x5x896x128, .fp8e4m3⟩
  | .local _ .vmem, ⟨7, _⟩ => ⟨S2x5x4x896, .i8⟩
  | .local _ .vmem, ⟨8, _⟩ => ⟨S2x5x896x128, .bf16⟩
  | .local _ .vmem, ⟨9, _⟩ => ⟨S2x5x896x128, .fp8e4m3⟩
  | .local _ .vmem, ⟨10, _⟩ => ⟨S2x5x28x128, .i8⟩
  | .local _ .vmem, ⟨11, _⟩ => ⟨S2x5x896x128, .bf16⟩
  | _, _ => ⟨S2x896x20x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v3_8 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_call3_v0 : Ref sig .tc := ⟨.hbm, 90, rfl⟩
abbrev main_call3_v1 : Ref sig .tc := ⟨.hbm, 91, rfl⟩
abbrev main_v55 : Ref sig .tc := ⟨.hbm, 92, rfl⟩
abbrev main_cst_14 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_15 : Ref sig .tc := ⟨.hbm, 101, rfl⟩
abbrev main_v63 : Ref sig .tc := ⟨.hbm, 102, rfl⟩
abbrev main_v64 : Ref sig .tc := ⟨.hbm, 103, rfl⟩
abbrev main_cst_16 : Ref sig .tc := ⟨.hbm, 104, rfl⟩
abbrev main_v65 : Ref sig .tc := ⟨.hbm, 105, rfl⟩
abbrev main_v66 : Ref sig .tc := ⟨.hbm, 106, rfl⟩
abbrev main_cst_17 : Ref sig .tc := ⟨.hbm, 107, rfl⟩
abbrev main_cst_18 : Ref sig .tc := ⟨.hbm, 108, rfl⟩
abbrev main_call4_v0 : Ref sig .tc := ⟨.hbm, 109, rfl⟩
abbrev main_call4_v1 : Ref sig .tc := ⟨.hbm, 110, rfl⟩
abbrev main_v67 : Ref sig .tc := ⟨.hbm, 111, rfl⟩
abbrev main_cst_19 : Ref sig .tc := ⟨.hbm, 112, rfl⟩
abbrev main_call5_v0 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_20 : Ref sig .tc := ⟨.hbm, 120, rfl⟩
abbrev main_v74 : Ref sig .tc := ⟨.hbm, 121, rfl⟩
abbrev main_v75 : Ref sig .tc := ⟨.hbm, 122, rfl⟩
abbrev main_cst_21 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_22 : Ref sig .tc := ⟨.hbm, 129, rfl⟩
abbrev main_v81 : Ref sig .tc := ⟨.hbm, 130, rfl⟩
abbrev main_v82 : Ref sig .tc := ⟨.hbm, 131, rfl⟩
abbrev main_cst_23 : Ref sig .tc := ⟨.hbm, 132, rfl⟩
abbrev main_call8_v0 : Ref sig .tc := ⟨.hbm, 133, rfl⟩
abbrev main_call8_v1 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_24 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_c : Ref sig .tc := ⟨.hbm, 152, rfl⟩
abbrev main_v99 : Ref sig .tc := ⟨.hbm, 153, rfl⟩
abbrev main_v100 : Ref sig .tc := ⟨.hbm, 154, rfl⟩
abbrev main_cst_25 : Ref sig .tc := ⟨.hbm, 155, rfl⟩
abbrev main_call9_v0 : Ref sig .tc := ⟨.hbm, 156, rfl⟩
abbrev main_call9_v1 : Ref sig .tc := ⟨.hbm, 157, rfl⟩
abbrev main_call9_v2 : Ref sig .tc := ⟨.hbm, 158, rfl⟩
abbrev main_v101 : Ref sig .tc := ⟨.hbm, 159, rfl⟩
abbrev main_cst_26 : Ref sig .tc := ⟨.hbm, 160, rfl⟩
abbrev main_v102 : Ref sig .tc := ⟨.hbm, 161, rfl⟩
abbrev main_cst_27 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_28 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x20x896x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x5x896x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5x896x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x20x896x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x20x4x896 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x20x896x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x5x896x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x5x4x896 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x5x896x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x5x896x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x5x28x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x5x896x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Body.lean ====
/-
The kernel body written once more, for any query block, head pair and key chunk.

The generated run names every value of the unrolled body separately.  Here the same operations are
written as functions of the query block `i` (7 of them), the head pair `p` (2 of them) and the key
chunk, so that one statement speaks about all copies.  `Pieces.lean` shows that the generated run's
stores are these ones.
-/
module

public import proofs.«01_k».proof.Proof.Gen.KernelIdeal.Value

@[expose] public section

set_option maxRecDepth 16384

noncomputable section

namespace Cert.Body

open Cert.KernelIdeal Cert.KernelIdeal.Gen Idealize.ShloMosaic Idealize.ShloMosaic.TcCoe Idealize.SL.Sem

variable {F : FTy → Type} [FloatOps F] [Named F]

/-- A float constant spread over a shape. -/
abbrev fc (S : Shape) (b : BitVec 32) : FVec F S .f32 := broadcast S (Scalar.ofBits .f32 b)

/-! ## The quantiser -/

/-- The four-bit rounding: step ½, 1 or 2 by size, round to even, clip to ±6. -/
def fp4 (S : Shape) (y : FVec F S .f32) : FVec F S .bf16 :=
  have a : FVec F S .f32 := absf y
  have step : FVec F S .f32 := select (cmpf .olt a (fc S 0x40000000#32)) (fc S 0x3F000000#32)
    (select (cmpf .olt a (fc S 0x40800000#32)) (fc S 0x3F800000#32) (fc S 0x40000000#32))
  truncf .bf16 (minimumf (fc S 0x40C00000#32) (maximumf (fc S 0xC0C00000#32) (mulf step (roundeven (divf y step)))))
    bitsLt_bf16_f32

/-- The shape facts the exponent search needs. -/
structure ExpoOK (a b : ℕ) : Prop where
  cast : Shape.ShapeCasts ⟨2, ![a, b]⟩ ⟨3, ![1, a, b]⟩
  bc : Shape.Broadcasts ⟨3, ![1, a, b]⟩ ⟨3, ![255, a, b]⟩
  io : Shape.Iotas ⟨3, ![255, a, b]⟩ .tc 32 [0]
  red : Shape.Reduces ⟨3, ![255, a, b]⟩ [0] ⟨2, ![a, b]⟩

/-- The largest `k ≤ 254` whose word `k · 2²³`, read as a float, is at most `x`. -/
def expo (a b : ℕ) (h : ExpoOK a b) (x : FVec F ⟨2, ![a, b]⟩ .f32) : IVec ⟨2, ![a, b]⟩ 32 :=
  have k : IVec ⟨3, ![255, a, b]⟩ 32 := iota .tc ⟨3, ![255, a, b]⟩ 32 [0] h.io
  multiReductionI .maxsi [0] ⟨2, ![a, b]⟩
    (select (cmpf .oge (broadcastTo ⟨3, ![255, a, b]⟩ (shapeCast ⟨3, ![1, a, b]⟩ x h.cast) h.bc)
      (bitcastToFloat .f32 (shli k (broadcast ⟨3, ![255, a, b]⟩ 23#32)))) k (broadcast ⟨3, ![255, a, b]⟩ 0#32))
    2147483648#32 h.red rfl

/-- The scale's code. -/
def codeOf (a b : ℕ) (h : ExpoOK a b) (x : FVec F ⟨2, ![a, b]⟩ .f32) : IVec ⟨2, ![a, b]⟩ 32 :=
  select (cmpf .oeq x (fc ⟨2, ![a, b]⟩ 0x00000000#32)) (broadcast ⟨2, ![a, b]⟩ 127#32)
    (maxsi (subi (expo a b h x) (broadcast ⟨2, ![a, b]⟩ 2#32)) (broadcast ⟨2, ![a, b]⟩ 0#32))

/-- One over the scale, by its code. -/
def invOf (S : Shape) (c : IVec S 32) : FVec F S .f32 :=
  bitcastToFloat .f32 (shli (subi (broadcast S 254#32) c) (broadcast S 23#32))

/-- The scale, by its code. -/
def scOf (S : Shape) (c : IVec S 32) : FVec F S .f32 :=
  bitcastToFloat .f32 (shli c (broadcast S 23#32))

/-- The shape facts of a quantiser over groups of 32 rows: `r` rows, `g` groups, `n` columns. -/
structure QOK (r g n : ℕ) : Prop where
  split : Shape.ShapeCasts ⟨2, ![r, n]⟩ ⟨3, ![g, 32, n]⟩
  red : Shape.Reduces ⟨3, ![g, 32, n]⟩ [1] ⟨2, ![g, n]⟩
  unit : Shape.ShapeCasts ⟨2, ![g, n]⟩ ⟨3, ![g, 1, n]⟩
  bc : Shape.Broadcasts ⟨3, ![g, 1, n]⟩ ⟨3, ![g, 32, n]⟩
  join : Shape.ShapeCasts ⟨3, ![g, 32, n]⟩ ⟨2, ![r, n]⟩
  expo : ExpoOK g n

/-- The scale codes of `r` rows in groups of 32. -/
def qCode (r g n : ℕ) (h : QOK r g n) (x : FVec F ⟨3, ![g, 32, n]⟩ .f32) : IVec ⟨2, ![g, n]⟩ 32 :=
  codeOf g n h.expo (multiReduction .maximumf [1] ⟨2, ![g, n]⟩ (absf x) 0xFF800000#32 h.red (.inl rfl) rfl)

/-- The four-bit codes. -/
def qC (r g n : ℕ) (h : QOK r g n) (x : FVec F ⟨3, ![g, 32, n]⟩ .f32) : FVec F ⟨2, ![r, n]⟩ .bf16 :=
  fp4 ⟨2, ![r, n]⟩ (shapeCast ⟨2, ![r, n]⟩ (mulf x (broadcastTo ⟨3, ![g, 32, n]⟩
    (shapeCast ⟨3, ![g, 1, n]⟩ (invOf ⟨2, ![g, n]⟩ (qCode r g n h x)) h.unit) h.bc)) h.join)

/-- Code times scale: the value the codes stand for. -/
def qW (r g n : ℕ) (h : QOK r g n) (x : FVec F ⟨3, ![g, 32, n]⟩ .f32) : FVec F ⟨2, ![r, n]⟩ .f32 :=
  shapeCast ⟨2, ![r, n]⟩ (mulf (shapeCast ⟨3, ![g, 32, n]⟩ (extf .f32 (qC r g n h x) bitsLt_bf16_f32) h.split)
    (broadcastTo ⟨3, ![g, 32, n]⟩ (shapeCast ⟨3, ![g, 1, n]⟩ (scOf ⟨2, ![g, n]⟩ (qCode r g n h x)) h.unit) h.bc)) h.join

theorem okQ : QOK 128 4 128 :=
  ⟨shapeCasts_S128x128_S4x32x128, reduces_S4x32x128_S4x128, shapeCasts_S4x128_S4x1x128, broadcasts_S4x1x128_S4x32x128,
    shapeCasts_S4x32x128_S128x128,
    ⟨shapeCasts_S4x128_S1x4x128, broadcasts_S1x4x128_S255x4x128, iota_S255x4x128_d0_w32, reduces_S255x4x128_S4x128⟩⟩

theorem okK : QOK 128 4 896 :=
  ⟨shapeCasts_S128x896_S4x32x896, reduces_S4x32x896_S4x896, shapeCasts_S4x896_S4x1x896, broadcasts_S4x1x896_S4x32x896,
    shapeCasts_S4x32x896_S128x896,
    ⟨shapeCasts_S4x896_S1x4x896, broadcasts_S1x4x896_S255x4x896, iota_S255x4x896_d0_w32, reduces_S255x4x896_S4x896⟩⟩

theorem okV : QOK 896 28 128 :=
  ⟨shapeCasts_S896x128_S28x32x128, reduces_S28x32x128_S28x128, shapeCasts_S28x128_S28x1x128,
    broadcasts_S28x1x128_S28x32x128, shapeCasts_S28x32x128_S896x128,
    ⟨shapeCasts_S28x128_S1x28x128, broadcasts_S1x28x128_S255x28x128, iota_S255x28x128_d0_w32,
      reduces_S255x28x128_S28x128⟩⟩

theorem okP : ExpoOK 8 256 :=
  ⟨shapeCasts_S8x256_S1x8x256, broadcasts_S1x8x256_S255x8x256, iota_S255x8x256_d0_w32, reduces_S255x8x256_S8x256⟩

/-! ## Keys, values and queries quantised -/

/-- The centred keys, transposed and grouped. -/
def kG (K : Vec F S1x1x896x128 .bf16) : FVec F S4x32x896 .f32 :=
  have kf : FVec F S896x128 .f32 := extf .f32 (shapeCast S896x128 K shapeCasts_S1x1x896x128_S896x128) bitsLt_bf16_f32
  shapeCast S4x32x896 (transpose S128x896 [1, 0] (subf kf (broadcastTo S896x128
    (mulf (shapeCast S1x128 (multiReduction .add [0] S128 kf 0x00000000#32 reduces_S896x128_S128 (.inl rfl) rfl)
      shapeCasts_S128_S1x128) (broadcast S1x128 (Named.named κ "inv_seq" 0x3A924925#32)))
    broadcasts_S1x128_S896x128)) transposes_S896x128_p1_0_S128x896) shapeCasts_S128x896_S4x32x896

/-- The values, grouped. -/
def vG (V : Vec F S1x1x896x128 .bf16) : FVec F S28x32x128 .f32 :=
  shapeCast S28x32x128 (extf .f32 (shapeCast S896x128 V shapeCasts_S1x1x896x128_S896x128) bitsLt_bf16_f32)
    shapeCasts_S896x128_S28x32x128

/-- A query block of one head, transposed and grouped. -/
def qG (Q : Vec F S1x1x128x128 .bf16) : FVec F S4x32x128 .f32 :=
  shapeCast S4x32x128 (transpose S128x128 [1, 0]
    (extf .f32 (shapeCast S128x128 Q shapeCasts_S1x1x128x128_S128x128) bitsLt_bf16_f32)
    transposes_S128x128_p1_0_S128x128) shapeCasts_S128x128_S4x32x128

/-- The stored key codes. -/
def kCodes (K : Vec F S1x1x896x128 .bf16) : FVec F S1x1x896x128 .fp8e4m3 :=
  shapeCast S1x1x896x128 (truncf .fp8e4m3 (transpose S896x128 [1, 0] (qC 128 4 896 okK (kG K))
    transposes_S128x896_p1_0_S896x128) bitsLt_fp8e4m3_bf16) shapeCasts_S896x128_S1x1x896x128

/-- The stored key scales. -/
def kScales (K : Vec F S1x1x896x128 .bf16) : IVec S1x1x4x896 8 :=
  shapeCast S1x1x4x896 (trunci 8 (qCode 128 4 896 okK (kG K)) natLt_8_32) shapeCasts_S4x896_S1x1x4x896

/-- The keys the scores are formed with. -/
def kW (K : Vec F S1x1x896x128 .bf16) : FVec F S896x128 .f32 :=
  shapeCast S896x128 (extf .f32 (transpose S896x128 [1, 0] (truncf .bf16 (qW 128 4 896 okK (kG K)) bitsLt_bf16_f32)
    transposes_S128x896_p1_0_S896x128) bitsLt_bf16_f32) shapeCasts_S896x128_S896x128

/-- The stored value codes. -/
def vCodes (V : Vec F S1x1x896x128 .bf16) : FVec F S1x1x896x128 .fp8e4m3 :=
  shapeCast S1x1x896x128 (truncf .fp8e4m3 (qC 896 28 128 okV (vG V)) bitsLt_fp8e4m3_bf16)
    shapeCasts_S896x128_S1x1x896x128

/-- The stored value scales. -/
def vScales (V : Vec F S1x1x896x128 .bf16) : IVec S1x1x28x128 8 :=
  shapeCast S1x1x28x128 (trunci 8 (qCode 896 28 128 okV (vG V)) natLt_8_32) shapeCasts_S28x128_S1x1x28x128

/-- The values the outputs are formed with. -/
def vW (V : Vec F S1x1x896x128 .bf16) : FVec F S896x128 .f32 :=
  shapeCast S896x128 (qW 896 28 128 okV (vG V)) shapeCasts_S896x128_S896x128

/-- The stored query codes of one block. -/
def qCodes (Q : Vec F S1x1x128x128 .bf16) : FVec F S1x1x128x128 .fp8e4m3 :=
  shapeCast S1x1x128x128 (truncf .fp8e4m3 (transpose S128x128 [1, 0] (qC 128 4 128 okQ (qG Q))
    transposes_S128x128_p1_0_S128x128) bitsLt_fp8e4m3_bf16) shapeCasts_S128x128_S1x1x128x128

/-- The stored query scales of one block. -/
def qScales (Q : Vec F S1x1x128x128 .bf16) : IVec S1x1x4x128 8 :=
  shapeCast S1x1x4x128 (trunci 8 (qCode 128 4 128 okQ (qG Q)) natLt_8_32) shapeCasts_S4x128_S1x1x4x128

/-- The query block the scores are formed with. -/
def qWt (Q : Vec F S1x1x128x128 .bf16) : FVec F S128x128 .bf16 :=
  truncf .bf16 (qW 128 4 128 okQ (qG Q)) bitsLt_bf16_f32

/-! ## The permuted copies in scratch -/

/-- `0, …, 31`. -/
abbrev js32 : List (Fin 32) :=
  [0, 1, 2, 3, 4, 5, 6, 7, 8, 9, 10, 11, 12, 13, 14, 15, 16, 17, 18, 19, 20, 21, 22, 23, 24, 25, 26, 27, 28, 29, 30, 31]

/-- `0, …, 15`. -/
abbrev js16 : List (Fin 16) := [0, 1, 2, 3, 4, 5, 6, 7, 8, 9, 10, 11, 12, 13, 14, 15]

theorem inb32 (c : Fin 3) (j : Fin 32) : ∀ a, S8x128.size a = 0 ∨ (![256 * c.val + j.val, 0] : Fin 2 → ℕ) a
    + (![32, 1] : Fin 2 → ℕ) a * (S8x128.size a - 1) < S896x128.size a := by
  intro a; have := c.isLt; have := j.isLt
  right; fin_cases a
  · show 256 * c.val + j.val + 32 * (8 - 1) < 896; omega
  · show 0 + 1 * (128 - 1) < 128; omega

theorem inb16 (c : Fin 4) (j : Fin 16) : ∀ a, S8x128.size a = 0 ∨ (![256 * c.val + j.val, 0] : Fin 2 → ℕ) a
    + (![16, 1] : Fin 2 → ℕ) a * (S8x128.size a - 1) < S896x128.size a := by
  intro a; have := c.isLt; have := j.isLt
  right; fin_cases a
  · show 256 * c.val + j.val + 16 * (8 - 1) < 896; omega
  · show 0 + 1 * (128 - 1) < 128; omega

/-- Rows `base + j, base + j + 32, …` of a 256-row chunk. -/
def rect32 (c : Fin 3) (j : Fin 32) : LoadRect S896x128 := ⟨![256 * c.val + j.val, 0], S8x128.size, ![32, 1], inb32 c j⟩

/-- Rows `base + j, base + j + 16, …` of a 128-row chunk. -/
def rect16 (c : Fin 4) (j : Fin 16) : LoadRect S896x128 := ⟨![256 * c.val + j.val, 0], S8x128.size, ![16, 1], inb16 c j⟩

/-- A 256-row chunk of the buffer, its rows permuted. -/
def perm256 (arg12 : Memref sig .tc .vmem S896x128 .f32) (L : List (View.Piece (Elt F) S896x128 .f32)) (c : Fin 3) :
    FVec F S256x128 .f32 :=
  concatenate S256x128 0 (js32.map fun j => (⟨S8x128, View.readCov arg12.view L (rect32 c j)⟩ : (s : Shape) × Vec F s .f32))
    (by exact concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0)

/-- A 128-row chunk of the buffer, its rows permuted. -/
def perm128 (arg12 : Memref sig .tc .vmem S896x128 .f32) (L : List (View.Piece (Elt F) S896x128 .f32)) (c : Fin 4) :
    FVec F S128x128 .f32 :=
  concatenate S128x128 0 (js16.map fun j => (⟨S8x128, View.readCov arg12.view L (rect16 c j)⟩ : (s : Shape) × Vec F s .f32))
    (by exact concatenates_S8x128_S8x128_S8x128_S8x128_S8x128_S8x128_S8x128_S8x128_S8x128_S8x128_S8x128_S8x128_S8x128_S8x128_S8x128_S8x128_S128x128_d0)

/-- The buffer after the keys were stored in it. -/
def tmpK (K : Vec F S1x1x896x128 .bf16) : List (View.Piece (Elt F) S896x128 .f32) :=
  [⟨Rect.unit ![0, 0] S896x128.size inb_S896x128_S896x128_0_0, kW K⟩]

/-- … and after the values were. -/
def tmpV (K V : Vec F S1x1x896x128 .bf16) : List (View.Piece (Elt F) S896x128 .f32) :=
  ⟨Rect.unit ![0, 0] S896x128.size inb_S896x128_S896x128_0_0, vW V⟩ :: tmpK K

theorem inbK256 (c : Fin 3) : ∀ a, (![256 * c.val, 0] : Fin 2 → ℕ) a + S256x128.size a ≤ S768x128.size a := by
  intro a; have := c.isLt
  fin_cases a
  · show 256 * c.val + 256 ≤ 768; omega
  · show 0 + 128 ≤ 128; omega

theorem inbK128 (c : Fin 4) : ∀ a, (![128 * c.val, 0] : Fin 2 → ℕ) a + S128x128.size a ≤ S512x128.size a := by
  intro a; have := c.isLt
  fin_cases a
  · show 128 * c.val + 128 ≤ 512; omega
  · show 0 + 128 ≤ 128; omega

theorem inbV256 (c : Fin 3) : ∀ a, (![0, 256 * c.val] : Fin 2 → ℕ) a + S128x256.size a ≤ S128x768.size a := by
  intro a; have := c.isLt
  fin_cases a
  · show 0 + 128 ≤ 128; omega
  · show 256 * c.val + 256 ≤ 768; omega

theorem inbV128 (c : Fin 4) : ∀ a, (![0, 128 * c.val] : Fin 2 → ℕ) a + S128x128.size a ≤ S128x512.size a := by
  intro a; have := c.isLt
  fin_cases a
  · show 0 + 128 ≤ 128; omega
  · show 128 * c.val + 128 ≤ 512; omega

def rectK256 (c : Fin 3) : Rect S768x128 := Rect.unit (s := S768x128) ![256 * c.val, 0] S256x128.size (inbK256 c)
def rectK128 (c : Fin 4) : Rect S512x128 := Rect.unit (s := S512x128) ![128 * c.val, 0] S128x128.size (inbK128 c)
def rectV256 (c : Fin 3) : Rect S128x768 := Rect.unit (s := S128x768) ![0, 256 * c.val] S128x256.size (inbV256 c)
def rectV128 (c : Fin 4) : Rect S128x512 := Rect.unit (s := S128x512) ![0, 128 * c.val] S128x128.size (inbV128 c)

section Scratch

variable (arg12 : Memref sig .tc .vmem S896x128 .f32) (arg13 : Memref sig .tc .vmem S768x128 .bf16)
  (arg14 : Memref sig .tc .vmem S512x128 .bf16) (arg15 : Memref sig .tc .vmem S128x768 .bf16)
  (arg16 : Memref sig .tc .vmem S128x512 .bf16) (arg17 : Memref sig .tc .vmem S2x896x256 .f32)
  (Q : Fin 4 → Fin 7 → Vec F S1x1x128x128 .bf16) (K V : Vec F S1x1x896x128 .bf16)

/-- The permuted key chunks of 256 rows. -/
def hs1 : List (View.Piece (Elt F) S768x128 .bf16) :=
  [2, 1, 0].map fun c : Fin 3 => ⟨rectK256 c, shapeCast S256x128 (truncf .bf16 (perm256 arg12 (tmpK K) c) bitsLt_bf16_f32)
    shapeCasts_S256x128_S256x128⟩

/-- The permuted key chunks of 128 rows. -/
def hs2 : List (View.Piece (Elt F) S512x128 .bf16) :=
  [3, 2, 1, 0].map fun c : Fin 4 => ⟨rectK128 c, shapeCast S128x128 (truncf .bf16 (perm128 arg12 (tmpK K) c) bitsLt_bf16_f32)
    shapeCasts_S128x128_S128x128⟩

/-- The permuted value chunks of 256 rows, transposed. -/
def hs3 : List (View.Piece (Elt F) S128x768 .bf16) :=
  [2, 1, 0].map fun c : Fin 3 => ⟨rectV256 c, shapeCast S128x256 (truncf .bf16 (transpose S128x256 [1, 0]
    (perm256 arg12 (tmpV K V) c) transposes_S256x128_p1_0_S128x256) bitsLt_bf16_f32) shapeCasts_S128x256_S128x256⟩

/-- The permuted value chunks of 128 rows, transposed. -/
def hs4 : List (View.Piece (Elt F) S128x512 .bf16) :=
  [3, 2, 1, 0].map fun c : Fin 4 => ⟨rectV128 c, shapeCast S128x128 (truncf .bf16 (transpose S128x128 [1, 0]
    (perm128 arg12 (tmpV K V) c) transposes_S128x128_p1_0_S128x128) bitsLt_bf16_f32) shapeCasts_S128x128_S128x128⟩

/-! ## Scores of one chunk -/

/-- Row numbers of an `8 × 256` tile. -/
def sub : IVec S8x256 32 := iota .tc S8x256 32 [0] iota_S8x256_d0_w32

/-- A nonnegative integer vector modulo `n`, as the program writes it. -/
def modI (x : IVec S8x256 32) (n : BitVec 32) : IVec S8x256 32 :=
  have r : IVec S8x256 32 := remsi x (broadcast S8x256 n)
  select (andi (xori (cmpi .slt r (broadcast S8x256 0#32)) (broadcastTo S8x256 (broadcast S8x256 0#1) broadcasts_S8x256_S8x256))
    (cmpi .ne r (broadcast S8x256 0#32))) (addi r (broadcast S8x256 n)) r

/-- The query's position in its block. -/
def qpos : IVec S8x256 32 := modI (iota .tc S8x256 32 [1] iota_S8x256_d1_w32) 128#32

/-- The four-bit queries of a pair of heads side by side. -/
def qw (i : Fin 7) (p : Fin 2) : FVec F S128x256 .bf16 :=
  concatenate S128x256 1 [⟨S128x128, qWt (Q ⟨2 * p.val, by omega⟩ i)⟩, ⟨S128x128, qWt (Q ⟨2 * p.val + 1, by omega⟩ i)⟩]
    concatenates_S128x128_S128x128_S128x256_d1

/-- Chunks of keys: 256 rows, or 128. -/
inductive Chunk where
  | big (c : Fin 3)
  | small (c : Fin 4)

/-- The key chunks of a query block. -/
def chunks : Fin 7 → List Chunk :=
  ![[.small 0], [.big 0], [.big 0, .small 1], [.big 0, .big 1], [.big 0, .big 1, .small 2],
    [.big 0, .big 1, .big 2], [.big 0, .big 1, .big 2, .small 3]]

/-- Is this 256-row chunk the one that meets the diagonal? -/
def diag (i : Fin 7) (c : Fin 3) : Bool := Nat.ble (128 * i.val) (256 * c.val + 128)

/-- Raw scores of a 256-row chunk. -/
def raw256 (i : Fin 7) (p : Fin 2) (c : Fin 3) : FVec F S32x8x256 .f32 :=
  shapeCast S32x8x256 (matmul dot_S256x128_S128x256_S256x256_1_0_0_1_n_n none
    (View.readCov arg13.view (hs1 arg12 K) (rectK256 c).toLoadRect) (qw Q i p) (constant S256x256 .f32 0x00000000#32))
    shapeCasts_S256x256_S32x8x256

/-- Scores of a 256-row chunk, the keys after the query masked where the chunk meets the diagonal. -/
def s256 (i : Fin 7) (p : Fin 2) (c : Fin 3) : FVec F S32x8x256 .f32 :=
  bif diag i c then
    select (cmpi .sle
      (addi (broadcastTo S32x8x256 (shapeCast S1x8x256 (addi (broadcast S8x256 4294967168#32) (muli (broadcast S8x256 32#32) sub))
        shapeCasts_S8x256_S1x8x256) broadcasts_S1x8x256_S32x8x256) (iota .tc S32x8x256 32 [0] iota_S32x8x256_d0_w32))
      (broadcastTo S32x8x256 (shapeCast S1x8x256 qpos shapeCasts_S8x256_S1x8x256) broadcasts_S1x8x256_S32x8x256))
      (raw256 arg12 arg13 Q K i p c) (broadcast S32x8x256 (Scalar.ofBits .f32 0xFF800000#32))
  else raw256 arg12 arg13 Q K i p c

/-- Scores of a 128-row chunk, the keys after the query masked. -/
def s128 (i : Fin 7) (p : Fin 2) (c : Fin 4) : FVec F S16x8x256 .f32 :=
  select (cmpi .sle
      (addi (broadcastTo S16x8x256 (shapeCast S1x8x256 (addi (broadcast S8x256 0#32) (muli (broadcast S8x256 16#32) sub))
        shapeCasts_S8x256_S1x8x256) broadcasts_S1x8x256_S16x8x256) (iota .tc S16x8x256 32 [0] iota_S16x8x256_d0_w32))
      (broadcastTo S16x8x256 (shapeCast S1x8x256 qpos shapeCasts_S8x256_S1x8x256) broadcasts_S1x8x256_S16x8x256))
    (shapeCast S16x8x256 (matmul dot_S128x128_S128x256_S128x256_1_0_0_1_n_n none
      (View.readCov arg14.view (hs2 arg12 K) (rectK128 c).toLoadRect) (qw Q i p) (constant S128x256 .f32 0x00000000#32))
      shapeCasts_S128x256_S16x8x256)
    (broadcast S16x8x256 (Scalar.ofBits .f32 0xFF800000#32))

theorem inbS256 (p : Fin 2) (c : Fin 3) :
    ∀ a, (![p.val, 256 * c.val, 0] : Fin 3 → ℕ) a + S1x256x256.size a ≤ S2x896x256.size a := by
  intro a; have := c.isLt; have := p.isLt
  fin_cases a
  · show p.val + 1 ≤ 2; omega
  · show 256 * c.val + 256 ≤ 896; omega
  · show 0 + 256 ≤ 256; omega

theorem inbS128 (p : Fin 2) (c : Fin 4) :
    ∀ a, (![p.val, 256 * c.val, 0] : Fin 3 → ℕ) a + S1x128x256.size a ≤ S2x896x256.size a := by
  intro a; have := c.isLt; have := p.isLt
  fin_cases a
  · show p.val + 1 ≤ 2; omega
  · show 256 * c.val + 128 ≤ 896; omega
  · show 0 + 256 ≤ 256; omega

/-- The stored scores of one chunk. -/
def sPiece (i : Fin 7) (p : Fin 2) : Chunk → View.Piece (Elt F) S2x896x256 .f32
  | .big c => ⟨Rect.unit (s := S2x896x256) ![p.val, 256 * c.val, 0] S1x256x256.size (inbS256 p c),
      shapeCast S1x256x256 (shapeCast S256x256 (s256 arg12 arg13 Q K i p c) shapeCasts_S32x8x256_S256x256)
        shapeCasts_S256x256_S1x256x256⟩
  | .small c => ⟨Rect.unit (s := S2x896x256) ![p.val, 256 * c.val, 0] S1x128x256.size (inbS128 p c),
      shapeCast S1x128x256 (shapeCast S128x256 (s128 arg12 arg14 Q K i p c) shapeCasts_S16x8x256_S128x256)
        shapeCasts_S128x256_S1x128x256⟩

/-- All scores stored by the first `u` units, last first. -/
def sList : ℕ → List (View.Piece (Elt F) S2x896x256 .f32)
  | 0 => []
  | u + 1 => ((chunks ⟨u / 2 % 7, Nat.mod_lt _ (by decide)⟩).map
      (sPiece arg12 arg13 arg14 Q K ⟨u / 2 % 7, Nat.mod_lt _ (by decide)⟩ ⟨u % 2, Nat.mod_lt _ (by decide)⟩)).reverse ++ sList u

/-- The largest score of each sublane of a chunk. -/
def gm0 (i : Fin 7) (p : Fin 2) : Chunk → FVec F S8x256 .f32
  | .big c => multiReduction .maximumf [0] S8x256 (s256 arg12 arg13 Q K i p c) 0xFF800000#32 reduces_S32x8x256_S8x256 (.inl rfl) rfl
  | .small c => multiReduction .maximumf [0] S8x256 (s128 arg12 arg14 Q K i p c) 0xFF800000#32 reduces_S16x8x256_S8x256 (.inl rfl) rfl

end Scratch

/-! ## From the scores to the outputs -/

/-- A tile rotated by `n` rows. -/
abbrev roll (n : BitVec 32) (x : FVec F S8x256 .f32) : FVec F S8x256 .f32 := dynamicRotate 0 n none x rotates_S8x256_d0

/-- The other sublane of each pair. -/
def swap2 (g : FVec F S8x256 .f32) : FVec F S8x256 .f32 :=
  select (cmpi .eq (modI sub 2#32) (broadcast S8x256 0#32)) (roll 7#32 g) (roll 1#32 g)

/-- The other pair of each four sublanes. -/
def swap4 (g : FVec F S8x256 .f32) : FVec F S8x256 .f32 :=
  select (cmpi .slt (modI sub 4#32) (broadcast S8x256 2#32)) (roll 6#32 g) (roll 2#32 g)

/-- The largest score of each group of 32 keys. -/
def gmax (g : FVec F S8x256 .f32) : Chunk → FVec F S8x256 .f32
  | .big _ => g
  | .small _ => maximumf g (swap2 g)

/-- The largest score of each block of 64 keys. -/
def bmax (g : FVec F S8x256 .f32) : Chunk → FVec F S8x256 .f32
  | .big _ => maximumf g (swap2 g)
  | .small _ => maximumf (maximumf g (swap2 g)) (swap4 (maximumf g (swap2 g)))

/-- The left-to-right combination of a list, starting from its first entry. -/
def fold1 {α : Type*} (f : α → α → α) (z : α) : List α → α
  | [] => z
  | x :: xs => xs.foldl f x

/-- The row maximum, in every sublane. -/
def rowMax (bs : List (FVec F S8x256 .f32)) : FVec F S8x256 .f32 :=
  have a := fold1 maximumf (fc S8x256 0x00000000#32) bs
  have b := maximumf a (roll 4#32 a)
  have c := maximumf b (roll 2#32 b)
  maximumf c (roll 1#32 c)

/-- The block maximum, the row maximum where the block is masked. -/
def bm0 (bm m : FVec F S8x256 .f32) : FVec F S8x256 .f32 :=
  select (cmpf .oeq bm (fc S8x256 0xFF800000#32)) m bm

/-- The constant `c`. -/
abbrev cC (S : Shape) : FVec F S .f32 := broadcast S (Named.named κ "c" 0x3E0293EE#32)

/-- The code of the weights' scale. -/
def pCode (g b : FVec F S8x256 .f32) : IVec S8x256 32 :=
  codeOf 8 256 okP (mulf (fc S8x256 0x40C00000#32) (exp2 (mulf (subf g b) (cC S8x256))))

/-- The shift of the scores. -/
def tOf (g b : FVec F S8x256 .f32) : FVec F S8x256 .f32 :=
  subf b (mulf (subf (broadcast S8x256 (Named.named κ "log2_6" 0x40257007#32))
    (sitofp .f32 (subi (pCode g b) (broadcast S8x256 127#32)))) (broadcast S8x256 (Named.named κ "inv_c" 0x40FAF233#32)))

/-- The factor of a group. -/
def fOf (g b m : FVec F S8x256 .f32) : FVec F S8x256 .f32 :=
  mulf (mulf (exp2 (mulf (subf b m) (cC S8x256))) (broadcast S8x256 (Named.named κ "sixth" 0x3E2AAAAB#32)))
    (scOf S8x256 (pCode g b))

/-- Rounding to a few bits. -/
def round6 (x : FVec F S8x256 .f32) : FVec F S8x256 .f32 :=
  have e : IVec S8x256 32 := expo 8 256 okP (absf x)
  mulf (mulf (round (mulf (mulf x (invOf S8x256 e)) (fc S8x256 0x42000000#32))) (fc S8x256 0x3D000000#32))
    (scOf S8x256 e)

/-- A tile written twice. -/
def twice (x : FVec F S8x256 .f32) : FVec F S16x256 .bf16 :=
  truncf .bf16 (concatenate S16x256 0 [⟨S8x256, x⟩, ⟨S8x256, x⟩] concatenates_S8x256_S8x256_S16x256_d0) bitsLt_bf16_f32

/-- The factor in three parts. -/
def parts (f : FVec F S8x256 .f32) : List (FVec F S16x256 .bf16) :=
  have h1 := round6 f
  have r1 := subf f h1
  have h2 := round6 r1
  [twice h1, twice h2, twice (subf r1 h2)]

/-- Sixty-four rows of weights. -/
def yOf (s : Vec F S1x64x256 .f32) (t : FVec F S8x256 .f32) : FVec F S8x8x256 .f32 :=
  exp2 (mulf (subf (shapeCast S8x8x256 (shapeCast S64x256 s shapeCasts_S1x64x256_S64x256) shapeCasts_S64x256_S8x8x256)
    (broadcastTo S8x8x256 (shapeCast S1x8x256 t shapeCasts_S8x256_S1x8x256) broadcasts_S1x8x256_S8x8x256)) (cC S8x8x256))

/-- Their sums by sublane. -/
def ySum (y : FVec F S8x8x256 .f32) : FVec F S8x256 .f32 :=
  multiReduction .add [0] S8x256 y 0x00000000#32 reduces_S8x8x256_S8x256 (.inl rfl) rfl

/-- Their four-bit codes. -/
def yC (y : FVec F S8x8x256 .f32) : FVec F S64x256 .bf16 := fp4 S64x256 (shapeCast S64x256 y shapeCasts_S8x8x256_S64x256)

theorem inbS64 (p : Fin 2) (r : Fin 14) :
    ∀ a, (![p.val, 64 * r.val, 0] : Fin 3 → ℕ) a + S1x64x256.size a ≤ S2x896x256.size a := by
  intro a; have := r.isLt; have := p.isLt
  fin_cases a
  · show p.val + 1 ≤ 2; omega
  · show 64 * r.val + 64 ≤ 896; omega
  · show 0 + 256 ≤ 256; omega

section Out

variable (arg12 : Memref sig .tc .vmem S896x128 .f32) (arg13 : Memref sig .tc .vmem S768x128 .bf16)
  (arg14 : Memref sig .tc .vmem S512x128 .bf16) (arg15 : Memref sig .tc .vmem S128x768 .bf16)
  (arg16 : Memref sig .tc .vmem S128x512 .bf16) (arg17 : Memref sig .tc .vmem S2x896x256 .f32)
  (Q : Fin 4 → Fin 7 → Vec F S1x1x128x128 .bf16) (K V : Vec F S1x1x896x128 .bf16)

/-- Sixty-four stored score rows, as a unit reads them back. -/
def sRead (i : Fin 7) (p : Fin 2) (r : Fin 14) : Vec F S1x64x256 .f32 :=
  View.readCov arg17.view (sList arg12 arg13 arg14 Q K (min (2 * i.val + p.val + 2) 14))
    (Rect.unit (s := S2x896x256) ![p.val, 64 * r.val, 0] S1x64x256.size (inbS64 p r)).toLoadRect

/-- The block maxima of a unit's chunks. -/
def bms (i : Fin 7) (p : Fin 2) (k : Chunk) : FVec F S8x256 .f32 := bmax (gm0 arg12 arg13 arg14 Q K i p k) k

/-- The row maximum of a unit. -/
def mOf (i : Fin 7) (p : Fin 2) : FVec F S8x256 .f32 := rowMax ((chunks i).map (bms arg12 arg13 arg14 Q K i p))

/-- Block maximum without masked blocks. -/
def bOf (i : Fin 7) (p : Fin 2) (k : Chunk) : FVec F S8x256 .f32 :=
  bm0 (bms arg12 arg13 arg14 Q K i p k) (mOf arg12 arg13 arg14 Q K i p)

/-- The shift of a chunk. -/
def tC (i : Fin 7) (p : Fin 2) (k : Chunk) : FVec F S8x256 .f32 :=
  tOf (gmax (gm0 arg12 arg13 arg14 Q K i p k) k) (bOf arg12 arg13 arg14 Q K i p k)

/-- The factor of a chunk. -/
def fC (i : Fin 7) (p : Fin 2) (k : Chunk) : FVec F S8x256 .f32 :=
  fOf (gmax (gm0 arg12 arg13 arg14 Q K i p k) k) (bOf arg12 arg13 arg14 Q K i p k) (mOf arg12 arg13 arg14 Q K i p)

/-- Sixty-four rows of weights of a chunk. -/
def yC64 (i : Fin 7) (p : Fin 2) (k : Chunk) (r : Fin 14) : FVec F S8x8x256 .f32 :=
  yOf (sRead arg12 arg13 arg14 arg17 Q K i p r) (tC arg12 arg13 arg14 Q K i p k)

/-- The sum of a chunk's weights by sublane. -/
def ysC (i : Fin 7) (p : Fin 2) (k : Chunk) : FVec F S8x256 .f32 :=
  match k with
  | .big c => addf (addf (addf (addf (fc S8x256 0x00000000#32)
      (ySum (yC64 arg12 arg13 arg14 arg17 Q K i p (.big c) ⟨4 * c.val, by omega⟩)))
      (ySum (yC64 arg12 arg13 arg14 arg17 Q K i p (.big c) ⟨4 * c.val + 1, by omega⟩)))
      (ySum (yC64 arg12 arg13 arg14 arg17 Q K i p (.big c) ⟨4 * c.val + 2, by omega⟩)))
      (ySum (yC64 arg12 arg13 arg14 arg17 Q K i p (.big c) ⟨4 * c.val + 3, by omega⟩))
  | .small c => addf (addf (fc S8x256 0x00000000#32)
      (ySum (yC64 arg12 arg13 arg14 arg17 Q K i p (.small c) ⟨4 * c.val, by omega⟩)))
      (ySum (yC64 arg12 arg13 arg14 arg17 Q K i p (.small c) ⟨4 * c.val + 1, by omega⟩))

/-- A 256-row chunk's four-bit weights. -/
def c256 (i : Fin 7) (p : Fin 2) (c : Fin 3) : FVec F S16x16x256 .bf16 :=
  shapeCast S16x16x256 (concatenate S256x256 0
    [⟨S64x256, yC (yC64 arg12 arg13 arg14 arg17 Q K i p (.big c) ⟨4 * c.val, by omega⟩)⟩,
     ⟨S64x256, yC (yC64 arg12 arg13 arg14 arg17 Q K i p (.big c) ⟨4 * c.val + 1, by omega⟩)⟩,
     ⟨S64x256, yC (yC64 arg12 arg13 arg14 arg17 Q K i p (.big c) ⟨4 * c.val + 2, by omega⟩)⟩,
     ⟨S64x256, yC (yC64 arg12 arg13 arg14 arg17 Q K i p (.big c) ⟨4 * c.val + 3, by omega⟩)⟩]
    concatenates_S64x256_S64x256_S64x256_S64x256_S256x256_d0) shapeCasts_S256x256_S16x16x256

/-- A 128-row chunk's four-bit weights. -/
def c128 (i : Fin 7) (p : Fin 2) (c : Fin 4) : FVec F S8x16x256 .bf16 :=
  shapeCast S8x16x256 (concatenate S128x256 0
    [⟨S64x256, yC (yC64 arg12 arg13 arg14 arg17 Q K i p (.small c) ⟨4 * c.val, by omega⟩)⟩,
     ⟨S64x256, yC (yC64 arg12 arg13 arg14 arg17 Q K i p (.small c) ⟨4 * c.val + 1, by omega⟩)⟩]
    concatenates_S64x256_S64x256_S128x256_d0) shapeCasts_S128x256_S8x16x256

/-- One product of values with weights times a part of the factor. -/
def dOf (i : Fin 7) (p : Fin 2) (k : Chunk) (h : FVec F S16x256 .bf16) : FVec F S128x256 .f32 :=
  match k with
  | .big c => matmul dot_S128x256_S256x256_S128x256_1_0_0_1_n_n none
      (View.readCov arg15.view (hs3 arg12 K V) (rectV256 c).toLoadRect)
      (shapeCast S256x256 (mulf (c256 arg12 arg13 arg14 arg17 Q K i p c)
        (broadcastTo S16x16x256 (shapeCast S1x16x256 h shapeCasts_S16x256_S1x16x256) broadcasts_S1x16x256_S16x16x256))
        shapeCasts_S16x16x256_S256x256) (constant S128x256 .f32 0x00000000#32)
  | .small c => matmul dot_S128x128_S128x256_S128x256_1_0_0_1_n_n none
      (View.readCov arg16.view (hs4 arg12 K V) (rectV128 c).toLoadRect)
      (shapeCast S128x256 (mulf (c128 arg12 arg13 arg14 arg17 Q K i p c)
        (broadcastTo S8x16x256 (shapeCast S1x16x256 h shapeCasts_S16x256_S1x16x256) broadcasts_S1x16x256_S8x16x256))
        shapeCasts_S8x16x256_S128x256) (constant S128x256 .f32 0x00000000#32)

/-- The sum of the products of a unit. -/
def accOf (i : Fin 7) (p : Fin 2) : FVec F S128x256 .f32 :=
  fold1 addf (fc S128x256 0x00000000#32) ((chunks i).flatMap fun k =>
    (parts (fC arg12 arg13 arg14 Q K i p k)).map (dOf arg12 arg13 arg14 arg15 arg16 arg17 Q K V i p k))

/-- The sum of the weights of a unit, by sublane. -/
def lPart (i : Fin 7) (p : Fin 2) : FVec F S8x256 .f32 :=
  (chunks i).foldl (fun l k => addf l (mulf (ysC arg12 arg13 arg14 arg17 Q K i p k) (fC arg12 arg13 arg14 Q K i p k)))
    (fc S8x256 0x00000000#32)

/-- … and over all sublanes. -/
def lOf (i : Fin 7) (p : Fin 2) : FVec F S8x256 .f32 :=
  have a := lPart arg12 arg13 arg14 arg17 Q K i p
  have b := addf a (roll 4#32 a)
  have c := addf b (roll 2#32 b)
  addf c (roll 1#32 c)

/-- The normalised outputs of a unit, transposed. -/
def oT (i : Fin 7) (p : Fin 2) : FVec F S128x256 .f32 :=
  shapeCast S128x256 (mulf (shapeCast S16x8x256 (accOf arg12 arg13 arg14 arg15 arg16 arg17 Q K V i p) shapeCasts_S128x256_S16x8x256)
    (broadcastTo S16x8x256 (shapeCast S1x8x256 (divf (fc S8x256 0x3F800000#32) (lOf arg12 arg13 arg14 arg17 Q K i p))
      shapeCasts_S8x256_S1x8x256) broadcasts_S1x8x256_S16x8x256)) shapeCasts_S16x8x256_S128x256

/-- What a unit stores for its first head. -/
def oOut0 (i : Fin 7) (p : Fin 2) : FVec F S1x1x128x128 .bf16 :=
  shapeCast S1x1x128x128 (transpose S128x128 [1, 0] (truncf .bf16 (extractStridedSlice S128x128 ![0, 0]
    (oT arg12 arg13 arg14 arg15 arg16 arg17 Q K V i p) slices_S128x256_o0_0_S128x128) bitsLt_bf16_f32)
    transposes_S128x128_p1_0_S128x128) shapeCasts_S128x128_S1x1x128x128

/-- … and for its second. -/
def oOut1 (i : Fin 7) (p : Fin 2) : FVec F S1x1x128x128 .bf16 :=
  shapeCast S1x1x128x128 (transpose S128x128 [1, 0] (truncf .bf16 (extractStridedSlice S128x128 ![0, 128]
    (oT arg12 arg13 arg14 arg15 arg16 arg17 Q K V i p) slices_S128x256_o0_128_S128x128) bitsLt_bf16_f32)
    transposes_S128x128_p1_0_S128x128) shapeCasts_S128x128_S1x1x128x128

theorem inbO (h : Fin 4) (i : Fin 7) :
    ∀ a, (![0, h.val, 128 * i.val, 0] : Fin 4 → ℕ) a + S1x1x128x128.size a ≤ S1x4x896x128.size a := by
  intro a; have := h.isLt; have := i.isLt
  fin_cases a
  · show 0 + 1 ≤ 1; omega
  · show h.val + 1 ≤ 4; omega
  · show 128 * i.val + 128 ≤ 896; omega
  · show 0 + 128 ≤ 128; omega

theorem inbOs (h : Fin 4) (i : Fin 7) :
    ∀ a, (![0, h.val, 0, 128 * i.val] : Fin 4 → ℕ) a + S1x1x4x128.size a ≤ S1x4x4x896.size a := by
  intro a; have := h.isLt; have := i.isLt
  fin_cases a
  · show 0 + 1 ≤ 1; omega
  · show h.val + 1 ≤ 4; omega
  · show 0 + 4 ≤ 4; omega
  · show 128 * i.val + 128 ≤ 896; omega

/-- The rows of one head and query block. -/
def rectO (h : Fin 4) (i : Fin 7) : Rect S1x4x896x128 :=
  Rect.unit (s := S1x4x896x128) ![0, h.val, 128 * i.val, 0] S1x1x128x128.size (inbO h i)

/-- Its scales. -/
def rectOs (h : Fin 4) (i : Fin 7) : Rect S1x4x4x896 :=
  Rect.unit (s := S1x4x4x896) ![0, h.val, 0, 128 * i.val] S1x1x4x128.size (inbOs h i)

/-- Query blocks, last first. -/
abbrev is7 : List (Fin 7) := [6, 5, 4, 3, 2, 1, 0]

/-- The output's stores. -/
def oList : List (View.Piece (Elt F) S1x4x896x128 .bf16) :=
  is7.flatMap fun i =>
    [⟨rectO 3 i, oOut1 arg12 arg13 arg14 arg15 arg16 arg17 Q K V i 1⟩, ⟨rectO 2 i, oOut0 arg12 arg13 arg14 arg15 arg16 arg17 Q K V i 1⟩,
     ⟨rectO 1 i, oOut1 arg12 arg13 arg14 arg15 arg16 arg17 Q K V i 0⟩, ⟨rectO 0 i, oOut0 arg12 arg13 arg14 arg15 arg16 arg17 Q K V i 0⟩]

/-- The query codes' stores. -/
def qcList : List (View.Piece (Elt F) S1x4x896x128 .fp8e4m3) :=
  is7.flatMap fun i => [3, 2, 1, 0].map fun h : Fin 4 => ⟨rectO h i, qCodes (Q h i)⟩

/-- The query scales' stores. -/
def qsList : List (View.Piece (Elt F) S1x4x4x896 .i8) :=
  is7.flatMap fun i => [3, 2, 1, 0].map fun h : Fin 4 => ⟨rectOs h i, qScales (Q h i)⟩

end Out

end Cert.Body
-- ==== Proof.Scalars.lean ====
/-
The quantiser on one number.

Both programs quantise in groups: a power-of-two scale is taken from the largest magnitude of a group, and each
number over the scale is rounded to a four-bit value.  The kernel finds the exponent by comparing with all powers
of two and adds integers; the reference takes the floor of a logarithm.  Here both are shown to be the same functions.
-/
module

public import Idealize.ShloMosaic.Lib.Pointwise
public import Mathlib.Analysis.SpecialFunctions.Pow.Real

@[expose] public section

noncomputable section

namespace Cert.Spec

open Idealize.ShloMosaic

/-! ## Constants -/

/-- A word read as a float, by its fields. -/
theorem ieee_word (w : BitVec 32) (ex fr : ℕ) (neg : Bool) (h1 : (w.extractLsb' 31 1 == 1#1) = neg)
    (h2 : (w.extractLsb' 23 8).toNat = ex) (h3 : (w.extractLsb' 0 23).toNat = fr) (he : ex ≠ 255) (he0 : ex ≠ 0) :
    Ideal.ofBits .f32 w
      = (((if neg then (-1 : ℝ) else 1) * ((8388608 + fr : ℕ) : ℝ) * (2 : ℝ) ^ ((ex : ℤ) - 150) : ℝ) : EReal) := by
  simp only [Ideal.ofBits, Ideal.ieee, h1, h2, h3, Nat.reduceAdd, Nat.reducePow, Nat.reduceSub, if_neg he, if_neg he0]
  simp only [EReal.coe_eq_coe_iff]
  congr 2
  omega

theorem ofBits_two : Ideal.ofBits .f32 0x40000000#32 = ((2 : ℝ) : EReal) := by
  rw [ieee_word _ 128 0 false (by decide) (by decide) (by decide) (by decide) (by decide)]
  norm_num

theorem ofBits_four : Ideal.ofBits .f32 0x40800000#32 = ((4 : ℝ) : EReal) := by
  rw [ieee_word _ 129 0 false (by decide) (by decide) (by decide) (by decide) (by decide)]
  norm_num

theorem ofBits_half : Ideal.ofBits .f32 0x3F000000#32 = ((1 / 2 : ℝ) : EReal) := by
  rw [ieee_word _ 126 0 false (by decide) (by decide) (by decide) (by decide) (by decide)]
  norm_num

theorem ofBits_six : Ideal.ofBits .f32 0x40C00000#32 = ((6 : ℝ) : EReal) := by
  rw [ieee_word _ 129 4194304 false (by decide) (by decide) (by decide) (by decide) (by decide)]
  norm_num

theorem ofBits_neg_six : Ideal.ofBits .f32 0xC0C00000#32 = ((-6 : ℝ) : EReal) := by
  rw [ieee_word _ 129 4194304 true (by decide) (by decide) (by decide) (by decide) (by decide)]
  norm_num

theorem ofBits_n127 : Ideal.ofBits .f32 0x42FE0000#32 = ((127 : ℝ) : EReal) := by
  rw [ieee_word _ 133 8257536 false (by decide) (by decide) (by decide) (by decide) (by decide)]
  norm_num

theorem ofBits_neg_127 : Ideal.ofBits .f32 0xC2FE0000#32 = ((-127 : ℝ) : EReal) := by
  rw [ieee_word _ 133 8257536 true (by decide) (by decide) (by decide) (by decide) (by decide)]
  norm_num

theorem ofBits_n896 : Ideal.ofBits .f32 0x44600000#32 = ((896 : ℝ) : EReal) := by
  rw [ieee_word _ 136 6291456 false (by decide) (by decide) (by decide) (by decide) (by decide)]
  norm_num

theorem ofBits_n128 : Ideal.ofBits .f32 0x43000000#32 = ((128 : ℝ) : EReal) := by
  rw [ieee_word _ 134 0 false (by decide) (by decide) (by decide) (by decide) (by decide)]
  norm_num

theorem ofBits_n32 : Ideal.ofBits .f32 0x42000000#32 = ((32 : ℝ) : EReal) := by
  rw [ieee_word _ 132 0 false (by decide) (by decide) (by decide) (by decide) (by decide)]
  norm_num

theorem ofBits_th32 : Ideal.ofBits .f32 0x3D000000#32 = ((1 / 32 : ℝ) : EReal) := by
  rw [ieee_word _ 122 0 false (by decide) (by decide) (by decide) (by decide) (by decide)]
  norm_num

theorem ofBits_one : Ideal.ofBits .f32 0x3F800000#32 = ((1 : ℝ) : EReal) := by
  rw [ieee_word _ 127 0 false (by decide) (by decide) (by decide) (by decide) (by decide)]
  norm_num

theorem ofBits_bot : Ideal.ofBits .f32 0xFF800000#32 = (⊥ : EReal) := by
  simp [Ideal.ofBits, Ideal.ieee]

/-! ## Powers of two as float words -/

/-- The float whose exponent field is `k` and whose fraction is zero. -/
def pw (k : ℕ) : ℝ := if k = 0 then 0 else (2 : ℝ) ^ ((k : ℤ) - 127)

theorem word_sign (w : BitVec 32) (k : ℕ) (hk : k ≤ 254) (hw : w.toNat = k * 8388608) : (w.extractLsb' 31 1 == 1#1) = false := by
  rw [beq_eq_false_iff_ne]; intro h
  have := congrArg BitVec.toNat h
  rw [BitVec.extractLsb'_toNat, Nat.shiftRight_eq_div_pow, hw] at this
  norm_num at this
  omega

theorem word_exp (w : BitVec 32) (k : ℕ) (hk : k ≤ 254) (hw : w.toNat = k * 8388608) : (w.extractLsb' 23 8).toNat = k := by
  rw [BitVec.extractLsb'_toNat, Nat.shiftRight_eq_div_pow, hw]
  norm_num
  omega

theorem word_frac (w : BitVec 32) (k : ℕ) (hw : w.toNat = k * 8388608) : (w.extractLsb' 0 23).toNat = 0 := by
  rw [BitVec.extractLsb'_toNat, Nat.shiftRight_eq_div_pow, hw]
  norm_num

theorem scale_23 (k : ℕ) : ((8388608 : ℕ) : ℝ) * (2 : ℝ) ^ ((k : ℤ) - 150) = (2 : ℝ) ^ ((k : ℤ) - 127) := by
  have e : ((8388608 : ℕ) : ℝ) = (2 : ℝ) ^ (23 : ℤ) := by norm_num
  rw [e, ← zpow_add₀ (by norm_num)]
  congr 1; ring

theorem ofBits_pw (w : BitVec 32) (k : ℕ) (hk : k ≤ 254) (hw : w.toNat = k * 8388608) :
    Ideal.ofBits .f32 w = ((pw k : ℝ) : EReal) := by
  unfold pw
  by_cases h : k = 0
  · subst h
    have : w = 0#32 := BitVec.eq_of_toNat_eq (by rw [hw]; rfl)
    rw [this, if_pos rfl]
    simp [Ideal.ofBits, Ideal.ieee]
  · rw [ieee_word w k 0 false (word_sign w k hk hw) (word_exp w k hk hw) (word_frac w k hw) (by omega) h, if_neg h,
      ← scale_23 k]
    simp only [Bool.false_eq_true, if_false, one_mul, Nat.add_zero]

theorem shl_23 (u : ArithUnit) (k : ℕ) (hk : k ≤ 254) (w : BitVec 32) (hw : w.toNat = k) :
    Ideal.ofBits .f32 (IntOp.shli u w 23#32) = ((pw k : ℝ) : EReal) := by
  refine ofBits_pw _ k hk ?_
  unfold IntOp.shli
  rw [if_pos (by decide), BitVec.shiftLeft_eq', BitVec.toNat_shiftLeft, hw, Nat.shiftLeft_eq]
  norm_num
  omega

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem pw_nonneg (k : ℕ) : 0 ≤ pw k := by
  unfold pw; split_ifs <;> positivity

theorem pw_mono {j k : ℕ} (h : j ≤ k) : pw j ≤ pw k := by
  unfold pw; split_ifs with h1 h2
  · exact le_refl _
  · positivity
  · omega
  · exact zpow_le_zpow_right₀ (by norm_num) (by omega)

/-! ## The exponent -/

/-- The largest exponent field `k ≤ 254` whose power of two is at most `x`. -/
def E (x : EReal) : ℕ := ((Finset.range 255).filter fun k => ((pw k : ℝ) : EReal) ≤ x).sup id

theorem E_le (x : EReal) : E x ≤ 254 := by
  refine Finset.sup_le fun k hk => ?_
  have := Finset.mem_range.1 (Finset.mem_filter.1 hk).1
  simp only [id]; omega

theorem le_E {x : EReal} {k : ℕ} (hk : k ≤ 254) (h : ((pw k : ℝ) : EReal) ≤ x) : k ≤ E x :=
  Finset.le_sup (f := id) (Finset.mem_filter.2 ⟨Finset.mem_range.2 (by omega), h⟩)

theorem E_lt {x : EReal} {k : ℕ} (hk0 : 0 < k) (h : x < ((pw k : ℝ) : EReal)) : E x < k := by
  unfold E
  rw [Finset.sup_lt_iff (by simpa using hk0)]
  intro j hj
  have := (Finset.mem_filter.1 hj).2
  by_contra hc
  have h2 : pw k ≤ pw j := pw_mono (by simpa using hc)
  exact absurd (lt_of_lt_of_le h ((EReal.coe_le_coe_iff.2 h2).trans this)) (lt_irrefl _)

/-- The scale's code. -/
def codeN (x : EReal) : ℕ := if x = 0 then 127 else E x - 2

theorem codeN_le (x : EReal) : codeN x ≤ 252 := by
  unfold codeN; have := E_le x; split_ifs <;> omega

theorem E_top : E ⊤ = 254 := le_antisymm (E_le _) (le_E le_rfl le_top)

/-- The floor of the base-two logarithm is the exponent. -/
theorem E_real (r : ℝ) (hr : 0 < r) :
    ((E (r : EReal) : ℕ) : ℤ) = min 254 (max 0 (⌊Real.log r / Real.log 2⌋ + 127)) := by
  set f := ⌊Real.log r / Real.log 2⌋ with hf
  have hl : 0 < Real.log 2 := Real.log_pos (by norm_num)
  have h1 : (2 : ℝ) ^ f ≤ r := by
    rw [← Real.log_le_log_iff (by positivity) hr, Real.log_zpow, ← le_div_iff₀ hl]; exact Int.floor_le _
  have h2 : r < (2 : ℝ) ^ (f + 1) := by
    rw [← Real.log_lt_log_iff hr (by positivity), Real.log_zpow, ← div_lt_iff₀ hl]
    push_cast; exact Int.lt_floor_add_one _
  have hE := E_le (r : EReal)
  by_cases ha : f ≤ -127
  · have : E (r : EReal) < 1 := by
      refine E_lt (by norm_num) ?_
      rw [EReal.coe_lt_coe_iff]; unfold pw; rw [if_neg (by norm_num)]
      exact lt_of_lt_of_le h2 (zpow_le_zpow_right₀ (by norm_num) (by push_cast; omega))
    omega
  by_cases hb : 127 ≤ f
  · have : 254 ≤ E (r : EReal) := by
      refine le_E le_rfl ?_
      rw [EReal.coe_le_coe_iff]; unfold pw; rw [if_neg (by norm_num)]
      exact le_trans (zpow_le_zpow_right₀ (by norm_num) (by push_cast; omega)) h1
    omega
  · obtain ⟨k, hk⟩ : ∃ k : ℕ, (k : ℤ) = f + 127 := ⟨(f + 127).toNat, by omega⟩
    have a : k ≤ E (r : EReal) := by
      refine le_E (by omega) ?_
      rw [EReal.coe_le_coe_iff]; unfold pw; rw [if_neg (by omega), show (k : ℤ) - 127 = f by omega]
      exact h1
    have b : E (r : EReal) < k + 1 := by
      refine E_lt (by omega) ?_
      rw [EReal.coe_lt_coe_iff]; unfold pw; rw [if_neg (by omega)]
      rw [show ((k + 1 : ℕ) : ℤ) - 127 = f + 1 by push_cast; omega]
      exact h2
    omega

/-- The exponent as the reference writes it. -/
def xeR (x : EReal) : EReal :=
  if x = 0 then 0 else
    max (min ((127 : ℝ) : EReal) (max ((-127 : ℝ) : EReal)
      (Ideal.liftRound Int.floor (Ideal.div (Ideal.log x) (Ideal.log ((2 : ℝ) : EReal))))) - ((2 : ℝ) : EReal)) ((-127 : ℝ) : EReal)

theorem log_two : Ideal.log ((2 : ℝ) : EReal) = ((Real.log 2 : ℝ) : EReal) := by
  show (if (2 : ℝ) ≤ 0 then (⊥ : EReal) else (Real.log 2 : EReal)) = _
  rw [if_neg (by norm_num)]

theorem div_real (x : EReal) (r : ℝ) (hr : r ≠ 0) : Ideal.div x (r : EReal) = x * ((r⁻¹ : ℝ) : EReal) := by
  unfold Ideal.div
  rw [if_neg (by exact_mod_cast hr), EReal.coe_inv]

theorem xeR_eq (x : EReal) (hx : 0 ≤ x) : xeR x = (((codeN x : ℝ) - 127 : ℝ) : EReal) := by
  unfold xeR codeN
  have hl2 : (0 : ℝ) < Real.log 2 := Real.log_pos (by norm_num)
  rw [log_two, div_real _ _ hl2.ne']
  by_cases h0 : x = 0
  · rw [if_pos h0, if_pos h0]; norm_num
  rw [if_neg h0, if_neg h0]
  induction x with
  | bot => exact absurd hx (by simp)
  | top =>
    rw [E_top, show Ideal.log ⊤ = ⊤ from rfl, EReal.top_mul_coe_of_pos (inv_pos.2 hl2),
      show Ideal.liftRound Int.floor ⊤ = ⊤ from rfl, max_eq_right le_top, min_eq_left le_top, ← EReal.coe_sub, ← coe_max]
    norm_num
  | coe r =>
    have hr : 0 < r := lt_of_le_of_ne (by exact_mod_cast hx) (fun h => h0 (by rw [← h]; rfl))
    rw [show Ideal.log (r : EReal) = ((Real.log r : ℝ) : EReal) by
      show (if r ≤ 0 then (⊥ : EReal) else (Real.log r : EReal)) = _
      rw [if_neg (not_le.2 hr)], ← EReal.coe_mul, ← div_eq_mul_inv,
      show Ideal.liftRound Int.floor ((Real.log r / Real.log 2 : ℝ) : EReal) = (((⌊Real.log r / Real.log 2⌋ : ℤ) : ℝ) : EReal) from rfl]
    rw [← coe_max, ← coe_min, ← EReal.coe_sub, ← coe_max]
    have hE := E_real r hr
    set f := ⌊Real.log r / Real.log 2⌋
    have hi : ((E (r : EReal) - 2 : ℕ) : ℤ) - 127 = max (min 127 (max (-127) f) - 2) (-127) := by omega
    have hc : (((E (r : EReal) - 2 : ℕ) : ℝ) - 127) = ((max (min 127 (max (-127) f) - 2) (-127) : ℤ) : ℝ) := by
      rw [← hi]; push_cast; ring
    rw [hc]; push_cast; rfl

/-! ## Rounding to four bits -/

/-- The step of the four-bit grid at `y`. -/
def stp (y : EReal) : ℝ := if max y (-y) < ((2 : ℝ) : EReal) then 1 / 2 else if max y (-y) < ((4 : ℝ) : EReal) then 1 else 2

theorem stp_pos (y : EReal) : 0 < stp y := by unfold stp; split_ifs <;> norm_num

/-- Round to a multiple of the step and clip. -/
def fp4S (y : EReal) : EReal :=
  min ((6 : ℝ) : EReal) (max ((-6 : ℝ) : EReal) ((stp y : EReal) * Ideal.liftRound Ideal.roundHalfEven (Ideal.div y (stp y : EReal))))

/-- The same, by magnitude and sign. -/
def fp4R (y : EReal) : EReal :=
  if y < 0 then 0 - min ((stp y : EReal) * Ideal.liftRound Ideal.roundHalfEven (Ideal.div (max y (-y)) (stp y : EReal))) ((6 : ℝ) : EReal)
  else min ((stp y : EReal) * Ideal.liftRound Ideal.roundHalfEven (Ideal.div (max y (-y)) (stp y : EReal))) ((6 : ℝ) : EReal)

theorem roundHalfEven_neg (r : ℝ) : Ideal.roundHalfEven (-r) = -Ideal.roundHalfEven r := by
  unfold Ideal.roundHalfEven
  by_cases hi : r = ⌊r⌋
  · have h1 : ⌊-r⌋ = -⌊r⌋ := by rw [hi, ← Int.cast_neg, Int.floor_intCast, Int.floor_intCast]
    have h2 : -r - ((⌊-r⌋ : ℤ) : ℝ) = 0 := by rw [h1]; push_cast; linarith
    have h3 : r - ((⌊r⌋ : ℤ) : ℝ) = 0 := by linarith
    simp only [h2, h3]; norm_num [h1]
  · have hlt : ((⌊r⌋ : ℤ) : ℝ) < r := lt_of_le_of_ne (Int.floor_le r) (Ne.symm hi)
    have h1 : ⌊-r⌋ = -⌊r⌋ - 1 := by
      rw [Int.floor_eq_iff]; push_cast
      have := Int.lt_floor_add_one r
      constructor <;> linarith
    have h2 : -r - ((⌊-r⌋ : ℤ) : ℝ) = 1 - (r - ((⌊r⌋ : ℤ) : ℝ)) := by rw [h1]; push_cast; ring
    simp only [h2]
    set d := r - ((⌊r⌋ : ℤ) : ℝ)
    rw [h1]
    rcases lt_trichotomy d (1 / 2) with h | h | h
    · rw [if_neg (by linarith), if_pos (by linarith), if_pos h]; ring
    · have e1 : ¬(1 - d < 1 / 2) := by linarith
      have e2 : ¬(1 / 2 < 1 - d) := by linarith
      have e3 : ¬(d < 1 / 2) := by linarith
      have e4 : ¬(1 / 2 < d) := by linarith
      simp only [e1, e2, e3, e4, if_false]
      by_cases he : Even ⌊r⌋
      · have : ¬ Even (-⌊r⌋ - 1) := by rw [Int.even_sub_one, even_neg]; simpa using he
        rw [if_neg this, if_pos he]; ring
      · have : Even (-⌊r⌋ - 1) := by rw [Int.even_sub_one, even_neg]; exact he
        rw [if_pos this, if_neg he]; ring
    · rw [if_pos (by linarith), if_neg (by linarith), if_pos h]; ring

theorem roundHalfEven_nonneg {r : ℝ} (h : 0 ≤ r) : 0 ≤ Ideal.roundHalfEven r := by
  have := Int.floor_nonneg.2 h
  unfold Ideal.roundHalfEven; dsimp only; split_ifs <;> omega

theorem stp_neg (y : EReal) : stp (-y) = stp y := by unfold stp; rw [neg_neg, max_comm]

theorem liftRound_coe (f : ℝ → ℤ) (r : ℝ) : Ideal.liftRound f (r : EReal) = (((f r : ℤ) : ℝ) : EReal) := rfl

theorem fp4R_eq (y : EReal) : fp4R y = fp4S y := by
  unfold fp4R fp4S
  have hs := stp_pos y
  rw [div_real _ _ hs.ne', div_real _ _ hs.ne']
  induction y with
  | bot =>
    rw [if_pos (by simp), EReal.neg_bot, max_eq_right bot_le, EReal.top_mul_coe_of_pos (inv_pos.2 hs),
      EReal.bot_mul_coe_of_pos (inv_pos.2 hs), show Ideal.liftRound Ideal.roundHalfEven ⊤ = ⊤ from rfl,
      show Ideal.liftRound Ideal.roundHalfEven ⊥ = ⊥ from rfl, EReal.coe_mul_top_of_pos hs, EReal.coe_mul_bot_of_pos hs,
      min_eq_right le_top, max_eq_left bot_le, ← coe_min, ← EReal.coe_zero, ← EReal.coe_sub]
    norm_num
  | top =>
    rw [if_neg (by simp), EReal.neg_top, max_eq_left bot_le, EReal.top_mul_coe_of_pos (inv_pos.2 hs),
      show Ideal.liftRound Ideal.roundHalfEven ⊤ = ⊤ from rfl, EReal.coe_mul_top_of_pos hs,
      min_eq_right le_top, max_eq_right le_top, min_eq_left le_top]
  | coe r =>
    set s := stp (r : EReal)
    rw [← EReal.coe_neg, ← coe_max, ← EReal.coe_mul, ← EReal.coe_mul, liftRound_coe, liftRound_coe, ← EReal.coe_mul,
      ← EReal.coe_mul, ← coe_min, ← coe_max, ← coe_min]
    by_cases hr : r < 0
    · rw [if_pos (by exact_mod_cast hr), max_eq_right (by linarith), ← EReal.coe_zero, ← EReal.coe_sub]
      congr 1
      rw [neg_mul, roundHalfEven_neg]
      have hn : 0 ≤ Ideal.roundHalfEven (-(r * s⁻¹)) :=
        roundHalfEven_nonneg (by have := inv_pos.2 hs; nlinarith)
      rw [roundHalfEven_neg] at hn
      have hn' : s * ((Ideal.roundHalfEven (r * s⁻¹) : ℤ) : ℝ) ≤ 0 := by
        have : ((Ideal.roundHalfEven (r * s⁻¹) : ℤ) : ℝ) ≤ 0 := by exact_mod_cast (by omega)
        nlinarith
      push_cast
      set t := s * ((Ideal.roundHalfEven (r * s⁻¹) : ℤ) : ℝ) with ht
      rw [mul_neg, ← ht, min_eq_right (a := (6 : ℝ)) (by rw [max_le_iff]; constructor <;> linarith)]
      rcases le_total (-t) 6 with h | h
      · rw [min_eq_left h, max_eq_right (by linarith)]; ring
      · rw [min_eq_right h, max_eq_left (by linarith)]; ring
    · rw [if_neg (by exact_mod_cast hr), max_eq_left (by linarith)]
      congr 1
      have hn : 0 ≤ Ideal.roundHalfEven (r * s⁻¹) :=
        roundHalfEven_nonneg (by have := inv_pos.2 hs; rw [not_lt] at hr; positivity)
      have hn' : 0 ≤ s * ((Ideal.roundHalfEven (r * s⁻¹) : ℤ) : ℝ) := by
        have : (0 : ℝ) ≤ ((Ideal.roundHalfEven (r * s⁻¹) : ℤ) : ℝ) := by exact_mod_cast hn
        positivity
      rw [max_eq_right (by linarith), min_comm]

/-- Every four-bit value is a real number. -/
theorem fp4S_coe (y : EReal) : ∃ r : ℝ, fp4S y = (r : EReal) := by
  have h1 : fp4S y ≤ ((6 : ℝ) : EReal) := min_le_left _ _
  have h2 : ((-6 : ℝ) : EReal) ≤ fp4S y := by
    unfold fp4S; refine le_min ?_ (le_max_left _ _)
    rw [EReal.coe_le_coe_iff]; norm_num
  refine ⟨(fp4S y).toReal, (EReal.coe_toReal ?_ ?_).symm⟩
  · intro h; rw [h] at h1; simp at h1
  · intro h; rw [h] at h2; simp at h2

/-! ## Scales -/

/-- The reference's unit is the power of two of the code. -/
theorem unit_eq (x : EReal) (hx : 0 ≤ x) :
    Ideal.pow ((2 : ℝ) : EReal) (xeR x) = (((2 : ℝ) ^ ((codeN x : ℤ) - 127) : ℝ) : EReal) := by
  rw [xeR_eq x hx]
  show ((Real.rpow 2 ((codeN x : ℝ) - 127) : ℝ) : EReal) = _
  congr 1
  rw [← Real.rpow_intCast]; push_cast; rfl

/-- The reciprocal scale of a code. -/
def invN (c : ℕ) : ℝ := (2 : ℝ) ^ (127 - (c : ℤ))

theorem div_unit (y x : EReal) (hx : 0 ≤ x) :
    Ideal.div y (Ideal.pow ((2 : ℝ) : EReal) (xeR x)) = y * ((invN (codeN x) : ℝ) : EReal) := by
  rw [unit_eq x hx, div_real _ _ (by positivity)]
  congr 2
  unfold invN; rw [← zpow_neg]; congr 1; ring

theorem pw_inv (c : ℕ) (hc : c ≤ 252) : pw (254 - c) = invN c := by
  unfold pw invN; rw [if_neg (by omega)]; congr 1; omega

/-- The reference's scale, zero at the smallest code. -/
theorem scale_eq (x : EReal) (hx : 0 ≤ x) :
    (if ((-127 : ℝ) : EReal) < xeR x then Ideal.pow ((2 : ℝ) : EReal) (xeR x) else 0) = ((pw (codeN x) : ℝ) : EReal) := by
  rw [unit_eq x hx, xeR_eq x hx]
  unfold pw
  by_cases h : codeN x = 0
  · rw [if_neg (by rw [h, EReal.coe_lt_coe_iff]; norm_num), if_pos h]; rfl
  · have : (1 : ℝ) ≤ codeN x := by exact_mod_cast (by omega : 1 ≤ codeN x)
    rw [if_pos (by rw [EReal.coe_lt_coe_iff]; linarith), if_neg h]

theorem code_word (x : EReal) (hx : 0 ≤ x) :
    Ideal.fptosi 32 (xeR x + ((127 : ℝ) : EReal)) = BitVec.ofNat 32 (codeN x) := by
  rw [xeR_eq x hx, ← EReal.coe_add, sub_add_cancel]
  unfold Ideal.fptosi
  show BitVec.ofInt 32 (max _ (min _ (if (0 : ℝ) ≤ (codeN x : ℝ) then ⌊((codeN x : ℕ) : ℝ)⌋ else ⌈((codeN x : ℕ) : ℝ)⌉))) = _
  rw [if_pos (by positivity), Int.floor_natCast]
  have := codeN_le x
  rw [min_eq_right (by norm_num; omega), max_eq_right (by norm_num)]
  exact BitVec.ofInt_natCast 32 _

/-! ## Groups -/

/-- The largest magnitude of a group. -/
def amx {n : ℕ} (f : Fin n → EReal) : EReal := Finset.univ.fold max ⊥ fun k => max (f k) (-f k)

theorem amx_nonneg {n : ℕ} (f : Fin (n + 1) → EReal) : 0 ≤ amx f := by
  unfold amx
  rw [Finset.le_fold_max]
  refine Or.inr ⟨0, Finset.mem_univ _, ?_⟩
  rcases le_total 0 (f 0) with h | h
  · exact le_max_of_le_left h
  · exact le_max_of_le_right (by simpa using EReal.neg_le_neg_iff.2 h)

end Cert.Spec
-- ==== Proof.Quant.lean ====
/-
The kernel's quantiser, read entry by entry.

Each array the body quantises is read here at one entry: the scale code is the code of the largest magnitude of the
entry's group, the stored value is the four-bit rounding of the entry over the scale, and the value used further on is
that times the scale.
-/
module

public import proofs.«01_k».proof.Proof.Body
public import proofs.«01_k».proof.Proof.Scalars

@[expose] public section

set_option maxRecDepth 16384

noncomputable section

namespace Cert.Quant

open Cert.KernelIdeal Cert.KernelIdeal.Gen Cert.Body Idealize.ShloMosaic Idealize.ShloMosaic.TcCoe Idealize.SL.Sem

/-! ## Scalars -/

theorem absf_eq (x : EReal) : (FloatOps.absf (F := Ideal) (φ := .f32) x : EReal) = max x (-x) := rfl

theorem fp4_apply (S : Shape) (y : FVec Ideal S .f32) (j : S.Idx) : fp4 S y j = Spec.fp4S (y j) := by
  pointwise [fp4]
  have h : (if FloatOps.absf (F := Ideal) (y j) < Ideal.ofBits FTy.f32 1073741824#32 then Ideal.ofBits FTy.f32 1056964608#32
      else if FloatOps.absf (F := Ideal) (y j) < Ideal.ofBits FTy.f32 1082130432#32 then 1
      else Ideal.ofBits FTy.f32 1073741824#32) = ((Spec.stp (y j) : ℝ) : EReal) := by
    rw [Spec.ofBits_two, Spec.ofBits_half, Spec.ofBits_four]
    unfold Spec.stp
    rw [absf_eq]
    split_ifs <;> rfl
  unfold Spec.fp4S
  rw [h, Spec.ofBits_six, Spec.ofBits_neg_six]

theorem toInt_ofNat (a : ℕ) (ha : a < 2 ^ 31) : (BitVec.ofNat 32 a).toInt = a := by
  have h : (BitVec.ofNat 32 a).toNat = a := by rw [BitVec.toNat_ofNat]; omega
  rw [BitVec.toInt_eq_toNat_of_lt (by rw [h]; omega), h]

/-- The signed maximum of small numbers. -/
theorem maxsi_ofNat (a b : ℕ) (ha : a < 2 ^ 31) (hb : b < 2 ^ 31) :
    IntOp.maxsi (BitVec.ofNat 32 a) (BitVec.ofNat 32 b) = BitVec.ofNat 32 (max a b) := by
  unfold IntOp.maxsi BitVec.slt
  rw [toInt_ofNat a ha, toInt_ofNat b hb]
  by_cases h : b < a
  · rw [if_pos (by simpa using h), max_eq_left h.le]
  · rw [if_neg (by simpa using h), max_eq_right (not_lt.1 h)]

theorem maxsi_min (n : ℕ) (hn : n < 2 ^ 31) : IntOp.maxsi (BitVec.ofNat 32 n) 2147483648#32 = BitVec.ofNat 32 n := by
  unfold IntOp.maxsi BitVec.slt
  rw [toInt_ofNat n hn, if_pos]
  have : (2147483648#32).toInt = -2147483648 := by decide
  rw [this]; simp only [decide_eq_true_eq]; omega

theorem expo_fold (v : EReal) (hv : 0 ≤ v) :
    (Finset.univ : Finset (Fin 255)).fold IntOp.maxsi (2147483648#32)
      (fun k : Fin 255 => if Ideal.ofBits FTy.f32 (IntOp.shli ArithUnit.vector (BitVec.ofNat 32 (k : ℕ)) 23#32) ≤ v then
        BitVec.ofNat 32 (k : ℕ) else 0#32) = BitVec.ofNat 32 (Spec.E v) := by
  have key : ∀ s : Finset (Fin 255), s.Nonempty → s.fold IntOp.maxsi (2147483648#32)
      (fun k : Fin 255 => if Ideal.ofBits FTy.f32 (IntOp.shli ArithUnit.vector (BitVec.ofNat 32 (k : ℕ)) 23#32) ≤ v then
        BitVec.ofNat 32 (k : ℕ) else 0#32) = BitVec.ofNat 32 (s.sup fun k => if ((Spec.pw k : ℝ) : EReal) ≤ v then (k : ℕ) else 0) := by
    intro s hs
    induction s using Finset.induction_on with
    | empty => exact absurd hs (by simp)
    | insert a s ha ih =>
      rw [Finset.fold_insert ha, Finset.sup_insert,
        Spec.shl_23 _ a.val (by omega) _ (by rw [BitVec.toNat_ofNat]; have := a.isLt; omega)]
      have hb : ∀ t : Finset (Fin 255), (t.sup fun k => if ((Spec.pw k : ℝ) : EReal) ≤ v then (k : ℕ) else 0) < 2 ^ 31 := by
        intro t
        rw [Finset.sup_lt_iff (by norm_num)]
        intro k _; have := k.isLt; split_ifs <;> norm_num; omega
      have hif : (if ((Spec.pw a : ℝ) : EReal) ≤ v then BitVec.ofNat 32 (a : ℕ) else 0#32)
          = BitVec.ofNat 32 (if ((Spec.pw a : ℝ) : EReal) ≤ v then (a : ℕ) else 0) := by split_ifs <;> rfl
      have hlt : (if ((Spec.pw a : ℝ) : EReal) ≤ v then (a : ℕ) else 0) < 2 ^ 31 := by
        have := a.isLt; split_ifs <;> norm_num; omega
      rw [hif]
      rcases s.eq_empty_or_nonempty with he | he
      · subst he
        simp only [Finset.fold_empty, Finset.sup_empty]
        generalize hn : (if ((Spec.pw a : ℝ) : EReal) ≤ v then (a : ℕ) else 0) = n at hlt
        rw [maxsi_min n hlt]; simp
      · rw [ih he, maxsi_ofNat _ _ hlt (hb s)]
  rw [key _ ⟨0, Finset.mem_univ _⟩]
  congr 1
  apply le_antisymm
  · refine Finset.sup_le fun k _ => ?_
    have := k.isLt
    split_ifs with h
    · exact Spec.le_E (by omega) h
    · exact Nat.zero_le _
  · refine Finset.sup_le fun k hk => ?_
    obtain ⟨h1, h2⟩ := Finset.mem_filter.1 hk
    have := Finset.mem_range.1 h1
    have h3 := Finset.le_sup (f := fun k : Fin 255 => if ((Spec.pw k : ℝ) : EReal) ≤ v then (k : ℕ) else 0)
      (Finset.mem_univ (⟨k, by omega⟩ : Fin 255))
    simp only [h2, if_true] at h3
    exact h3

theorem code_word (v : EReal) :
    (if v = 0 then 127#32 else IntOp.maxsi (IntOp.subi (BitVec.ofNat 32 (Spec.E v)) 2#32) 0#32)
      = BitVec.ofNat 32 (Spec.codeN v) := by
  unfold Spec.codeN
  have h := Spec.E_le v
  split_ifs with h0
  · rfl
  · generalize Spec.E v = e at h
    have h2 : (2#32 : BitVec 32).toInt = 2 := by decide
    rw [show (0#32 : BitVec 32) = BitVec.ofNat 32 0 from rfl]
    rcases Nat.lt_or_ge e 2 with he | he
    · interval_cases e <;> rfl
    · have : IntOp.subi (BitVec.ofNat 32 e) 2#32 = BitVec.ofNat 32 (e - 2) := by
        apply BitVec.eq_of_toNat_eq
        unfold IntOp.subi
        rw [BitVec.toNat_sub, BitVec.toNat_ofNat, BitVec.toNat_ofNat, BitVec.toNat_ofNat]
        omega
      rw [this, maxsi_ofNat _ _ (by omega) (by norm_num), Nat.max_eq_left (Nat.zero_le _)]

theorem inv_word (c : ℕ) (hc : c ≤ 252) :
    Ideal.ofBits FTy.f32 (IntOp.shli ArithUnit.vector (IntOp.subi (254#32) (BitVec.ofNat 32 c)) 23#32)
      = ((Spec.invN c : ℝ) : EReal) := by
  rw [Spec.shl_23 _ (254 - c) (by omega), Spec.pw_inv c hc]
  unfold IntOp.subi
  rw [BitVec.toNat_sub, BitVec.toNat_ofNat, BitVec.toNat_ofNat]
  omega

theorem sc_word (c : ℕ) (hc : c ≤ 254) :
    Ideal.ofBits FTy.f32 (IntOp.shli ArithUnit.vector (BitVec.ofNat 32 c) 23#32) = ((Spec.pw c : ℝ) : EReal) :=
  Spec.shl_23 _ c hc _ (by rw [BitVec.toNat_ofNat]; omega)

/-! ## The exponent search at the shapes used -/

theorem expo_4_128 (h : ExpoOK 4 128) (x : FVec Ideal ⟨2, ![4, 128]⟩ .f32) (r : Fin 4) (l : Fin 128)
    (hx : 0 ≤ (x (ix2 r l) : EReal)) : expo 4 128 h x (ix2 r l) = BitVec.ofNat 32 (Spec.E (x (ix2 r l))) := by
  pointwise [expo]
  exact expo_fold _ hx

theorem expo_4_896 (h : ExpoOK 4 896) (x : FVec Ideal ⟨2, ![4, 896]⟩ .f32) (r : Fin 4) (l : Fin 896)
    (hx : 0 ≤ (x (ix2 r l) : EReal)) : expo 4 896 h x (ix2 r l) = BitVec.ofNat 32 (Spec.E (x (ix2 r l))) := by
  pointwise [expo]
  exact expo_fold _ hx

theorem expo_28_128 (h : ExpoOK 28 128) (x : FVec Ideal ⟨2, ![28, 128]⟩ .f32) (r : Fin 28) (l : Fin 128)
    (hx : 0 ≤ (x (ix2 r l) : EReal)) : expo 28 128 h x (ix2 r l) = BitVec.ofNat 32 (Spec.E (x (ix2 r l))) := by
  pointwise [expo]
  exact expo_fold _ hx

theorem expo_8_256 (h : ExpoOK 8 256) (x : FVec Ideal ⟨2, ![8, 256]⟩ .f32) (r : Fin 8) (l : Fin 256)
    (hx : 0 ≤ (x (ix2 r l) : EReal)) : expo 8 256 h x (ix2 r l) = BitVec.ofNat 32 (Spec.E (x (ix2 r l))) := by
  pointwise [expo]
  exact expo_fold _ hx

theorem codeOf_apply (a b : ℕ) (h : ExpoOK a b) (x : FVec Ideal ⟨2, ![a, b]⟩ .f32) (j : Shape.Idx ⟨2, ![a, b]⟩)
    (hE : expo a b h x j = BitVec.ofNat 32 (Spec.E (x j))) : codeOf a b h x j = BitVec.ofNat 32 (Spec.codeN (x j)) := by
  pointwise [codeOf]
  rw [hE]
  exact code_word _

/-! ## Codes, values and widened values of an array in groups -/

/-- The code of a group. -/
def gcode {g n : ℕ} (x : FVec Ideal ⟨3, ![g, 32, n]⟩ .f32) (a : Fin g) (l : Fin n) : ℕ :=
  Spec.codeN (Spec.amx fun k : Fin 32 => (x (ix3 a k l) : EReal))

theorem gcode_le {g n : ℕ} (x : FVec Ideal ⟨3, ![g, 32, n]⟩ .f32) (a : Fin g) (l : Fin n) : gcode x a l ≤ 252 :=
  Spec.codeN_le _

theorem qCode_q (x : FVec Ideal ⟨3, ![4, 32, 128]⟩ .f32) (a : Fin 4) (l : Fin 128) :
    qCode 128 4 128 okQ x (ix2 a l) = BitVec.ofNat 32 (gcode x a l) := by
  have e : (multiReduction (F := Ideal) .maximumf [1] ⟨2, ![4, 128]⟩ (absf x) 0xFF800000#32 okQ.red (.inl rfl) rfl (ix2 a l) : EReal)
      = Spec.amx fun k : Fin 32 => (x (ix3 a k l) : EReal) := by
    pointwise; rw [Spec.ofBits_bot]; rfl
  have p : (0 : EReal) ≤ (multiReduction (F := Ideal) .maximumf [1] ⟨2, ![4, 128]⟩ (absf x) 0xFF800000#32 okQ.red (.inl rfl) rfl (ix2 a l)) := by
    rw [e]; exact Spec.amx_nonneg _
  rw [qCode, codeOf_apply _ _ _ _ _ (expo_4_128 _ _ _ _ p), e]; rfl

theorem qCode_k (x : FVec Ideal ⟨3, ![4, 32, 896]⟩ .f32) (a : Fin 4) (l : Fin 896) :
    qCode 128 4 896 okK x (ix2 a l) = BitVec.ofNat 32 (gcode x a l) := by
  have e : (multiReduction (F := Ideal) .maximumf [1] ⟨2, ![4, 896]⟩ (absf x) 0xFF800000#32 okK.red (.inl rfl) rfl (ix2 a l) : EReal)
      = Spec.amx fun k : Fin 32 => (x (ix3 a k l) : EReal) := by
    pointwise; rw [Spec.ofBits_bot]; rfl
  have p : (0 : EReal) ≤ (multiReduction (F := Ideal) .maximumf [1] ⟨2, ![4, 896]⟩ (absf x) 0xFF800000#32 okK.red (.inl rfl) rfl (ix2 a l)) := by
    rw [e]; exact Spec.amx_nonneg _
  rw [qCode, codeOf_apply _ _ _ _ _ (expo_4_896 _ _ _ _ p), e]; rfl

theorem qCode_v (x : FVec Ideal ⟨3, ![28, 32, 128]⟩ .f32) (a : Fin 28) (l : Fin 128) :
    qCode 896 28 128 okV x (ix2 a l) = BitVec.ofNat 32 (gcode x a l) := by
  have e : (multiReduction (F := Ideal) .maximumf [1] ⟨2, ![28, 128]⟩ (absf x) 0xFF800000#32 okV.red (.inl rfl) rfl (ix2 a l) : EReal)
      = Spec.amx fun k : Fin 32 => (x (ix3 a k l) : EReal) := by
    pointwise; rw [Spec.ofBits_bot]; rfl
  have p : (0 : EReal) ≤ (multiReduction (F := Ideal) .maximumf [1] ⟨2, ![28, 128]⟩ (absf x) 0xFF800000#32 okV.red (.inl rfl) rfl (ix2 a l)) := by
    rw [e]; exact Spec.amx_nonneg _
  rw [qCode, codeOf_apply _ _ _ _ _ (expo_28_128 _ _ _ _ p), e]; rfl

theorem qC_q (x : FVec Ideal ⟨3, ![4, 32, 128]⟩ .f32) (r l : Fin 128) :
    qC 128 4 128 okQ x (ix2 r l) = Spec.fp4S (x (ix3 (⟨r / 32, by omega⟩ : Fin 4) (⟨r % 32, by omega⟩ : Fin 32) l)
      * ((Spec.invN (gcode x ⟨r / 32, by omega⟩ l) : ℝ) : EReal)) := by
  rw [qC, fp4_apply]
  pointwise [invOf, qCode_q]
  rw [inv_word _ (gcode_le _ _ _)]

theorem qC_k (x : FVec Ideal ⟨3, ![4, 32, 896]⟩ .f32) (r : Fin 128) (l : Fin 896) :
    qC 128 4 896 okK x (ix2 r l) = Spec.fp4S (x (ix3 (⟨r / 32, by omega⟩ : Fin 4) (⟨r % 32, by omega⟩ : Fin 32) l)
      * ((Spec.invN (gcode x ⟨r / 32, by omega⟩ l) : ℝ) : EReal)) := by
  rw [qC, fp4_apply]
  pointwise [invOf, qCode_k]
  rw [inv_word _ (gcode_le _ _ _)]

theorem qC_v (x : FVec Ideal ⟨3, ![28, 32, 128]⟩ .f32) (r : Fin 896) (l : Fin 128) :
    qC 896 28 128 okV x (ix2 r l) = Spec.fp4S (x (ix3 (⟨r / 32, by omega⟩ : Fin 28) (⟨r % 32, by omega⟩ : Fin 32) l)
      * ((Spec.invN (gcode x ⟨r / 32, by omega⟩ l) : ℝ) : EReal)) := by
  rw [qC, fp4_apply]
  pointwise [invOf, qCode_v]
  rw [inv_word _ (gcode_le _ _ _)]

theorem qW_q (x : FVec Ideal ⟨3, ![4, 32, 128]⟩ .f32) (r l : Fin 128) :
    qW 128 4 128 okQ x (ix2 r l)
      = qC 128 4 128 okQ x (ix2 r l) * ((Spec.pw (gcode x ⟨r / 32, by omega⟩ l) : ℝ) : EReal) := by
  pointwise [qW, scOf, qCode_q]
  rw [sc_word _ ((gcode_le _ _ _).trans (by norm_num))]

theorem qW_k (x : FVec Ideal ⟨3, ![4, 32, 896]⟩ .f32) (r : Fin 128) (l : Fin 896) :
    qW 128 4 896 okK x (ix2 r l)
      = qC 128 4 896 okK x (ix2 r l) * ((Spec.pw (gcode x ⟨r / 32, by omega⟩ l) : ℝ) : EReal) := by
  pointwise [qW, scOf, qCode_k]
  rw [sc_word _ ((gcode_le _ _ _).trans (by norm_num))]

theorem qW_v (x : FVec Ideal ⟨3, ![28, 32, 128]⟩ .f32) (r : Fin 896) (l : Fin 128) :
    qW 896 28 128 okV x (ix2 r l)
      = qC 896 28 128 okV x (ix2 r l) * ((Spec.pw (gcode x ⟨r / 32, by omega⟩ l) : ℝ) : EReal) := by
  pointwise [qW, scOf, qCode_v]
  rw [sc_word _ ((gcode_le _ _ _).trans (by norm_num))]

/-! ## The grouped arrays themselves -/

theorem qG_apply (x : Vec Ideal S1x1x128x128 .bf16) (g : Fin 4) (r : Fin 32) (l : Fin 128) :
    qG x (ix3 g r l) = x (ix4 0 0 l (⟨g * 32 + r, by omega⟩ : Fin 128)) := by
  pointwise [qG]

theorem vG_apply (x : Vec Ideal S1x1x896x128 .bf16) (g : Fin 28) (r : Fin 32) (l : Fin 128) :
    vG x (ix3 g r l) = x (ix4 0 0 (⟨g * 32 + r, by omega⟩ : Fin 896) l) := by
  pointwise [vG]

theorem inv_seq : (Named.named (F := Ideal) (φ := .f32) κ "inv_seq" 0x3A924925#32 : EReal) = ((1 / 896 : ℝ) : EReal) := by
  rfl

theorem kG_apply (x : Vec Ideal S1x1x896x128 .bf16) (g : Fin 4) (r : Fin 32) (l : Fin 896) :
    kG x (ix3 g r l) = (show EReal from x (ix4 0 0 l (⟨g * 32 + r, by omega⟩ : Fin 128)))
      - (∑ s : Fin 896, (show EReal from x (ix4 0 0 s (⟨g * 32 + r, by omega⟩ : Fin 128)))) * ((1 / 896 : ℝ) : EReal) := by
  pointwise [kG]
  rw [inv_seq]

end Cert.Quant
-- ==== Proof.Pieces.lean ====
/-
The generated run's stores are the ones `Body.lean` writes for every unit.
-/
module

public import proofs.«01_k».proof.Proof.Body

@[expose] public section

set_option maxRecDepth 16384

noncomputable section

namespace Cert.Body

open Cert.KernelIdeal Cert.KernelIdeal.Gen Idealize.ShloMosaic Idealize.ShloMosaic.TcCoe Idealize.SL.Sem

variable {F : FTy → Type} [FloatOps F] [Named F]

/-- The query block of one head as the body loads it. -/
def ldQ (arg2 : Memref sig .tc .vmem S1x4x896x128 .bf16) (harg2 : arg2.IsWhole) (x0 : Vec F S1x4x896x128 .bf16)
    (h : Fin 4) (i : Fin 7) : Vec F S1x1x128x128 .bf16 :=
  arg2.view.readAt (Elt F) (rectO h i).toLoadRect (harg2.unread x0)

/-- The keys (or values) as the body loads them. -/
def ldK (arg3 : Memref sig .tc .vmem S1x1x896x128 .bf16) (harg3 : arg3.IsWhole) (x1 : Vec F S1x1x896x128 .bf16) :
    Vec F S1x1x896x128 .bf16 :=
  arg3.view.readAt (Elt F) (Rect.unit (s := S1x1x896x128) ![0, 0, 0, 0] S1x1x896x128.size
    inb_S1x1x896x128_S1x1x896x128_0_0_0_0).toLoadRect (harg3.unread x1)

variable (c : Dev nD) (i : grid0.Coords) (arg2 : Memref sig .tc .vmem S1x4x896x128 .bf16) (harg2 : arg2.IsWhole) (arg3 : Memref sig .tc .vmem S1x1x896x128 .bf16) (harg3 : arg3.IsWhole) (arg4 : Memref sig .tc .vmem S1x1x896x128 .bf16) (harg4 : arg4.IsWhole) (arg5 : Memref sig .tc .vmem S1x4x896x128 .bf16) (harg5 : arg5.IsWhole) (arg6 : Memref sig .tc .vmem S1x4x896x128 .fp8e4m3) (harg6 : arg6.IsWhole) (arg7 : Memref sig .tc .vmem S1x4x4x896 .i8) (harg7 : arg7.IsWhole) (arg8 : Memref sig .tc .vmem S1x1x896x128 .fp8e4m3) (harg8 : arg8.IsWhole) (arg9 : Memref sig .tc .vmem S1x1x4x896 .i8) (harg9 : arg9.IsWhole) (arg10 : Memref sig .tc .vmem S1x1x896x128 .fp8e4m3) (harg10 : arg10.IsWhole) (arg11 : Memref sig .tc .vmem S1x1x28x128 .i8) (harg11 : arg11.IsWhole) (arg12 : Memref sig .tc .vmem S896x128 .f32) (harg12 : arg12.IsWhole) (arg13 : Memref sig .tc .vmem S768x128 .bf16) (harg13 : arg13.IsWhole) (arg14 : Memref sig .tc .vmem S512x128 .bf16) (harg14 : arg14.IsWhole) (arg15 : Memref sig .tc .vmem S128x768 .bf16) (harg15 : arg15.IsWhole) (arg16 : Memref sig .tc .vmem S128x512 .bf16) (harg16 : arg16.IsWhole) (arg17 : Memref sig .tc .vmem S2x896x256 .f32) (harg17 : arg17.IsWhole)
  (x0 : Vec F S1x4x896x128 .bf16) (x1 : Vec F S1x1x896x128 .bf16) (x2 : Vec F S1x1x896x128 .bf16)

/-- The key codes. -/
theorem pieces_kc : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.2.2.1
    = [⟨Rect.unit (s := S1x1x896x128) ![0, 0, 0, 0] S1x1x896x128.size inb_S1x1x896x128_S1x1x896x128_0_0_0_0, kCodes (ldK arg3 harg3 x1)⟩] := by
  sl_kernel_rfl

/-- The key scales. -/
theorem pieces_ks : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.2.2.2.1
    = [⟨Rect.unit (s := S1x1x4x896) ![0, 0, 0, 0] S1x1x4x896.size inb_S1x1x4x896_S1x1x4x896_0_0_0_0, kScales (ldK arg3 harg3 x1)⟩] := by
  sl_kernel_rfl

/-- The value codes. -/
theorem pieces_vc : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.2.2.2.2.1
    = [⟨Rect.unit (s := S1x1x896x128) ![0, 0, 0, 0] S1x1x896x128.size inb_S1x1x896x128_S1x1x896x128_0_0_0_0, vCodes (ldK arg4 harg4 x2)⟩] := by
  sl_kernel_rfl

/-- The value scales. -/
theorem pieces_vs : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.2.2.2.2.2.1
    = [⟨Rect.unit (s := S1x1x28x128) ![0, 0, 0, 0] S1x1x28x128.size inb_S1x1x28x128_S1x1x28x128_0_0_0_0, vScales (ldK arg4 harg4 x2)⟩] := by
  sl_kernel_rfl

/-- The query codes. -/
theorem pieces_qc : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.1 = qcList (ldQ arg2 harg2 x0) := by
  sl_kernel_rfl

/-- The query scales. -/
theorem pieces_qs : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).2.2.1 = qsList (ldQ arg2 harg2 x0) := by
  sl_kernel_rfl

/-- The outputs. -/
theorem pieces_o : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2).1
    = oList arg12 arg13 arg14 arg15 arg16 arg17 (ldQ arg2 harg2 x0) (ldK arg3 harg3 x1) (ldK arg4 harg4 x2) := by
  sl_kernel_rfl

end Cert.Body
-- ==== Proof.Grp.lean ====
/-
Groups of 32 numbers, quantised: the scale's code, the four-bit values, and the values widened again.
-/
module

public import proofs.«01_k».proof.Proof.Scalars

@[expose] public section

noncomputable section

namespace Cert.Grp

open Idealize.ShloMosaic

/-- The code of a group's scale. -/
def code {G : ℕ} (x : Fin G → Fin 32 → EReal) (g : Fin G) : ℕ := Spec.codeN (Spec.amx (x g))

theorem code_le {G : ℕ} (x : Fin G → Fin 32 → EReal) (g : Fin G) : code x g ≤ 252 := Spec.codeN_le _

/-- The four-bit value of an entry. -/
def cd {G : ℕ} (x : Fin G → Fin 32 → EReal) (g : Fin G) (r : Fin 32) : EReal :=
  Spec.fp4S (x g r * ((Spec.invN (code x g) : ℝ) : EReal))

/-- The widened value of an entry. -/
def wd {G : ℕ} (x : Fin G → Fin 32 → EReal) (g : Fin G) (r : Fin 32) : EReal :=
  cd x g r * ((Spec.pw (code x g) : ℝ) : EReal)

/-- A row of 128 numbers in four groups. -/
def row4 (x : Fin 128 → EReal) (g : Fin 4) (r : Fin 32) : EReal := x ⟨g * 32 + r, by omega⟩

/-- A column of 896 numbers in 28 groups. -/
def col28 (x : Fin 896 → EReal) (g : Fin 28) (r : Fin 32) : EReal := x ⟨g * 32 + r, by omega⟩

end Cert.Grp
-- ==== Proof.Spec.lean ====
/-
The groups both programs quantise, as functions of the arguments, and the results that follow from them at once.
-/
module

public import proofs.«01_k».proof.Proof.Grp

@[expose] public section

noncomputable section

namespace Cert.Arg

open Idealize.ShloMosaic

/-- A query's row, in groups along the channels. -/
def qg (Q : Fin 2 → Fin 896 → Fin 20 → Fin 128 → EReal) (b : Fin 2) (h : Fin 20) (q : Fin 896) : Fin 4 → Fin 32 → EReal :=
  Grp.row4 fun d => Q b q h d

/-- A key's row after the mean over the keys is taken off, in groups along the channels. -/
def kg (K : Fin 2 → Fin 896 → Fin 5 → Fin 128 → EReal) (b : Fin 2) (h : Fin 5) (s : Fin 896) : Fin 4 → Fin 32 → EReal :=
  Grp.row4 fun d => K b s h d - (∑ s', K b s' h d) * ((1 / 896 : ℝ) : EReal)

/-- A value channel, in groups along the keys. -/
def vg (V : Fin 2 → Fin 896 → Fin 5 → Fin 128 → EReal) (b : Fin 2) (h : Fin 5) (d : Fin 128) : Fin 28 → Fin 32 → EReal :=
  Grp.col28 fun s => V b s h d

/-- The stored scale byte. -/
def byte {G : ℕ} (x : Fin G → Fin 32 → EReal) (g : Fin G) : BitVec 8 := BitVec.setWidth 8 (BitVec.ofNat 32 (Grp.code x g))

/-- A widened query channel. -/
def qw (Q : Fin 2 → Fin 896 → Fin 20 → Fin 128 → EReal) (b : Fin 2) (h : Fin 20) (q : Fin 896) (d : Fin 128) : EReal :=
  Grp.wd (qg Q b h q) ⟨d / 32, by omega⟩ ⟨d % 32, by omega⟩

/-- A widened key channel. -/
def kw (K : Fin 2 → Fin 896 → Fin 5 → Fin 128 → EReal) (b : Fin 2) (h : Fin 5) (s : Fin 896) (d : Fin 128) : EReal :=
  Grp.wd (kg K b h s) ⟨d / 32, by omega⟩ ⟨d % 32, by omega⟩

/-- A widened value channel. -/
def vw (V : Fin 2 → Fin 896 → Fin 5 → Fin 128 → EReal) (b : Fin 2) (h : Fin 5) (s : Fin 896) (d : Fin 128) : EReal :=
  Grp.wd (vg V b h d) ⟨s / 32, by omega⟩ ⟨s % 32, by omega⟩

end Cert.Arg
-- ==== Proof.KerOut.lean ====
/-
The kernel's arrays of codes and scales, as functions of the arguments.
-/
module

public import proofs.«01_k».proof.Proof.Quant
public import proofs.«01_k».proof.Proof.Pieces
public import proofs.«01_k».proof.Proof.Spec
public import proofs.«01_k».proof.Proof.Gen.KernelIdeal.Value
public import Idealize.ShloMosaic.Lib.Pointwise
public import Idealize.ShloMosaic.Lib.WholeRead
public import Idealize.ShloMosaic.Lib.Pipeline.ValueKit
public import Idealize.ShloMosaic.Lib.Claim

@[expose] public section

set_option maxRecDepth 16384

noncomputable section

namespace Cert.KerOut

open Cert.KernelIdeal Cert.KernelIdeal.Gen Cert.Body Idealize.ShloMosaic Idealize.ShloMosaic.TcCoe Idealize.SL.Sem
open Idealize.ShloMosaic.View

/-! ## The stored tensors, entry by entry -/

theorem qCodes_apply (Q : Vec Ideal S1x1x128x128 .bf16) (q d : Fin 128) :
    (qCodes Q (ix4 0 0 q d) : EReal) = Grp.cd (Grp.row4 fun d => Q (ix4 0 0 q d)) ⟨d / 32, by omega⟩ ⟨d % 32, by omega⟩ := by
  pointwise [qCodes]
  rw [Quant.qC_q, Quant.qG_apply]
  unfold Quant.gcode
  simp only [Quant.qG_apply]
  rfl

theorem qScales_apply (Q : Vec Ideal S1x1x128x128 .bf16) (g : Fin 4) (q : Fin 128) :
    qScales Q (ix4 0 0 g q) = Arg.byte (Grp.row4 fun d => Q (ix4 0 0 q d)) g := by
  pointwise [qScales]
  rw [Quant.qCode_q]
  unfold Quant.gcode
  simp only [Quant.qG_apply]
  rfl

theorem qWt_apply (Q : Vec Ideal S1x1x128x128 .bf16) (d q : Fin 128) :
    (qWt Q (ix2 d q) : EReal) = Grp.wd (Grp.row4 fun d => Q (ix4 0 0 q d)) ⟨d / 32, by omega⟩ ⟨d % 32, by omega⟩ := by
  pointwise [qWt]
  rw [Quant.qW_q, Quant.qC_q, Quant.qG_apply]
  unfold Quant.gcode
  simp only [Quant.qG_apply]
  rfl

/-- The centred key row. -/
def cen (K : Vec Ideal S1x1x896x128 .bf16) (s : Fin 896) (d : Fin 128) : EReal :=
  (show EReal from K (ix4 0 0 s d)) - (∑ s : Fin 896, (show EReal from K (ix4 0 0 s d))) * ((1 / 896 : ℝ) : EReal)

theorem kG_cen (K : Vec Ideal S1x1x896x128 .bf16) (g : Fin 4) (r : Fin 32) (s : Fin 896) :
    kG K (ix3 g r s) = cen K s ⟨g * 32 + r, by omega⟩ := Quant.kG_apply K g r s

theorem kCodes_apply (K : Vec Ideal S1x1x896x128 .bf16) (s : Fin 896) (d : Fin 128) :
    (kCodes K (ix4 0 0 s d) : EReal) = Grp.cd (Grp.row4 (cen K s)) ⟨d / 32, by omega⟩ ⟨d % 32, by omega⟩ := by
  pointwise [kCodes]
  rw [Quant.qC_k, kG_cen]
  unfold Quant.gcode
  simp only [kG_cen]
  rfl

theorem kScales_apply (K : Vec Ideal S1x1x896x128 .bf16) (g : Fin 4) (s : Fin 896) :
    kScales K (ix4 0 0 g s) = Arg.byte (Grp.row4 (cen K s)) g := by
  pointwise [kScales]
  rw [Quant.qCode_k]
  unfold Quant.gcode
  simp only [kG_cen]
  rfl

theorem kW_apply (K : Vec Ideal S1x1x896x128 .bf16) (s : Fin 896) (d : Fin 128) :
    (kW K (ix2 s d) : EReal) = Grp.wd (Grp.row4 (cen K s)) ⟨d / 32, by omega⟩ ⟨d % 32, by omega⟩ := by
  pointwise [kW]
  rw [Quant.qW_k, Quant.qC_k, kG_cen]
  unfold Quant.gcode
  simp only [kG_cen]
  rfl

theorem vCodes_apply (V : Vec Ideal S1x1x896x128 .bf16) (s : Fin 896) (d : Fin 128) :
    (vCodes V (ix4 0 0 s d) : EReal) = Grp.cd (Grp.col28 fun s => V (ix4 0 0 s d)) ⟨s / 32, by omega⟩ ⟨s % 32, by omega⟩ := by
  pointwise [vCodes]
  rw [Quant.qC_v, Quant.vG_apply]
  unfold Quant.gcode
  simp only [Quant.vG_apply]
  rfl

theorem vScales_apply (V : Vec Ideal S1x1x896x128 .bf16) (g : Fin 28) (d : Fin 128) :
    vScales V (ix4 0 0 g d) = Arg.byte (Grp.col28 fun s => V (ix4 0 0 s d)) g := by
  pointwise [vScales]
  rw [Quant.qCode_v]
  unfold Quant.gcode
  simp only [Quant.vG_apply]
  rfl

theorem vW_apply (V : Vec Ideal S1x1x896x128 .bf16) (s : Fin 896) (d : Fin 128) :
    (vW V (ix2 s d) : EReal) = Grp.wd (Grp.col28 fun s => V (ix4 0 0 s d)) ⟨s / 32, by omega⟩ ⟨s % 32, by omega⟩ := by
  pointwise [vW]
  rw [Quant.qW_v, Quant.qC_v, Quant.vG_apply]
  unfold Quant.gcode
  simp only [Quant.vG_apply]
  rfl

/-! ## The blocks as loaded -/

theorem ldQ_apply (a : Memref sig .tc .vmem S1x4x896x128 .bf16) (ha : a.IsWhole) (x : Vec Ideal S1x4x896x128 .bf16) (h : Fin 4) (i : Fin 7)
    (q d : Fin 128) : ldQ a ha x h i (ix4 0 0 q d) = x (ix4 0 h (⟨128 * i + q, by omega⟩ : Fin 896) d) := by
  refine (Memref.IsWhole.readAt_unread ha x (rectO h i).toLoadRect (ix4 0 0 q d)).trans (congrArg x ?_)
  funext b; apply Fin.ext
  fin_cases b
  · rfl
  · show (h : ℕ) + 1 * 0 = h; omega
  · show 128 * (i : ℕ) + 1 * (q : ℕ) = 128 * i + q; omega
  · show 0 + 1 * (d : ℕ) = d; omega

theorem ldK_eq (a : Memref sig .tc .vmem S1x1x896x128 .bf16) (ha : a.IsWhole) (x : Vec Ideal S1x1x896x128 .bf16) : ldK a ha x = x := by
  funext y
  refine (Memref.IsWhole.readAt_unread ha x (Rect.unit (s := S1x1x896x128) ![0, 0, 0, 0] S1x1x896x128.size inb_S1x1x896x128_S1x1x896x128_0_0_0_0).toLoadRect y).trans (congrArg x ?_)
  funext b; apply Fin.ext
  fin_cases b
  · show 0 + 1 * (y 0 : ℕ) = y 0; omega
  · show 0 + 1 * (y 1 : ℕ) = y 1; omega
  · show 0 + 1 * (y 2 : ℕ) = y 2; omega
  · show 0 + 1 * (y 3 : ℕ) = y 3; omega

/-- A buffer filled by one store. -/
theorem canon_full {S : Shape} {e : EltTy} (o : Fin S.rank → ℕ) (ho : ∀ a, o a = 0) (inb) (Z : S.Idx → Elt Ideal e) (y : S.Idx) :
    canon [(⟨Rect.unit (s := S) o S.size inb, Z⟩ : View.Piece (Elt Ideal) S e)] y = Z y := by
  have e : (Rect.unit (s := S) o S.size inb).emb y = y := by
    funext a; apply Fin.ext
    show o a + 1 * (y a : ℕ) = y a
    rw [ho]; omega
  exact (congrArg (canon _) e.symm).trans (canon_cons_emb _ _ _ _)

/-! ## The query's tiles -/

theorem embO (h : Fin 4) (i : Fin 7) (a b : Fin 1) (q d : Fin 128) :
    (rectO h i).emb (ix4 a b q d) = (ix4 0 h ⟨128 * i + q, by omega⟩ d : S1x4x896x128.Idx) := by
  funext c; apply Fin.ext
  fin_cases c
  · show 0 + 1 * (a : ℕ) = 0; omega
  · show (h : ℕ) + 1 * (b : ℕ) = h; omega
  · show 128 * (i : ℕ) + 1 * (q : ℕ) = 128 * i + q; omega
  · show 0 + 1 * (d : ℕ) = d; omega

theorem embOs (h : Fin 4) (i : Fin 7) (a b : Fin 1) (g : Fin 4) (q : Fin 128) :
    (rectOs h i).emb (ix4 a b g q) = (ix4 0 h g ⟨128 * i + q, by omega⟩ : S1x4x4x896.Idx) := by
  funext c; apply Fin.ext
  fin_cases c
  · show 0 + 1 * (a : ℕ) = 0; omega
  · show (h : ℕ) + 1 * (b : ℕ) = h; omega
  · show 0 + 1 * (g : ℕ) = g; omega
  · show 128 * (i : ℕ) + 1 * (q : ℕ) = 128 * i + q; omega

theorem mem_is7 (i : Fin 7) : i ∈ is7 := by fin_cases i <;> simp
theorem mem_h4 (h : Fin 4) : h ∈ ([3, 2, 1, 0] : List (Fin 4)) := by fin_cases h <;> simp

/-- A tile's entry by the coordinates of the whole. -/
def tileO {e : EltTy} (P : Fin 4 → Fin 7 → (S1x1x128x128.Idx → Elt Ideal e)) (h : Fin 4) (q : Fin 896) (d : Fin 128) : Elt Ideal e :=
  P h ⟨q / 128, by omega⟩ (ix4 0 0 (⟨q % 128, by omega⟩ : Fin 128) d)

/-- The same for the scales. -/
def tileS {e : EltTy} (P : Fin 4 → Fin 7 → (S1x1x4x128.Idx → Elt Ideal e)) (h g : Fin 4) (q : Fin 896) : Elt Ideal e :=
  P h ⟨q / 128, by omega⟩ (ix4 0 0 g (⟨q % 128, by omega⟩ : Fin 128))

/-- A buffer filled by tiles, one for every head and query block. -/
theorem canon_tiles28 {e : EltTy} (L : List (View.Piece (Elt Ideal) S1x4x896x128 e)) (P : Fin 4 → Fin 7 → (S1x1x128x128.Idx → Elt Ideal e))
    (hL : ∀ p, p ∈ L ↔ ∃ h i, p = ⟨rectO h i, P h i⟩) (h : Fin 4) (q : Fin 896) (d : Fin 128) :
    canon L (ix4 0 h q d) = P h ⟨q / 128, by omega⟩ (ix4 0 0 (⟨q % 128, by omega⟩ : Fin 128) d) := by
  refine canon_apply_of_pieces (fun y : S1x4x896x128.Idx => tileO P (y 1) (y 2) (y 3)) L
    (fun p hp x => ?_) (ix4 0 h q d) ⟨⟨rectO h ⟨q / 128, by omega⟩, P h ⟨q / 128, by omega⟩⟩, (hL _).2 ⟨_, _, rfl⟩, ?_⟩
  · obtain ⟨h, i, rfl⟩ := (hL p).1 hp
    obtain ⟨a, b, q, d, rfl⟩ : ∃ (a b : Fin 1) (q d : Fin 128), x = ix4 a b q d := ⟨_, _, _, _, eq_ix4 x⟩
    obtain rfl : a = 0 := Subsingleton.elim _ _
    obtain rfl : b = 0 := Subsingleton.elim _ _
    refine Eq.trans ?_ (congrArg (fun y : S1x4x896x128.Idx => tileO P (y 1) (y 2) (y 3)) (embO h i 0 0 q d)).symm
    have e1 : i = ⟨(128 * i + q) / 128, by omega⟩ := Fin.ext (by show (i : ℕ) = (128 * i + q) / 128; omega)
    have e2 : q = ⟨(128 * i + q) % 128, by omega⟩ := Fin.ext (by show (q : ℕ) = (128 * i + q) % 128; omega)
    exact congrArg₂ (fun (i : Fin 7) (q : Fin 128) => P h i (ix4 0 0 q d)) e1 e2
  · have e : (ix4 0 h q d : S1x4x896x128.Idx) = (rectO h ⟨q / 128, by omega⟩).emb (ix4 (0 : Fin 1) (0 : Fin 1) (⟨q % 128, by omega⟩ : Fin 128) d) := by
      rw [embO]; exact congrArg (fun q => (ix4 0 h q d : S1x4x896x128.Idx)) (Fin.ext (by show (q : ℕ) = 128 * (q / 128) + q % 128; omega))
    rw [e]; exact LoadRect.idx_mem _ _

theorem canon_tiles28s {e : EltTy} (L : List (View.Piece (Elt Ideal) S1x4x4x896 e)) (P : Fin 4 → Fin 7 → (S1x1x4x128.Idx → Elt Ideal e))
    (hL : ∀ p, p ∈ L ↔ ∃ h i, p = ⟨rectOs h i, P h i⟩) (h g : Fin 4) (q : Fin 896) :
    canon L (ix4 0 h g q) = P h ⟨q / 128, by omega⟩ (ix4 0 0 g (⟨q % 128, by omega⟩ : Fin 128)) := by
  refine canon_apply_of_pieces (fun y : S1x4x4x896.Idx => tileS P (y 1) (y 2) (y 3)) L
    (fun p hp x => ?_) (ix4 0 h g q) ⟨⟨rectOs h ⟨q / 128, by omega⟩, P h ⟨q / 128, by omega⟩⟩, (hL _).2 ⟨_, _, rfl⟩, ?_⟩
  · obtain ⟨h, i, rfl⟩ := (hL p).1 hp
    obtain ⟨a, b, g, q, rfl⟩ : ∃ (a b : Fin 1) (g : Fin 4) (q : Fin 128), x = ix4 a b g q := ⟨_, _, _, _, eq_ix4 x⟩
    obtain rfl : a = 0 := Subsingleton.elim _ _
    obtain rfl : b = 0 := Subsingleton.elim _ _
    refine Eq.trans ?_ (congrArg (fun y : S1x4x4x896.Idx => tileS P (y 1) (y 2) (y 3)) (embOs h i 0 0 g q)).symm
    have e1 : i = ⟨(128 * i + q) / 128, by omega⟩ := Fin.ext (by show (i : ℕ) = (128 * i + q) / 128; omega)
    have e2 : q = ⟨(128 * i + q) % 128, by omega⟩ := Fin.ext (by show (q : ℕ) = (128 * i + q) % 128; omega)
    exact congrArg₂ (fun (i : Fin 7) (q : Fin 128) => P h i (ix4 0 0 g q)) e1 e2
  · have e : (ix4 0 h g q : S1x4x4x896.Idx) = (rectOs h ⟨q / 128, by omega⟩).emb (ix4 (0 : Fin 1) (0 : Fin 1) g (⟨q % 128, by omega⟩ : Fin 128)) := by
      rw [embOs]; exact congrArg (fun q => (ix4 0 h g q : S1x4x4x896.Idx)) (Fin.ext (by show (q : ℕ) = 128 * (q / 128) + q % 128; omega))
    rw [e]; exact LoadRect.idx_mem _ _

variable (Q : Fin 4 → Fin 7 → Vec Ideal S1x1x128x128 .bf16)

theorem mem_qcList (p) : p ∈ qcList Q ↔ ∃ h i, p = ⟨rectO h i, qCodes (Q h i)⟩ := by
  unfold qcList
  constructor
  · intro hp
    obtain ⟨i, _, hp⟩ := List.mem_flatMap.1 hp
    obtain ⟨h, _, rfl⟩ := List.mem_map.1 hp
    exact ⟨h, i, rfl⟩
  · rintro ⟨h, i, rfl⟩
    exact List.mem_flatMap.2 ⟨i, mem_is7 i, List.mem_map.2 ⟨h, mem_h4 h, rfl⟩⟩

theorem mem_qsList (p) : p ∈ qsList Q ↔ ∃ h i, p = ⟨rectOs h i, qScales (Q h i)⟩ := by
  unfold qsList
  constructor
  · intro hp
    obtain ⟨i, _, hp⟩ := List.mem_flatMap.1 hp
    obtain ⟨h, _, rfl⟩ := List.mem_map.1 hp
    exact ⟨h, i, rfl⟩
  · rintro ⟨h, i, rfl⟩
    exact List.mem_flatMap.2 ⟨i, mem_is7 i, List.mem_map.2 ⟨h, mem_h4 h, rfl⟩⟩

/-! ## The arguments -/

variable (m : (ℓ : Loc nD τ sig) → Buf (Elt Ideal) ℓ)

/-- The arguments by coordinates. -/
def aQ (c : Dev nD) (b : Fin 2) (q : Fin 896) (h : Fin 20) (d : Fin 128) : EReal := m ((c : Thread nD τ).loc main_arg0) (ix4 b q h d)
def aK (c : Dev nD) (b : Fin 2) (q : Fin 896) (h : Fin 5) (d : Fin 128) : EReal := m ((c : Thread nD τ).loc main_arg1) (ix4 b q h d)
def aV (c : Dev nD) (b : Fin 2) (q : Fin 896) (h : Fin 5) (d : Fin 128) : EReal := m ((c : Thread nD τ).loc main_arg2) (ix4 b q h d)

theorem ent0 (c : Dev nD) (b : Fin 2) (h : Fin 20) (q : Fin 896) (d : Fin 128) :
    V m c main_v0 (ix4 b h q d) = aQ m c b q h d := by
  unfold V
  simp only [hostOps0, List.flatten_cons, List.flatten_nil, List.append_nil, StableHlo.after_cons, StableHlo.after_nil]
  after_results_simp
  pointwise
  rfl

theorem ent1 (c : Dev nD) (b : Fin 2) (h : Fin 5) (q : Fin 896) (d : Fin 128) :
    V m c main_v1 (ix4 b h q d) = aK m c b q h d := by
  unfold V
  simp only [hostOps0, List.flatten_cons, List.flatten_nil, List.append_nil, StableHlo.after_cons, StableHlo.after_nil]
  after_results_simp
  pointwise
  rfl

theorem ent2 (c : Dev nD) (b : Fin 2) (h : Fin 5) (q : Fin 896) (d : Fin 128) :
    V m c main_v2 (ix4 b h q d) = aV m c b q h d := by
  unfold V
  simp only [hostOps0, List.flatten_cons, List.flatten_nil, List.append_nil, StableHlo.after_cons, StableHlo.after_nil]
  after_results_simp
  pointwise
  rfl

/-- Every window's block at a grid point. -/
theorem idx : ∀ t : Fin cfg0.N, win0_0.index t = ![t.val / 5, t.val % 5, 0, 0] ∧ win0_1.index t = ![t.val / 5, t.val % 5, 0, 0]
    ∧ win0_2.index t = ![t.val / 5, t.val % 5, 0, 0] ∧ win0_3.index t = ![t.val / 5, t.val % 5, 0, 0]
    ∧ win0_4.index t = ![t.val / 5, t.val % 5, 0, 0] ∧ win0_5.index t = ![t.val / 5, t.val % 5, 0, 0]
    ∧ win0_6.index t = ![t.val / 5, t.val % 5, 0, 0] ∧ win0_7.index t = ![t.val / 5, t.val % 5, 0, 0]
    ∧ win0_8.index t = ![t.val / 5, t.val % 5, 0, 0] ∧ win0_9.index t = ![t.val / 5, t.val % 5, 0, 0] ∧ t.val / 5 < 2 :=
  (by decide +kernel : ∀ t : Fin grid0.N, _)

/-- The batch and the key/value head of a grid point. -/
def tb (t : Fin cfg0.N) : Fin 2 := ⟨t.val / 5, (idx t).2.2.2.2.2.2.2.2.2.2⟩
def tk (t : Fin cfg0.N) : Fin 5 := ⟨t.val % 5, by omega⟩
def th (t : Fin cfg0.N) (h : Fin 4) : Fin 20 := ⟨t.val % 5 * 4 + h, by omega⟩

theorem blkQ (c : Dev nD) (t : Fin cfg0.N) (h : Fin 4) (q : Fin 896) (d : Fin 128) :
    iblk m c 0 t (ix4 0 h q d) = aQ m c (tb t) q (th t h) d := by
  refine Eq.trans ?_ (ent0 m c (tb t) (th t h) q d)
  refine congrArg (V m c main_v0) (a₁ := ((cfg0.win 0).blk t).view.emb (ix4 0 h q d)) ?_
  blk_ext [idx t, tb, th]

theorem blkK (c : Dev nD) (t : Fin cfg0.N) (q : Fin 896) (d : Fin 128) :
    iblk m c 1 t (ix4 0 0 q d) = aK m c (tb t) q (tk t) d := by
  refine Eq.trans ?_ (ent1 m c (tb t) (tk t) q d)
  refine congrArg (V m c main_v1) (a₁ := ((cfg0.win 1).blk t).view.emb (ix4 0 0 q d)) ?_
  blk_ext [idx t, tb, tk]

theorem blkV (c : Dev nD) (t : Fin cfg0.N) (q : Fin 896) (d : Fin 128) :
    iblk m c 2 t (ix4 0 0 q d) = aV m c (tb t) q (tk t) d := by
  refine Eq.trans ?_ (ent2 m c (tb t) (tk t) q d)
  refine congrArg (V m c main_v2) (a₁ := ((cfg0.win 2).blk t).view.emb (ix4 0 0 q d)) ?_
  blk_ext [idx t, tb, tk]

end Cert.KerOut
-- ==== Proof.Outs.lean ====
/-
The kernel's outputs at a grid point: the blocks its stores leave.
-/
module

public import proofs.«01_k».proof.Proof.KerOut

@[expose] public section

set_option maxRecDepth 16384

noncomputable section

namespace Cert.KerOut

open Cert.KernelIdeal Cert.KernelIdeal.Gen Cert.Body Idealize.ShloMosaic Idealize.ShloMosaic.TcCoe Idealize.SL.Sem
open Idealize.ShloMosaic.View

section Blocks

variable (c : Dev nD) (i : grid0.Coords) (arg2 : Memref sig .tc .vmem S1x4x896x128 .bf16) (harg2 : arg2.IsWhole) (arg3 : Memref sig .tc .vmem S1x1x896x128 .bf16) (harg3 : arg3.IsWhole) (arg4 : Memref sig .tc .vmem S1x1x896x128 .bf16) (harg4 : arg4.IsWhole) (arg5 : Memref sig .tc .vmem S1x4x896x128 .bf16) (harg5 : arg5.IsWhole) (arg6 : Memref sig .tc .vmem S1x4x896x128 .fp8e4m3) (harg6 : arg6.IsWhole) (arg7 : Memref sig .tc .vmem S1x4x4x896 .i8) (harg7 : arg7.IsWhole) (arg8 : Memref sig .tc .vmem S1x1x896x128 .fp8e4m3) (harg8 : arg8.IsWhole) (arg9 : Memref sig .tc .vmem S1x1x4x896 .i8) (harg9 : arg9.IsWhole) (arg10 : Memref sig .tc .vmem S1x1x896x128 .fp8e4m3) (harg10 : arg10.IsWhole) (arg11 : Memref sig .tc .vmem S1x1x28x128 .i8) (harg11 : arg11.IsWhole) (arg12 : Memref sig .tc .vmem S896x128 .f32) (harg12 : arg12.IsWhole) (arg13 : Memref sig .tc .vmem S768x128 .bf16) (harg13 : arg13.IsWhole) (arg14 : Memref sig .tc .vmem S512x128 .bf16) (harg14 : arg14.IsWhole) (arg15 : Memref sig .tc .vmem S128x768 .bf16) (harg15 : arg15.IsWhole) (arg16 : Memref sig .tc .vmem S128x512 .bf16) (harg16 : arg16.IsWhole) (arg17 : Memref sig .tc .vmem S2x896x256 .f32) (harg17 : arg17.IsWhole)
  (x0 : Vec Ideal S1x4x896x128 .bf16) (x1 : Vec Ideal S1x1x896x128 .bf16) (x2 : Vec Ideal S1x1x896x128 .bf16)

theorem out_o (y : S1x4x896x128.Idx) : out0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
    = canon (oList arg12 arg13 arg14 arg15 arg16 arg17 (ldQ arg2 harg2 x0) (ldK arg3 harg3 x1) (ldK arg4 harg4 x2)) y := by
  unfold out0_A_3
  rw [pieces_o]
  exact read_writes_junk_apply_eq_canon _ y _

theorem out_qc (y : S1x4x896x128.Idx) : out0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
    = canon (qcList (ldQ arg2 harg2 x0)) y := by
  unfold out0_A_4
  rw [pieces_qc]
  exact read_writes_junk_apply_eq_canon _ y _

theorem out_qs (y : S1x4x4x896.Idx) : out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
    = canon (qsList (ldQ arg2 harg2 x0)) y := by
  unfold out0_A_5
  rw [pieces_qs]
  exact read_writes_junk_apply_eq_canon _ y _

theorem out_kc (y : S1x1x896x128.Idx) : out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
    = kCodes x1 y := by
  unfold out0_A_6
  rw [pieces_kc, ldK_eq]
  exact (read_writes_junk_apply_eq_canon _ y _).trans (canon_full _ (fun a => by fin_cases a <;> rfl) _ _ y)

theorem out_ks (y : S1x1x4x896.Idx) : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
    = kScales x1 y := by
  unfold out0_A_7
  rw [pieces_ks, ldK_eq]
  exact (read_writes_junk_apply_eq_canon _ y _).trans (canon_full _ (fun a => by fin_cases a <;> rfl) _ _ y)

theorem out_vc (y : S1x1x896x128.Idx) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
    = vCodes x2 y := by
  unfold out0_A_8
  rw [pieces_vc, ldK_eq]
  exact (read_writes_junk_apply_eq_canon _ y _).trans (canon_full _ (fun a => by fin_cases a <;> rfl) _ _ y)

theorem out_vs (y : S1x1x28x128.Idx) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 y
    = vScales x2 y := by
  unfold out0_A_9
  rw [pieces_vs, ldK_eq]
  exact (read_writes_junk_apply_eq_canon _ y _).trans (canon_full _ (fun a => by fin_cases a <;> rfl) _ _ y)

end Blocks

variable (m : (ℓ : Loc nD τ sig) → Buf (Elt Ideal) ℓ)

/-- The attention's stores at a grid point. -/
def stores (c : Dev nD) (t : Fin cfg0.N) : List (View.Piece (Elt Ideal) S1x4x896x128 .bf16) :=
  oList scM0_0 scM0_1 scM0_2 scM0_3 scM0_4 scM0_5 (ldQ (ms0_0 t) (hs0_0 t) (iblk m c 0 t)) (iblk m c 1 t) (iblk m c 2 t)

theorem outs_o (c : Dev nD) (t : Fin cfg0.N) (y : S1x4x896x128.Idx) : (outsAt0 m c t).1 y = canon (stores m c t) y := by
  unfold outsAt0
  dsimp only
  unfold stores
  rw [out_o, ldK_eq, ldK_eq]

theorem outs_qc (c : Dev nD) (t : Fin cfg0.N) (y : S1x4x896x128.Idx) : (outsAt0 m c t).2.1 y = canon (qcList (ldQ (ms0_0 t) (hs0_0 t) (iblk m c 0 t))) y := by
  unfold outsAt0
  dsimp only
  rw [out_qc]

theorem outs_qs (c : Dev nD) (t : Fin cfg0.N) (y : S1x4x4x896.Idx) : (outsAt0 m c t).2.2.1 y = canon (qsList (ldQ (ms0_0 t) (hs0_0 t) (iblk m c 0 t))) y := by
  unfold outsAt0
  dsimp only
  rw [out_qs]

theorem outs_kc (c : Dev nD) (t : Fin cfg0.N) (y : S1x1x896x128.Idx) : (outsAt0 m c t).2.2.2.1 y = kCodes (iblk m c 1 t) y := by
  unfold outsAt0
  dsimp only
  rw [out_kc]

theorem outs_ks (c : Dev nD) (t : Fin cfg0.N) (y : S1x1x4x896.Idx) : (outsAt0 m c t).2.2.2.2.1 y = kScales (iblk m c 1 t) y := by
  unfold outsAt0
  dsimp only
  rw [out_ks]

theorem outs_vc (c : Dev nD) (t : Fin cfg0.N) (y : S1x1x896x128.Idx) : (outsAt0 m c t).2.2.2.2.2.1 y = vCodes (iblk m c 2 t) y := by
  unfold outsAt0
  dsimp only
  rw [out_vc]

theorem outs_vs (c : Dev nD) (t : Fin cfg0.N) (y : S1x1x28x128.Idx) : (outsAt0 m c t).2.2.2.2.2.2 y = vScales (iblk m c 2 t) y := by
  unfold outsAt0
  dsimp only
  rw [out_vs]

end Cert.KerOut
-- ==== Proof.KerArr.lean ====
/-
The kernel's result arrays of codes and scales.
-/
module

public import proofs.«01_k».proof.Proof.Outs

@[expose] public section

set_option maxRecDepth 16384

noncomputable section

namespace Cert.KerOut

open Cert.KernelIdeal Cert.KernelIdeal.Gen Cert.Body Idealize.ShloMosaic Idealize.ShloMosaic.TcCoe Idealize.SL.Sem
open Idealize.ShloMosaic.View

variable (m : (ℓ : Loc nD τ sig) → Buf (Elt Ideal) ℓ)

/-! ## Codes and scales by coordinates -/

def qcd (c : Dev nD) (b : Fin 2) (h : Fin 20) (q : Fin 896) (d : Fin 128) : EReal :=
  Grp.cd (Arg.qg (aQ m c) b h q) ⟨d / 32, by omega⟩ ⟨d % 32, by omega⟩
def kcd (c : Dev nD) (b : Fin 2) (h : Fin 5) (q : Fin 896) (d : Fin 128) : EReal :=
  Grp.cd (Arg.kg (aK m c) b h q) ⟨d / 32, by omega⟩ ⟨d % 32, by omega⟩
def vcd (c : Dev nD) (b : Fin 2) (h : Fin 5) (q : Fin 896) (d : Fin 128) : EReal :=
  Grp.cd (Arg.vg (aV m c) b h d) ⟨q / 32, by omega⟩ ⟨q % 32, by omega⟩
def qsb (c : Dev nD) (b : Fin 2) (h : Fin 20) (g : Fin 4) (q : Fin 896) : BitVec 8 := Arg.byte (Arg.qg (aQ m c) b h q) g
def ksb (c : Dev nD) (b : Fin 2) (h : Fin 5) (g : Fin 4) (q : Fin 896) : BitVec 8 := Arg.byte (Arg.kg (aK m c) b h q) g
def vsb (c : Dev nD) (b : Fin 2) (h : Fin 5) (g : Fin 28) (d : Fin 128) : BitVec 8 := Arg.byte (Arg.vg (aV m c) b h d) g

/-! ## The loaded rows -/

/-- The query tiles of a grid point. -/
abbrev tQ (c : Dev nD) (t : Fin cfg0.N) : Fin 4 → Fin 7 → Vec Ideal S1x1x128x128 .bf16 := ldQ (ms0_0 t) (hs0_0 t) (iblk m c 0 t)

theorem rowQ (c : Dev nD) (t : Fin cfg0.N) (h : Fin 4) (i : Fin 7) (q : Fin 128) :
    (Grp.row4 fun d => tQ m c t h i (ix4 0 0 q d)) = Arg.qg (aQ m c) (tb t) (th t h) ⟨128 * i + q, by omega⟩ :=
  congrArg Grp.row4 (funext fun d => (ldQ_apply _ _ _ h i q d).trans (blkQ m c t h _ d))

theorem rowK (c : Dev nD) (t : Fin cfg0.N) (s : Fin 896) : Grp.row4 (cen (iblk m c 1 t) s) = Arg.kg (aK m c) (tb t) (tk t) s :=
  congrArg Grp.row4 (funext fun d => congrArg₂ (fun x y : EReal => x - y * ((1 / 896 : ℝ) : EReal)) (blkK m c t s d)
    (Finset.sum_congr rfl fun s _ => blkK m c t s d))

theorem colV (c : Dev nD) (t : Fin cfg0.N) (d : Fin 128) :
    (Grp.col28 fun s => iblk m c 2 t (ix4 0 0 s d)) = Arg.vg (aV m c) (tb t) (tk t) d :=
  congrArg Grp.col28 (funext fun s => blkV m c t s d)

theorem divmod (q : Fin 896) : (⟨128 * ((⟨q / 128, by omega⟩ : Fin 7) : ℕ) + ((⟨q % 128, by omega⟩ : Fin 128) : ℕ), by
    show 128 * ((q : ℕ) / 128) + q % 128 < 896; omega⟩ : Fin 896) = q :=
  Fin.ext (by show 128 * ((q : ℕ) / 128) + q % 128 = q; omega)

/-! ## The arrays -/

theorem q_codes (c : Dev nD) : (dats m 0 c).arrAt 4 cfg0.N = fun j : S2x20x896x128.Idx => qcd m c (j 0) (j 1) (j 2) (j 3) := by
  refine (dats m 0 c).arrAt_eq_of_covers 4 (fun j : S2x20x896x128.Idx => qcd m c (j 0) (j 1) (j 2) (j 3)) (by decide +kernel) fun t hf y => ?_
  blk_simp
  rw [after0_4]
  obtain ⟨a, h, q, d, rfl⟩ : ∃ (a : Fin 1) (h : Fin 4) (q : Fin 896) (d : Fin 128), y = ix4 a h q d := ⟨_, _, _, _, eq_ix4 y⟩
  obtain rfl : a = 0 := Subsingleton.elim _ _
  have e : ((cfg0.win 4).blk t).view.emb (ix4 0 h q d) = (ix4 (tb t) (th t h) q d : S2x20x896x128.Idx) := by
    blk_ext [idx t, tb, th]
  refine Eq.trans ?_ (congrArg (fun j : S2x20x896x128.Idx => qcd m c (j 0) (j 1) (j 2) (j 3)) e).symm
  refine (outs_qc m c t _).trans ((canon_tiles28 _ _ (mem_qcList _) h q d).trans ((qCodes_apply _ _ d).trans ?_))
  show Grp.cd _ _ _ = Grp.cd _ _ _
  rw [rowQ, divmod]
  rfl

theorem q_scales (c : Dev nD) : (dats m 0 c).arrAt 5 cfg0.N = fun j : S2x20x4x896.Idx => qsb m c (j 0) (j 1) (j 2) (j 3) := by
  refine (dats m 0 c).arrAt_eq_of_covers 5 (fun j : S2x20x4x896.Idx => qsb m c (j 0) (j 1) (j 2) (j 3)) (by decide +kernel) fun t hf y => ?_
  blk_simp
  rw [after0_5]
  obtain ⟨a, h, g, q, rfl⟩ : ∃ (a : Fin 1) (h : Fin 4) (g : Fin 4) (q : Fin 896), y = ix4 a h g q := ⟨_, _, _, _, eq_ix4 y⟩
  obtain rfl : a = 0 := Subsingleton.elim _ _
  have e : ((cfg0.win 5).blk t).view.emb (ix4 0 h g q) = (ix4 (tb t) (th t h) g q : S2x20x4x896.Idx) := by
    blk_ext [idx t, tb, th]
  refine Eq.trans ?_ (congrArg (fun j : S2x20x4x896.Idx => qsb m c (j 0) (j 1) (j 2) (j 3)) e).symm
  refine (outs_qs m c t _).trans ((canon_tiles28s _ _ (mem_qsList _) h g q).trans ((qScales_apply _ g _).trans ?_))
  show Arg.byte _ _ = Arg.byte _ _
  rw [rowQ, divmod]
  rfl

theorem k_codes (c : Dev nD) : (dats m 0 c).arrAt 6 cfg0.N = fun j : S2x5x896x128.Idx => kcd m c (j 0) (j 1) (j 2) (j 3) := by
  refine (dats m 0 c).arrAt_eq_of_covers 6 (fun j : S2x5x896x128.Idx => kcd m c (j 0) (j 1) (j 2) (j 3)) (by decide +kernel) fun t hf y => ?_
  blk_simp
  rw [after0_6]
  obtain ⟨a, h, q, d, rfl⟩ : ∃ (a : Fin 1) (h : Fin 1) (q : Fin 896) (d : Fin 128), y = ix4 a h q d := ⟨_, _, _, _, eq_ix4 y⟩
  obtain rfl : a = 0 := Subsingleton.elim _ _
  obtain rfl : h = 0 := Subsingleton.elim _ _
  have e : ((cfg0.win 6).blk t).view.emb (ix4 0 0 q d) = (ix4 (tb t) (tk t) q d : S2x5x896x128.Idx) := by
    blk_ext [idx t, tb, tk]
  refine Eq.trans ?_ (congrArg (fun j : S2x5x896x128.Idx => kcd m c (j 0) (j 1) (j 2) (j 3)) e).symm
  refine (outs_kc m c t _).trans ((kCodes_apply _ q d).trans ?_)
  rw [rowK]
  rfl

theorem k_scales (c : Dev nD) : (dats m 0 c).arrAt 7 cfg0.N = fun j : S2x5x4x896.Idx => ksb m c (j 0) (j 1) (j 2) (j 3) := by
  refine (dats m 0 c).arrAt_eq_of_covers 7 (fun j : S2x5x4x896.Idx => ksb m c (j 0) (j 1) (j 2) (j 3)) (by decide +kernel) fun t hf y => ?_
  blk_simp
  rw [after0_7]
  obtain ⟨a, h, g, q, rfl⟩ : ∃ (a : Fin 1) (h : Fin 1) (g : Fin 4) (q : Fin 896), y = ix4 a h g q := ⟨_, _, _, _, eq_ix4 y⟩
  obtain rfl : a = 0 := Subsingleton.elim _ _
  obtain rfl : h = 0 := Subsingleton.elim _ _
  have e : ((cfg0.win 7).blk t).view.emb (ix4 0 0 g q) = (ix4 (tb t) (tk t) g q : S2x5x4x896.Idx) := by
    blk_ext [idx t, tb, tk]
  refine Eq.trans ?_ (congrArg (fun j : S2x5x4x896.Idx => ksb m c (j 0) (j 1) (j 2) (j 3)) e).symm
  refine (outs_ks m c t _).trans ((kScales_apply _ g q).trans ?_)
  rw [rowK]
  rfl

theorem v_codes (c : Dev nD) : (dats m 0 c).arrAt 8 cfg0.N = fun j : S2x5x896x128.Idx => vcd m c (j 0) (j 1) (j 2) (j 3) := by
  refine (dats m 0 c).arrAt_eq_of_covers 8 (fun j : S2x5x896x128.Idx => vcd m c (j 0) (j 1) (j 2) (j 3)) (by decide +kernel) fun t hf y => ?_
  blk_simp
  rw [after0_8]
  obtain ⟨a, h, q, d, rfl⟩ : ∃ (a : Fin 1) (h : Fin 1) (q : Fin 896) (d : Fin 128), y = ix4 a h q d := ⟨_, _, _, _, eq_ix4 y⟩
  obtain rfl : a = 0 := Subsingleton.elim _ _
  obtain rfl : h = 0 := Subsingleton.elim _ _
  have e : ((cfg0.win 8).blk t).view.emb (ix4 0 0 q d) = (ix4 (tb t) (tk t) q d : S2x5x896x128.Idx) := by
    blk_ext [idx t, tb, tk]
  refine Eq.trans ?_ (congrArg (fun j : S2x5x896x128.Idx => vcd m c (j 0) (j 1) (j 2) (j 3)) e).symm
  refine (outs_vc m c t _).trans ((vCodes_apply _ q d).trans ?_)
  rw [colV]
  rfl

theorem v_scales (c : Dev nD) : (dats m 0 c).arrAt 9 cfg0.N = fun j : S2x5x28x128.Idx => vsb m c (j 0) (j 1) (j 2) (j 3) := by
  refine (dats m 0 c).arrAt_eq_of_covers 9 (fun j : S2x5x28x128.Idx => vsb m c (j 0) (j 1) (j 2) (j 3)) (by decide +kernel) fun t hf y => ?_
  blk_simp
  rw [after0_9]
  obtain ⟨a, h, g, d, rfl⟩ : ∃ (a : Fin 1) (h : Fin 1) (g : Fin 28) (d : Fin 128), y = ix4 a h g d := ⟨_, _, _, _, eq_ix4 y⟩
  obtain rfl : a = 0 := Subsingleton.elim _ _
  obtain rfl : h = 0 := Subsingleton.elim _ _
  have e : ((cfg0.win 9).blk t).view.emb (ix4 0 0 g d) = (ix4 (tb t) (tk t) g d : S2x5x28x128.Idx) := by
    blk_ext [idx t, tb, tk]
  refine Eq.trans ?_ (congrArg (fun j : S2x5x28x128.Idx => vsb m c (j 0) (j 1) (j 2) (j 3)) e).symm
  refine (outs_vs m c t _).trans ((vScales_apply _ g d).trans ?_)
  rw [colV]
  rfl

end Cert.KerOut
-- ==== Proof.Lane.lean ====
/-
The tile operations of the attention part, read entry by entry.
-/
module

public import proofs.«01_k».proof.Proof.Quant
public import Idealize.ShloMosaic.Lib.Pointwise

@[expose] public section

set_option maxRecDepth 16384

noncomputable section

namespace Cert.Lane

open Cert.KernelIdeal Cert.KernelIdeal.Gen Cert.Body Idealize.ShloMosaic Idealize.ShloMosaic.TcCoe Idealize.SL.Sem

theorem swap2_apply (g : FVec Ideal S8x256 .f32) (r : Fin 8) (L : Fin 256) :
    swap2 g (ix2 r L) = g (ix2 (⟨if (r : ℕ) % 2 = 0 then r + 1 else r - 1, by split_ifs <;> omega⟩ : Fin 8) L) := by
  pointwise [swap2, roll, modI, sub]
  fin_cases r <;> rfl

theorem swap4_apply (g : FVec Ideal S8x256 .f32) (r : Fin 8) (L : Fin 256) :
    swap4 g (ix2 r L) = g (ix2 (⟨if (r : ℕ) % 4 < 2 then r + 2 else r - 2, by split_ifs <;> omega⟩ : Fin 8) L) := by
  pointwise [swap4, roll, modI, sub]
  fin_cases r <;> rfl

theorem roll_apply (n : ℕ) (hn : n < 8) (g : FVec Ideal S8x256 .f32) (r : Fin 8) (L : Fin 256) :
    roll (BitVec.ofNat 32 n) g (ix2 r L) = g (ix2 (⟨(r + 8 - n) % 8, by omega⟩ : Fin 8) L) := by
  pointwise [roll]
  have e : (BitVec.ofNat 32 n).toNat % 8 = n := by rw [BitVec.toNat_ofNat]; omega
  simp only [e]

theorem qpos_apply (r : Fin 8) (L : Fin 256) : qpos (ix2 r L) = BitVec.ofNat 32 (L % 128) := by
  pointwise [qpos, modI]
  clear r
  revert L
  decide +kernel

theorem word256 : ∀ (r : Fin 8) (j : Fin 32), (IntOp.addi (IntOp.addi (4294967168#32) (IntOp.muli (32#32) (BitVec.ofNat 32 r))) (BitVec.ofNat 32 j)).toInt
    = 32 * (r : ℤ) + j - 128 := by decide +kernel

theorem word128 : ∀ (r : Fin 8) (j : Fin 16), (IntOp.addi (IntOp.addi (0#32) (IntOp.muli (16#32) (BitVec.ofNat 32 r))) (BitVec.ofNat 32 j)).toInt
    = 16 * (r : ℤ) + j := by decide +kernel

theorem sle_select {α : Type} (x y : BitVec 32) (a b : α) :
    Scalar.select (IntOp.cmpi .sle x y) a b = if x.toInt ≤ y.toInt then a else b := by
  unfold Scalar.select IntOp.cmpi
  by_cases h : x.toInt ≤ y.toInt <;> simp [BitVec.sle, h]

theorem mask256 (x : FVec Ideal S32x8x256 .f32) (qp : IVec S8x256 32) (j : Fin 32) (r : Fin 8) (L : Fin 256)
    (hq : qp (ix2 r L) = BitVec.ofNat 32 (L % 128)) :
    select (cmpi .sle
      (addi (broadcastTo S32x8x256 (shapeCast S1x8x256 (addi (broadcast S8x256 4294967168#32) (muli (broadcast S8x256 32#32) sub))
        shapeCasts_S8x256_S1x8x256) broadcasts_S1x8x256_S32x8x256) (iota .tc S32x8x256 32 [0] iota_S32x8x256_d0_w32))
      (broadcastTo S32x8x256 (shapeCast S1x8x256 qp shapeCasts_S8x256_S1x8x256) broadcasts_S1x8x256_S32x8x256))
      x (broadcast S32x8x256 (Scalar.ofBits .f32 0xFF800000#32)) (ix3 j r L)
    = if 32 * (r : ℕ) + j ≤ 128 + L % 128 then (x (ix3 j r L) : EReal) else (⊥ : EReal) := by
  pointwise [sub]
  rw [hq, Spec.ofBits_bot, sle_select, word256, Quant.toInt_ofNat _ (by omega)]
  congr 1
  apply propext; push_cast; omega

theorem mask128 (x : FVec Ideal S16x8x256 .f32) (qp : IVec S8x256 32) (j : Fin 16) (r : Fin 8) (L : Fin 256)
    (hq : qp (ix2 r L) = BitVec.ofNat 32 (L % 128)) :
    select (cmpi .sle
      (addi (broadcastTo S16x8x256 (shapeCast S1x8x256 (addi (broadcast S8x256 0#32) (muli (broadcast S8x256 16#32) sub))
        shapeCasts_S8x256_S1x8x256) broadcasts_S1x8x256_S16x8x256) (iota .tc S16x8x256 32 [0] iota_S16x8x256_d0_w32))
      (broadcastTo S16x8x256 (shapeCast S1x8x256 qp shapeCasts_S8x256_S1x8x256) broadcasts_S1x8x256_S16x8x256))
      x (broadcast S16x8x256 (Scalar.ofBits .f32 0xFF800000#32)) (ix3 j r L)
    = if 16 * (r : ℕ) + j ≤ L % 128 then (x (ix3 j r L) : EReal) else (⊥ : EReal) := by
  pointwise [sub]
  rw [hq, Spec.ofBits_bot, sle_select, word128, Quant.toInt_ofNat _ (by omega)]
  congr 1
  apply propext; push_cast; omega

theorem mm256 (A : FVec Ideal S256x128 .bf16) (B : FVec Ideal S128x256 .bf16) (j : Fin 32) (r : Fin 8) (L : Fin 256) :
    shapeCast S32x8x256 (matmul dot_S256x128_S128x256_S256x256_1_0_0_1_n_n none A B (constant S256x256 .f32 0x00000000#32))
      shapeCasts_S256x256_S32x8x256 (ix3 j r L)
    = ∑ d : Fin 128, (A (ix2 (⟨j * 8 + r, by omega⟩ : Fin 256) d) : EReal) * B (ix2 d L) := by
  pointwise

theorem mm128 (A : FVec Ideal S128x128 .bf16) (B : FVec Ideal S128x256 .bf16) (j : Fin 16) (r : Fin 8) (L : Fin 256) :
    shapeCast S16x8x256 (matmul dot_S128x128_S128x256_S128x256_1_0_0_1_n_n none A B (constant S128x256 .f32 0x00000000#32))
      shapeCasts_S128x256_S16x8x256 (ix3 j r L)
    = ∑ d : Fin 128, (A (ix2 (⟨j * 8 + r, by omega⟩ : Fin 128) d) : EReal) * B (ix2 d L) := by
  pointwise

theorem k_c : (Named.named (F := Ideal) (φ := .f32) κ "c" 0x3E0293EE#32 : EReal) = (((Real.sqrt 128)⁻¹ * (Real.log 2)⁻¹ : ℝ) : EReal) := rfl

theorem k_inv_c : (Named.named (F := Ideal) (φ := .f32) κ "inv_c" 0x40FAF233#32 : EReal) = ((Real.sqrt 128 * Real.log 2 : ℝ) : EReal) := rfl

theorem k_log2_6 : (Named.named (F := Ideal) (φ := .f32) κ "log2_6" 0x40257007#32 : EReal) = ((Real.log 6 * (Real.log 2)⁻¹ : ℝ) : EReal) := rfl

theorem k_sixth : (Named.named (F := Ideal) (φ := .f32) κ "sixth" 0x3E2AAAAB#32 : EReal) = ((1 / 6 : ℝ) : EReal) := rfl

theorem sixE_apply (g b : FVec Ideal S8x256 .f32) (r : Fin 8) (L : Fin 256) :
    (mulf (fc S8x256 0x40C00000#32) (exp2 (mulf (subf g b) (cC S8x256))) (ix2 r L) : EReal)
      = ((6 : ℝ) : EReal) * Ideal.exp2 (((g (ix2 r L) : EReal) - b (ix2 r L)) * (((Real.sqrt 128)⁻¹ * (Real.log 2)⁻¹ : ℝ) : EReal)) := by
  pointwise
  rw [Spec.ofBits_six, k_c]
  rfl

theorem pCode_apply (g b : FVec Ideal S8x256 .f32) (r : Fin 8) (L : Fin 256)
    (h : 0 ≤ ((6 : ℝ) : EReal) * Ideal.exp2 (((g (ix2 r L) : EReal) - b (ix2 r L)) * (((Real.sqrt 128)⁻¹ * (Real.log 2)⁻¹ : ℝ) : EReal))) :
    pCode g b (ix2 r L) = BitVec.ofNat 32 (Spec.codeN (((6 : ℝ) : EReal)
      * Ideal.exp2 (((g (ix2 r L) : EReal) - b (ix2 r L)) * (((Real.sqrt 128)⁻¹ * (Real.log 2)⁻¹ : ℝ) : EReal)))) := by
  unfold pCode
  have e := sixE_apply g b r L
  generalize (mulf (fc S8x256 0x40C00000#32) (exp2 (mulf (subf g b) (cC S8x256)))) = y at e
  rw [← e] at h ⊢
  exact Quant.codeOf_apply _ _ _ _ _ (Quant.expo_8_256 _ _ _ _ h)

theorem sub_word (n : ℕ) (hn : n ≤ 252) : (FloatOps.sitofp (F := Ideal) FTy.f32 (IntOp.subi (BitVec.ofNat 32 n) 127#32) : EReal) = (((n : ℝ) - 127 : ℝ) : EReal) := by
  show (((IntOp.subi (BitVec.ofNat 32 n) 127#32).toInt : ℝ) : EReal) = _
  have e : (IntOp.subi (BitVec.ofNat 32 n) 127#32).toInt = (n : ℤ) - 127 := by
    have : ∀ k : Fin 253, (IntOp.subi (BitVec.ofNat 32 k) 127#32).toInt = (k : ℤ) - 127 := by decide +kernel
    exact this ⟨n, by omega⟩
  rw [e]; push_cast; rfl

theorem tOf_apply (g b : FVec Ideal S8x256 .f32) (r : Fin 8) (L : Fin 256) (n : ℕ) (hn : n ≤ 252)
    (h : pCode g b (ix2 r L) = BitVec.ofNat 32 n) :
    (tOf g b (ix2 r L) : EReal) = (b (ix2 r L) : EReal)
      - (((Real.log 6 * (Real.log 2)⁻¹ : ℝ) : EReal) - (((n : ℝ) - 127 : ℝ) : EReal)) * ((Real.sqrt 128 * Real.log 2 : ℝ) : EReal) := by
  unfold tOf
  generalize pCode g b = e at h
  pointwise
  rw [h, sub_word n hn, k_log2_6, k_inv_c]

theorem fOf_apply (g b m : FVec Ideal S8x256 .f32) (r : Fin 8) (L : Fin 256) (n : ℕ) (hn : n ≤ 252)
    (h : pCode g b (ix2 r L) = BitVec.ofNat 32 n) :
    (fOf g b m (ix2 r L) : EReal) = Ideal.exp2 (((b (ix2 r L) : EReal) - m (ix2 r L)) * (((Real.sqrt 128)⁻¹ * (Real.log 2)⁻¹ : ℝ) : EReal))
      * ((1 / 6 : ℝ) : EReal) * ((Spec.pw n : ℝ) : EReal) := by
  unfold fOf
  generalize pCode g b = e at h
  pointwise [scOf]
  rw [h, k_c, k_sixth, Quant.sc_word n (by omega)]
  rfl

theorem yOf_apply (s : Vec Ideal S1x64x256 .f32) (t : FVec Ideal S8x256 .f32) (a r : Fin 8) (L : Fin 256) :
    (yOf s t (ix3 a r L) : EReal) = Ideal.exp2 (((s (ix3 0 (⟨a * 8 + r, by omega⟩ : Fin 64) L) : EReal) - t (ix2 r L))
      * (((Real.sqrt 128)⁻¹ * (Real.log 2)⁻¹ : ℝ) : EReal)) := by
  pointwise [yOf]
  rw [k_c]
  rfl

theorem ySum_apply (y : FVec Ideal S8x8x256 .f32) (r : Fin 8) (L : Fin 256) :
    ySum y (ix2 r L) = ∑ a : Fin 8, (y (ix3 a r L) : EReal) := by
  pointwise [ySum]

theorem yC_apply (y : FVec Ideal S8x8x256 .f32) (w : Fin 64) (L : Fin 256) :
    yC y (ix2 w L) = Spec.fp4S (y (ix3 (⟨w / 8, by omega⟩ : Fin 8) (⟨w % 8, by omega⟩ : Fin 8) L)) := by
  rw [yC, Quant.fp4_apply]
  pointwise

theorem twice_apply (x : FVec Ideal S8x256 .f32) (w : Fin 16) (L : Fin 256) :
    twice x (ix2 w L) = x (ix2 (⟨w % 8, by omega⟩ : Fin 8) L) := by
  pointwise [twice]
  by_cases h : (w : ℕ) < 8
  · rw [dif_pos h]
    exact congrArg (fun a => x (ix2 a L)) (Fin.ext (show (w : ℕ) = w % 8 by omega))
  · rw [dif_neg h]
    exact congrArg (fun a => x (ix2 a L)) (Fin.ext (show (w : ℕ) - 8 = w % 8 by omega))

theorem perm256_cat (f : Fin 32 → Vec Ideal S8x128 .f32) (h) (w : Fin 256) (d : Fin 128) :
    concatenate S256x128 0 (js32.map fun j => (⟨S8x128, f j⟩ : (s : Shape) × Vec Ideal s .f32)) h (ix2 w d)
      = f ⟨w / 8, by omega⟩ (ix2 (⟨w % 8, by omega⟩ : Fin 8) d) :=
  concatenate_ofFn_apply (t := S256x128) (s₁ := S8x128) 0 f h rfl 8 rfl (ix2 w d) ⟨w / 8, by omega⟩ rfl _ rfl fun b hb => by
    fin_cases b
    · exact absurd rfl hb
    · rfl

theorem perm128_cat (f : Fin 16 → Vec Ideal S8x128 .f32) (h) (w : Fin 128) (d : Fin 128) :
    concatenate S128x128 0 (js16.map fun j => (⟨S8x128, f j⟩ : (s : Shape) × Vec Ideal s .f32)) h (ix2 w d)
      = f ⟨w / 8, by omega⟩ (ix2 (⟨w % 8, by omega⟩ : Fin 8) d) :=
  concatenate_ofFn_apply (t := S128x128) (s₁ := S8x128) 0 f h rfl 8 rfl (ix2 w d) ⟨w / 8, by omega⟩ rfl _ rfl fun b hb => by
    fin_cases b
    · exact absurd rfl hb
    · rfl

theorem cat4 (f : Fin 4 → FVec Ideal S64x256 .bf16) (h) (w : Fin 256) (L : Fin 256) :
    concatenate S256x256 0 [⟨S64x256, f 0⟩, ⟨S64x256, f 1⟩, ⟨S64x256, f 2⟩, ⟨S64x256, f 3⟩] h (ix2 w L)
      = f ⟨w / 64, by omega⟩ (ix2 (⟨w % 64, by omega⟩ : Fin 64) L) :=
  concatenate_ofFn_apply (t := S256x256) (s₁ := S64x256) 0 f h rfl 64 rfl (ix2 w L) ⟨w / 64, by omega⟩ rfl _ rfl fun b hb => by
    fin_cases b
    · exact absurd rfl hb
    · rfl

theorem cat2 (f : Fin 2 → FVec Ideal S64x256 .bf16) (h) (w : Fin 128) (L : Fin 256) :
    concatenate S128x256 0 [⟨S64x256, f 0⟩, ⟨S64x256, f 1⟩] h (ix2 w L)
      = f ⟨w / 64, by omega⟩ (ix2 (⟨w % 64, by omega⟩ : Fin 64) L) :=
  concatenate_ofFn_apply (t := S128x256) (s₁ := S64x256) 0 f h rfl 64 rfl (ix2 w L) ⟨w / 64, by omega⟩ rfl _ rfl fun b hb => by
    fin_cases b
    · exact absurd rfl hb
    · rfl

theorem oT_apply (A : FVec Ideal S128x256 .f32) (l : FVec Ideal S8x256 .f32) (d : Fin 128) (L : Fin 256) :
    shapeCast S128x256 (mulf (shapeCast S16x8x256 A shapeCasts_S128x256_S16x8x256)
      (broadcastTo S16x8x256 (shapeCast S1x8x256 (divf (fc S8x256 0x3F800000#32) l)
        shapeCasts_S8x256_S1x8x256) broadcasts_S1x8x256_S16x8x256)) shapeCasts_S16x8x256_S128x256 (ix2 d L)
    = (A (ix2 d L) : EReal) * Ideal.div 1 (l (ix2 (⟨d % 8, by omega⟩ : Fin 8) L)) := by
  pointwise

theorem o0_apply (A : FVec Ideal S128x256 .f32) (a b : Fin 1) (q d : Fin 128) :
    shapeCast S1x1x128x128 (transpose S128x128 [1, 0] (truncf .bf16 (extractStridedSlice S128x128 ![0, 0]
      A slices_S128x256_o0_0_S128x128) bitsLt_bf16_f32)
      transposes_S128x128_p1_0_S128x128) shapeCasts_S128x128_S1x1x128x128 (ix4 a b q d) = A (ix2 d (⟨q, by omega⟩ : Fin 256)) := by
  pointwise

theorem o1_apply (A : FVec Ideal S128x256 .f32) (a b : Fin 1) (q d : Fin 128) :
    shapeCast S1x1x128x128 (transpose S128x128 [1, 0] (truncf .bf16 (extractStridedSlice S128x128 ![0, 128]
      A slices_S128x256_o0_128_S128x128) bitsLt_bf16_f32)
      transposes_S128x128_p1_0_S128x128) shapeCasts_S128x128_S1x1x128x128 (ix4 a b q d) = A (ix2 d (⟨128 + q, by omega⟩ : Fin 256)) := by
  pointwise

theorem mv256 (A : FVec Ideal S128x256 .bf16) (C : FVec Ideal S256x256 .bf16) (h : FVec Ideal S16x256 .bf16) (d : Fin 128) (L : Fin 256) :
    matmul dot_S128x256_S256x256_S128x256_1_0_0_1_n_n none A (shapeCast S256x256 (mulf (shapeCast S16x16x256 C shapeCasts_S256x256_S16x16x256)
        (broadcastTo S16x16x256 (shapeCast S1x16x256 h shapeCasts_S16x256_S1x16x256) broadcasts_S1x16x256_S16x16x256))
        shapeCasts_S16x16x256_S256x256) (constant S128x256 .f32 0x00000000#32) (ix2 d L)
    = ∑ w : Fin 256, (A (ix2 d w) : EReal) * (C (ix2 w L) * h (ix2 (⟨w % 16, by omega⟩ : Fin 16) L)) := by
  pointwise

theorem mv128 (A : FVec Ideal S128x128 .bf16) (C : FVec Ideal S128x256 .bf16) (h : FVec Ideal S16x256 .bf16) (d : Fin 128) (L : Fin 256) :
    matmul dot_S128x128_S128x256_S128x256_1_0_0_1_n_n none A
      (shapeCast S128x256 (mulf (shapeCast S8x16x256 C shapeCasts_S128x256_S8x16x256)
        (broadcastTo S8x16x256 (shapeCast S1x16x256 h shapeCasts_S16x256_S1x16x256) broadcasts_S1x16x256_S8x16x256))
        shapeCasts_S8x16x256_S128x256) (constant S128x256 .f32 0x00000000#32) (ix2 d L)
    = ∑ w : Fin 128, (A (ix2 d w) : EReal) * (C (ix2 w L) * h (ix2 (⟨w % 16, by omega⟩ : Fin 16) L)) := by
  pointwise

end Cert.Lane
-- ==== Proof.Row.lean ====
/-
One row of attention.

For one query, its 896 masked scores and the 896 numbers of one value column, the reference's output number: the row's
weights are quantised in groups of 32 with a scale taken within blocks of 64, and normalised by the sum of the weights
whose group keeps a nonzero scale.
-/
module

public import proofs.«01_k».proof.Proof.Scalars

@[expose] public section

noncomputable section

namespace Cert.Row

open Idealize.ShloMosaic

variable (s : Fin 896 → EReal)

/-- The key at place `j` of block `n`. -/
def k64 (n : Fin 14) (j : Fin 64) : Fin 896 := ⟨n * 64 + j, by omega⟩

/-- The key at place `r` of group `g`. -/
def k32 (g : Fin 28) (r : Fin 32) : Fin 896 := ⟨g * 32 + r, by omega⟩

/-- The row maximum. -/
def m : EReal := Finset.univ.fold max ⊥ s

/-- The maximum of a block. -/
def bm (n : Fin 14) : EReal := Finset.univ.fold max ⊥ fun j => s (k64 n j)

/-- The maximum of a block, the row maximum where the block is masked. -/
def bm0 (n : Fin 14) : EReal := if bm s n = ⊥ then m s else bm s n

/-- The weight of a key within its block, times six. -/
def p2 (κ : Fin 896) : EReal := ((6 : ℝ) : EReal) * Ideal.exp (s κ - bm0 s ⟨κ / 64, by omega⟩)

/-- The code of a group's scale. -/
def code (g : Fin 28) : ℕ := Spec.codeN (Spec.amx fun r : Fin 32 => p2 s (k32 g r))

/-- The quantised weight. -/
def wt (κ : Fin 896) : EReal :=
  Spec.fp4S (p2 s κ * ((Spec.invN (code s ⟨κ / 32, by omega⟩) : ℝ) : EReal)) * ((Spec.pw (code s ⟨κ / 32, by omega⟩) : ℝ) : EReal)

/-- A block's factor. -/
def s1 (n : Fin 14) : EReal := Ideal.div (Ideal.exp (bm0 s n - m s)) ((6 : ℝ) : EReal)

/-- A key's part of the normaliser. -/
def en (κ : Fin 896) : EReal := if 0 < code s ⟨κ / 32, by omega⟩ then Ideal.exp (s κ - m s) else 0

/-- The normaliser. -/
def l : EReal := ∑ g : Fin 28, ∑ r : Fin 32, en s (k32 g r)

/-- The output number. -/
def out (v : Fin 896 → EReal) : EReal :=
  Ideal.div (∑ n : Fin 14, s1 s n * ∑ j : Fin 64, wt s (k64 n j) * v (k64 n j)) (l s)

end Cert.Row
-- ==== Proof.KRow.lean ====
/-
One row of attention as the kernel computes it.

The kernel never divides the scores by the square root of the head size: it folds that factor into the base-two
exponent, moves a group's scale and the factor six into the exponent too, multiplies the block's factor and the group's
scale together, and sums the weights before rounding.  For masked real scores this is the reference's row.
-/
module

public import proofs.«01_k».proof.Proof.Row

@[expose] public section

noncomputable section

namespace Cert.KRow

open Idealize.ShloMosaic Cert.Spec

/-- The exponent's factor. -/
abbrev C : ℝ := (Real.sqrt 128)⁻¹ * (Real.log 2)⁻¹

/-- Its inverse. -/
abbrev D : ℝ := Real.sqrt 128 * Real.log 2

/-- The base-two logarithm of six. -/
abbrev L6 : ℝ := Real.log 6 * (Real.log 2)⁻¹

section
variable (x : Fin 896 → EReal)

/-- The block of a group. -/
def blk (γ : Fin 28) : Fin 14 := ⟨γ / 2, by omega⟩

/-- The group of a key. -/
def grp (k : Fin 896) : Fin 28 := ⟨k / 32, by omega⟩

/-- The maximum of a group. -/
def g (γ : Fin 28) : EReal := Finset.univ.fold max ⊥ fun r : Fin 32 => x (Row.k32 γ r)

/-- The code of a group's scale. -/
def code (γ : Fin 28) : ℕ := codeN (((6 : ℝ) : EReal) * Ideal.exp2 ((g x γ - Row.bm0 x (blk γ)) * ((C : ℝ) : EReal)))

/-- What is taken off a score before the exponential. -/
def t (γ : Fin 28) : EReal := Row.bm0 x (blk γ) - (((L6 : ℝ) : EReal) - (((code x γ : ℝ) - 127 : ℝ) : EReal)) * ((D : ℝ) : EReal)

/-- The factor of a group. -/
def f (γ : Fin 28) : EReal := Ideal.exp2 ((Row.bm0 x (blk γ) - Row.m x) * ((C : ℝ) : EReal)) * ((1 / 6 : ℝ) : EReal) * ((pw (code x γ) : ℝ) : EReal)

/-- The weight of a key over its group's scale. -/
def y (k : Fin 896) : EReal := Ideal.exp2 ((x k - t x (grp k)) * ((C : ℝ) : EReal))

/-- The normaliser. -/
def l : EReal := ∑ k, y x k * f x (grp k)

/-- The output number. -/
def out (v : Fin 896 → EReal) : EReal := (∑ k, v k * (fp4S (y x k) * f x (grp k))) * Ideal.div 1 (l x)

end

/-! ## Exponentials -/

theorem s128 : 0 < Real.sqrt 128 := Real.sqrt_pos.2 (by norm_num)
theorem l2 : 0 < Real.log 2 := Real.log_pos (by norm_num)
theorem C_pos : 0 < C := mul_pos (inv_pos.2 s128) (inv_pos.2 l2)

theorem exp2_coe (r : ℝ) : Ideal.exp2 (r : EReal) = (((2 : ℝ) ^ r : ℝ) : EReal) := rfl
theorem exp_coe (r : ℝ) : Ideal.exp (r : EReal) = ((Real.exp r : ℝ) : EReal) := rfl

theorem two_rpow (r : ℝ) : (2 : ℝ) ^ r = Real.exp (Real.log 2 * r) := Real.rpow_def_of_pos (by norm_num) r

theorem exp2_mono {a b : EReal} (h : a ≤ b) : Ideal.exp2 a ≤ Ideal.exp2 b := by
  induction b with
  | top => exact le_top
  | bot => rw [le_bot_iff.1 h]
  | coe r =>
    induction a with
    | top => simp at h
    | bot => show (0 : EReal) ≤ _; rw [exp2_coe]; exact_mod_cast (by positivity : (0 : ℝ) ≤ (2 : ℝ) ^ r)
    | coe s =>
      rw [exp2_coe, exp2_coe, EReal.coe_le_coe_iff]
      exact Real.rpow_le_rpow_of_exponent_le (by norm_num) (by exact_mod_cast h)

theorem exp2_nonneg (a : EReal) : 0 ≤ Ideal.exp2 a := exp2_mono (bot_le : ⊥ ≤ a)

/-- The exponential of a difference of scaled scores. -/
theorem exp2_exp (a : EReal) (ha : a ≠ ⊤) (b : ℝ) :
    Ideal.exp2 ((a - (b : EReal)) * ((C : ℝ) : EReal))
      = Ideal.exp (a * (((Real.sqrt 128)⁻¹ : ℝ) : EReal) - (b : EReal) * (((Real.sqrt 128)⁻¹ : ℝ) : EReal)) := by
  induction a with
  | top => exact absurd rfl ha
  | bot =>
    rw [EReal.bot_sub, EReal.bot_mul_coe_of_pos C_pos, EReal.bot_mul_coe_of_pos (inv_pos.2 s128), EReal.bot_sub]; rfl
  | coe r =>
    rw [← EReal.coe_sub, ← EReal.coe_mul, ← EReal.coe_mul, ← EReal.coe_mul, ← EReal.coe_sub, exp2_coe, exp_coe, two_rpow]
    congr 2
    have := l2.ne'
    unfold C; field_simp

/-- Six and the code moved into the exponent. -/
theorem exp2_shift (a : EReal) (ha : a ≠ ⊤) (b : ℝ) (c : ℕ) :
    Ideal.exp2 ((a - ((b : EReal) - (((L6 : ℝ) : EReal) - (((c : ℝ) - 127 : ℝ) : EReal)) * ((D : ℝ) : EReal))) * ((C : ℝ) : EReal))
      = ((6 : ℝ) : EReal) * Ideal.exp2 ((a - (b : EReal)) * ((C : ℝ) : EReal)) * ((invN c : ℝ) : EReal) := by
  rw [← EReal.coe_sub, ← EReal.coe_mul, ← EReal.coe_sub]
  induction a with
  | top => exact absurd rfl ha
  | bot =>
    rw [EReal.bot_sub, EReal.bot_sub, EReal.bot_mul_coe_of_pos C_pos, show Ideal.exp2 ⊥ = 0 from rfl, mul_zero, zero_mul]
  | coe r =>
    rw [← EReal.coe_sub, ← EReal.coe_mul, ← EReal.coe_sub, ← EReal.coe_mul, exp2_coe, exp2_coe, ← EReal.coe_mul, ← EReal.coe_mul]
    congr 1
    have e6 : (6 : ℝ) = (2 : ℝ) ^ L6 := by
      rw [two_rpow, show Real.log 2 * L6 = Real.log 6 by unfold L6; have := l2.ne'; field_simp, Real.exp_log (by norm_num)]
    have ec : invN c = (2 : ℝ) ^ (127 - (c : ℝ)) := by
      unfold invN; rw [← Real.rpow_intCast]; push_cast; rfl
    rw [ec, show (6 : ℝ) * 2 ^ ((r - b) * C) * 2 ^ (127 - (c : ℝ)) = 2 ^ L6 * 2 ^ ((r - b) * C) * 2 ^ (127 - (c : ℝ)) by rw [← e6]]
    rw [← Real.rpow_add (by norm_num), ← Real.rpow_add (by norm_num)]
    congr 1
    have h1 := s128.ne'
    have h2 := l2.ne'
    have hCD : D * C = 1 := by unfold C D; field_simp
    linear_combination (L6 - ((c : ℝ) - 127)) * hCD

/-! ## Scaling by the root -/

/-- A score over the root of the head size. -/
def sc (a : EReal) : EReal := a * (((Real.sqrt 128)⁻¹ : ℝ) : EReal)

theorem sc_mono : Monotone sc := fun _ _ h => mul_le_mul_of_nonneg_right h (by exact_mod_cast (inv_pos.2 s128).le)
theorem sc_bot : sc ⊥ = ⊥ := EReal.bot_mul_coe_of_pos (inv_pos.2 s128)
theorem sc_coe (r : ℝ) : sc (r : EReal) = ((r * (Real.sqrt 128)⁻¹ : ℝ) : EReal) := (EReal.coe_mul _ _).symm

theorem sc_ne_bot {a : EReal} (h : a ≠ ⊥) : sc a ≠ ⊥ := by
  induction a with
  | bot => exact absurd rfl h
  | top => unfold sc; rw [EReal.top_mul_coe_of_pos (inv_pos.2 s128)]; simp
  | coe r => rw [sc_coe]; exact EReal.coe_ne_bot _

theorem sc_fold {n : ℕ} (h : Fin n → EReal) :
    (Finset.univ.fold max ⊥ fun k => sc (h k)) = sc (Finset.univ.fold max ⊥ h) := by
  conv_lhs => rw [← sc_bot]
  exact Finset.fold_hom (m := sc) (fun a b => sc_mono.map_max)

/-! ## The row -/

variable (x : Fin 896 → EReal)

theorem m_sc : Row.m (fun k => sc (x k)) = sc (Row.m x) := sc_fold x
theorem bm_sc (n : Fin 14) : Row.bm (fun k => sc (x k)) n = sc (Row.bm x n) := sc_fold fun j => x (Row.k64 n j)

theorem bm0_sc (n : Fin 14) : Row.bm0 (fun k => sc (x k)) n = sc (Row.bm0 x n) := by
  unfold Row.bm0
  rw [bm_sc, m_sc]
  by_cases h : Row.bm x n = ⊥
  · rw [if_pos h, h, sc_bot, if_pos rfl]
  · rw [if_neg h, if_neg (sc_ne_bot h)]

theorem fold_ne_top {n : ℕ} (h : Fin n → EReal) (hh : ∀ k, h k ≠ ⊤) : Finset.univ.fold max ⊥ h ≠ ⊤ :=
  ((Finset.fold_max_lt _).2 ⟨bot_lt_top, fun k _ => lt_top_iff_ne_top.2 (hh k)⟩).ne

theorem le_fold {n : ℕ} (h : Fin n → EReal) (k : Fin n) : h k ≤ Finset.univ.fold max ⊥ h :=
  (Finset.le_fold_max _).2 (Or.inr ⟨k, Finset.mem_univ _, le_refl _⟩)

theorem real_of {a : EReal} (h1 : a ≠ ⊤) (h2 : a ≠ ⊥) : ∃ r : ℝ, a = r := ⟨a.toReal, (EReal.coe_toReal h1 h2).symm⟩

/-- What the rows have: no score is infinite upwards, and one is real. -/
structure Ok : Prop where
  top : ∀ k, x k ≠ ⊤
  some : ∃ k, x k ≠ ⊥

variable {x}

theorem m_real (h : Ok x) : ∃ μ : ℝ, Row.m x = μ := by
  refine real_of (fold_ne_top _ h.top) fun e => ?_
  obtain ⟨k, hk⟩ := h.some
  exact hk (le_bot_iff.1 (e ▸ le_fold x k))

theorem bm0_real (h : Ok x) (n : Fin 14) : ∃ β : ℝ, Row.bm0 x n = β := by
  unfold Row.bm0
  split_ifs with hb
  · exact m_real h
  · exact real_of (fold_ne_top _ fun _ => h.top _) hb

theorem p2_eq (h : Ok x) (k : Fin 896) : Row.p2 (fun k => sc (x k)) k
    = ((6 : ℝ) : EReal) * Ideal.exp2 ((x k - Row.bm0 x (blk (grp k))) * ((C : ℝ) : EReal)) := by
  have e : (⟨k / 64, by omega⟩ : Fin 14) = blk (grp k) := Fin.ext (by simp only [blk, grp]; omega)
  unfold Row.p2
  rw [e, bm0_sc]
  obtain ⟨β, hβ⟩ := bm0_real h (blk (grp k))
  rw [hβ, exp2_exp _ (h.top k)]; rfl

theorem code_eq (h : Ok x) (γ : Fin 28) : Row.code (fun k => sc (x k)) γ = code x γ := by
  unfold Row.code code
  congr 1
  obtain ⟨β, hβ⟩ := bm0_real h (blk γ)
  have hg : ∀ r : Fin 32, grp (Row.k32 γ r) = γ := fun r => Fin.ext (by simp only [grp, Row.k32]; omega)
  have hp : (fun r : Fin 32 => Row.p2 (fun k => sc (x k)) (Row.k32 γ r))
      = fun r => ((6 : ℝ) : EReal) * Ideal.exp2 ((x (Row.k32 γ r) - (β : EReal)) * ((C : ℝ) : EReal)) :=
    funext fun r => by rw [p2_eq h, hg, hβ]
  rw [hp, hβ]
  have six : (0 : EReal) ≤ ((6 : ℝ) : EReal) := by exact_mod_cast (by norm_num : (0 : ℝ) ≤ 6)
  have mono : ∀ {a b : EReal}, a ≤ b → ((6 : ℝ) : EReal) * Ideal.exp2 ((a - (β : EReal)) * ((C : ℝ) : EReal))
      ≤ ((6 : ℝ) : EReal) * Ideal.exp2 ((b - (β : EReal)) * ((C : ℝ) : EReal)) := fun {a b} hab =>
    mul_le_mul_of_nonneg_left (exp2_mono (mul_le_mul_of_nonneg_right (EReal.sub_le_sub hab le_rfl)
      (by exact_mod_cast C_pos.le))) six
  have nn : ∀ a : EReal, 0 ≤ ((6 : ℝ) : EReal) * Ideal.exp2 a := fun a => mul_nonneg six (exp2_nonneg a)
  refine le_antisymm ?_ ?_
  · refine (Finset.fold_max_le _).2 ⟨bot_le, fun r _ => max_le (mono (le_fold (fun r => x (Row.k32 γ r)) r)) ?_⟩
    exact (EReal.neg_le_neg_iff.2 (nn _)).trans (by rw [neg_zero]; exact nn _)
  · rcases (Finset.le_fold_max (g x γ)).1 (le_refl (g x γ)) with hb | ⟨r, _, hr⟩
    · rw [le_bot_iff.1 hb, EReal.bot_sub, EReal.bot_mul_coe_of_pos C_pos, show Ideal.exp2 ⊥ = 0 from rfl, mul_zero]
      exact amx_nonneg _
    · exact (mono hr).trans ((le_max_left _ _).trans (le_fold (fun r : Fin 32 =>
        max (((6 : ℝ) : EReal) * Ideal.exp2 ((x (Row.k32 γ r) - (β : EReal)) * ((C : ℝ) : EReal)))
          (-(((6 : ℝ) : EReal) * Ideal.exp2 ((x (Row.k32 γ r) - (β : EReal)) * ((C : ℝ) : EReal))))) r))

theorem y_eq (h : Ok x) (k : Fin 896) : y x k = Row.p2 (fun k => sc (x k)) k * ((invN (code x (grp k)) : ℝ) : EReal) := by
  rw [p2_eq h]
  unfold y t
  obtain ⟨β, hβ⟩ := bm0_real h (blk (grp k))
  rw [hβ, exp2_shift _ (h.top k)]

theorem exp_sub_real (a : EReal) (ha : a ≠ ⊤) (b : ℝ) : ∃ r : ℝ, Ideal.exp (sc a - (b : EReal)) = r ∧ 0 ≤ r := by
  induction a with
  | top => exact absurd rfl ha
  | bot => exact ⟨0, by rw [sc_bot, EReal.bot_sub]; rfl, le_refl _⟩
  | coe r => exact ⟨_, by rw [sc_coe, ← EReal.coe_sub, exp_coe], (Real.exp_pos _).le⟩

theorem y_real (h : Ok x) (k : Fin 896) : ∃ r : ℝ, y x k = r := by
  rw [y_eq h, p2_eq h]
  obtain ⟨β, hβ⟩ := bm0_real h (blk (grp k))
  obtain ⟨r, hr, _⟩ := exp_sub_real (x k) (h.top k) (β * (Real.sqrt 128)⁻¹)
  unfold sc at hr
  rw [EReal.coe_mul β] at hr
  rw [hβ, exp2_exp _ (h.top k), hr]
  exact ⟨6 * r * invN (code x (grp k)), by rw [EReal.coe_mul, EReal.coe_mul]⟩

theorem y_bot (k : Fin 896) (hk : x k = ⊥) : y x k = 0 := by
  unfold y; rw [hk, EReal.bot_sub, EReal.bot_mul_coe_of_pos C_pos]; rfl

theorem div_six (a : EReal) : Ideal.div a ((6 : ℝ) : EReal) = a * ((1 / 6 : ℝ) : EReal) := by
  rw [div_real _ _ (by norm_num), one_div]

theorem f_eq (h : Ok x) (γ : Fin 28) : f x γ = Row.s1 (fun k => sc (x k)) (blk γ) * ((pw (code x γ) : ℝ) : EReal) := by
  unfold f Row.s1
  obtain ⟨β, hβ⟩ := bm0_real h (blk γ)
  obtain ⟨μ, hμ⟩ := m_real h
  rw [bm0_sc, m_sc, div_six, hβ, hμ, exp2_exp _ (EReal.coe_ne_top _)]; rfl

/-- The scaled score's exponential over the row maximum. -/
def ex (x : Fin 896 → EReal) (k : Fin 896) : EReal := Ideal.exp (sc (x k) - sc (Row.m x))

theorem p2_s1 (h : Ok x) (k : Fin 896) :
    Row.p2 (fun k => sc (x k)) k * Row.s1 (fun k => sc (x k)) (blk (grp k)) = ex x k := by
  have e : (⟨k / 64, by omega⟩ : Fin 14) = blk (grp k) := Fin.ext (by simp only [blk, grp]; omega)
  unfold Row.p2 Row.s1 ex
  rw [e, bm0_sc, m_sc, div_six]
  obtain ⟨β, hβ⟩ := bm0_real h (blk (grp k))
  obtain ⟨μ, hμ⟩ := m_real h
  rw [hβ, hμ, sc_coe, sc_coe, ← EReal.coe_sub, exp_coe]
  have ht := h.top k
  beta_reduce
  generalize x k = a at ht
  induction a with
  | top => exact absurd rfl ht
  | bot => rw [sc_bot, EReal.bot_sub, EReal.bot_sub, show Ideal.exp ⊥ = 0 from rfl]; simp
  | coe r =>
    rw [sc_coe, ← EReal.coe_sub, ← EReal.coe_sub, exp_coe, exp_coe, ← EReal.coe_mul, ← EReal.coe_mul, ← EReal.coe_mul]
    congr 1
    have : Real.exp (r * (Real.sqrt 128)⁻¹ - μ * (Real.sqrt 128)⁻¹)
      = Real.exp (r * (Real.sqrt 128)⁻¹ - β * (Real.sqrt 128)⁻¹) * Real.exp (β * (Real.sqrt 128)⁻¹ - μ * (Real.sqrt 128)⁻¹) := by
      rw [← Real.exp_add]; congr 1; ring
    rw [this]; ring

theorem inv_pw (c : ℕ) (hc : c ≠ 0) : invN c * pw c = 1 := by
  unfold invN pw
  rw [if_neg hc, ← zpow_add₀ (by norm_num)]
  simp

/-- A key's part of the normaliser. -/
theorem en_eq (h : Ok x) (k : Fin 896) : y x k * f x (grp k) = Row.en (fun k => sc (x k)) k := by
  have e : (⟨k / 32, by omega⟩ : Fin 28) = grp k := rfl
  unfold Row.en
  rw [e, code_eq h, y_eq h, f_eq h, m_sc]
  by_cases hc : code x (grp k) = 0
  · rw [if_neg (by omega), hc, show pw 0 = 0 from if_pos rfl, EReal.coe_zero, mul_zero, mul_zero]
  · rw [if_pos (by omega), mul_mul_mul_comm, p2_s1 h, ← EReal.coe_mul, inv_pw _ hc, EReal.coe_one, mul_one]; rfl

theorem wt_eq (h : Ok x) (k : Fin 896) :
    Row.wt (fun k => sc (x k)) k = fp4S (y x k) * ((pw (code x (grp k)) : ℝ) : EReal) := by
  have e : (⟨k / 32, by omega⟩ : Fin 28) = grp k := rfl
  unfold Row.wt
  rw [e, code_eq h, ← y_eq h]

theorem s1_real (h : Ok x) (n : Fin 14) : ∃ r : ℝ, Row.s1 (fun k => sc (x k)) n = r := by
  unfold Row.s1
  obtain ⟨β, hβ⟩ := bm0_real h n
  obtain ⟨μ, hμ⟩ := m_real h
  rw [bm0_sc, m_sc, div_six, hβ, hμ, sc_coe, sc_coe, ← EReal.coe_sub, exp_coe]
  exact ⟨_, (EReal.coe_mul _ _).symm⟩

theorem f_real (h : Ok x) (γ : Fin 28) : ∃ r : ℝ, f x γ = r := by
  obtain ⟨r, hr⟩ := s1_real h (blk γ)
  rw [f_eq h, hr]; exact ⟨_, (EReal.coe_mul _ _).symm⟩

theorem en_real (h : Ok x) (k : Fin 896) : ∃ r : ℝ, Row.en (fun k => sc (x k)) k = r ∧ 0 ≤ r := by
  unfold Row.en
  split_ifs
  · rw [m_sc]
    obtain ⟨μ, hμ⟩ := m_real h
    rw [hμ, sc_coe]
    exact exp_sub_real _ (h.top k) _
  · exact ⟨0, rfl, le_refl _⟩

/-- The largest score's key has part one. -/
theorem en_one (h : Ok x) : ∃ k, Row.en (fun k => sc (x k)) k = ((1 : ℝ) : EReal) := by
  obtain ⟨μ, hμ⟩ := m_real h
  rcases (Finset.le_fold_max (Row.m x)).1 (le_refl (Row.m x)) with hb | ⟨k, _, hk⟩
  · rw [hμ] at hb; exact absurd (le_bot_iff.1 hb) (EReal.coe_ne_bot _)
  have hk' : x k = Row.m x := le_antisymm (le_fold x k) hk
  refine ⟨k, ?_⟩
  have e : (⟨k / 32, by omega⟩ : Fin 28) = grp k := rfl
  have hb : Row.bm x (blk (grp k)) = Row.m x := by
    refine le_antisymm ((Finset.fold_max_le _).2 ⟨bot_le, fun j _ => le_fold x _⟩) ?_
    rw [← hk']
    have e2 : k = Row.k64 (blk (grp k)) ⟨k % 64, by omega⟩ := Fin.ext (by simp only [Row.k64, blk, grp]; omega)
    exact (Finset.le_fold_max _).2 (Or.inr ⟨⟨k % 64, by omega⟩, Finset.mem_univ _, le_of_eq (congrArg x e2)⟩)
  have hg : g x (grp k) = Row.m x := by
    refine le_antisymm ((Finset.fold_max_le _).2 ⟨bot_le, fun j _ => le_fold x _⟩) ?_
    rw [← hk']
    have e2 : k = Row.k32 (grp k) ⟨k % 32, by omega⟩ := Fin.ext (by simp only [Row.k32, grp]; omega)
    exact (Finset.le_fold_max _).2 (Or.inr ⟨⟨k % 32, by omega⟩, Finset.mem_univ _, le_of_eq (congrArg x e2)⟩)
  have hb0 : Row.bm0 x (blk (grp k)) = Row.m x := by unfold Row.bm0; rw [hb]; split_ifs <;> rfl
  have hc : 0 < code x (grp k) := by
    unfold code
    rw [hg, hb0, hμ, ← EReal.coe_sub, sub_self, ← EReal.coe_mul, zero_mul, exp2_coe, Real.rpow_zero, ← EReal.coe_mul, mul_one]
    unfold codeN
    rw [if_neg (by exact_mod_cast (by norm_num : (6 : ℝ) ≠ 0))]
    have : 3 ≤ E ((6 : ℝ) : EReal) := le_E (by norm_num) (by
      rw [EReal.coe_le_coe_iff]; unfold pw; rw [if_neg (by norm_num)]
      refine le_trans (zpow_le_one_of_nonpos₀ (by norm_num) (by norm_num)) (by norm_num))
    omega
  unfold Row.en
  rw [e, code_eq h, if_pos hc, m_sc]
  beta_reduce
  rw [hk', hμ, sc_coe, ← EReal.coe_sub, sub_self, exp_coe, Real.exp_zero]

theorem coe_sum {ι : Type*} (s : Finset ι) (h : ι → ℝ) : ((∑ k ∈ s, h k : ℝ) : EReal) = ∑ k ∈ s, (h k : EReal) :=
  map_sum (⟨⟨(fun r : ℝ => (r : EReal)), EReal.coe_zero⟩, EReal.coe_add⟩ : ℝ →+ EReal) h s

/-- The kernel's row is the reference's. -/
theorem out_eq (h : Ok x) (v : Fin 896 → EReal) (hv : ∀ k, ∃ r : ℝ, v k = r) :
    out x v = Row.out (fun k => sc (x k)) v := by
  choose vr hvr using hv
  choose σ hσ using s1_real h
  choose e he he0 using en_real h
  choose Y hY using fun k => fp4S_coe (y x k)
  have hl : l x = ((∑ k, e k : ℝ) : EReal) := by
    unfold l; rw [coe_sum]; exact Finset.sum_congr rfl fun k _ => by rw [en_eq h, he]
  have hl' : Row.l (fun k => sc (x k)) = ((∑ k, e k : ℝ) : EReal) := by
    unfold Row.l; rw [coe_sum, Fin.sum_univ_tiles (N := 896) 28 32 rfl]
    exact Finset.sum_congr rfl fun a _ => Finset.sum_congr rfl fun b _ => he (Row.k32 a b)
  have pos : (∑ k, e k) ≠ 0 := by
    obtain ⟨k, hk⟩ := en_one h
    rw [he] at hk
    have h1 : e k = 1 := by exact_mod_cast hk
    have := Finset.single_le_sum (f := e) (fun j _ => he0 j) (Finset.mem_univ k)
    linarith
  unfold out Row.out
  rw [hl, hl', div_real _ _ pos, div_real _ _ pos, one_mul]
  congr 1
  have lhs : (∑ k, v k * (fp4S (y x k) * f x (grp k)))
      = ((∑ k, vr k * (Y k * (σ (blk (grp k)) * pw (code x (grp k)))) : ℝ) : EReal) := by
    rw [coe_sum]; refine Finset.sum_congr rfl fun k _ => ?_
    rw [hvr, hY, f_eq h, hσ, ← EReal.coe_mul, ← EReal.coe_mul, ← EReal.coe_mul]
  have rhs : (∑ n : Fin 14, Row.s1 (fun k => sc (x k)) n * ∑ j : Fin 64, Row.wt (fun k => sc (x k)) (Row.k64 n j) * v (Row.k64 n j))
      = ((∑ n : Fin 14, σ n * ∑ j : Fin 64, Y (Row.k64 n j) * pw (code x (grp (Row.k64 n j))) * vr (Row.k64 n j) : ℝ) : EReal) := by
    rw [coe_sum]; refine Finset.sum_congr rfl fun n _ => ?_
    rw [EReal.coe_mul, coe_sum, hσ]; congr 1; refine Finset.sum_congr rfl fun j _ => ?_
    rw [hvr, wt_eq h, hY, ← EReal.coe_mul, ← EReal.coe_mul]
  rw [lhs, rhs, Fin.sum_univ_tiles (N := 896) 14 64 rfl]
  congr 1
  refine Finset.sum_congr rfl fun n _ => ?_
  rw [Finset.mul_sum]; refine Finset.sum_congr rfl fun j _ => ?_
  have e2 : blk (grp (Row.k64 n j)) = n := Fin.ext (by simp only [Row.k64, blk, grp]; omega)
  show vr (Row.k64 n j) * (Y (Row.k64 n j) * (σ (blk (grp (Row.k64 n j))) * pw (code x (grp (Row.k64 n j))))) = _
  rw [e2]; ring

end Cert.KRow
-- ==== Proof.Keys.lean ====
/-
Which key a row of a permuted chunk is.

A chunk of 256 (or 128) keys is laid out as 32 (or 16) tiles of eight rows; row `r` of tile `j` is key `32 r + j`
(or `16 r + j`) of the chunk, so that a group of 32 keys is one row of all tiles (or two neighbouring ones).
-/
module

public import proofs.«01_k».proof.Proof.Body
public import proofs.«01_k».proof.Proof.KRow

@[expose] public section

noncomputable section

namespace Cert.Unit

open Cert.Body Idealize.ShloMosaic

/-- The key in row `r` of tile `j` of a 256-key chunk. -/
def keyB (c : Fin 3) (r : Fin 8) (j : Fin 32) : Fin 896 := ⟨256 * c + 32 * r + j, by omega⟩

/-- The key in row `r` of tile `j` of a 128-key chunk. -/
def keyS (c : Fin 4) (r : Fin 8) (j : Fin 16) : Fin 896 := ⟨256 * c + 16 * r + j, by omega⟩

/-- The group of the keys in row `r`. -/
def grpC : Chunk → Fin 8 → Fin 28
  | .big c, r => ⟨8 * c + r, by omega⟩
  | .small c, r => ⟨8 * c + r / 2, by omega⟩

theorem mem_big {i : Fin 7} {c : Fin 3} (h : Chunk.big c ∈ chunks i) : 2 * (c : ℕ) + 1 ≤ i := by
  fin_cases i <;> fin_cases c <;> simp [chunks] at h ⊢

theorem mem_small {i : Fin 7} {c : Fin 4} (h : Chunk.small c ∈ chunks i) : (i : ℕ) = 2 * c := by
  fin_cases i <;> fin_cases c <;> simp [chunks] at h ⊢

theorem chunks_ne (i : Fin 7) : chunks i ≠ [] := by fin_cases i <;> simp [chunks]

theorem cover : ∀ i : Fin 7, ∀ n : Fin 14, (n : ℕ) < 2 * (i + 1) → ∃ k ∈ chunks i, ∃ r : Fin 8, KRow.blk (grpC k r) = n := by
  decide

theorem grp_keyB (c : Fin 3) (r : Fin 8) (j : Fin 32) : KRow.grp (keyB c r j) = grpC (.big c) r :=
  Fin.ext (by simp only [KRow.grp, keyB, grpC]; omega)

theorem grp_keyS (c : Fin 4) (r : Fin 8) (j : Fin 16) : KRow.grp (keyS c r j) = grpC (.small c) r :=
  Fin.ext (by simp only [KRow.grp, keyS, grpC]; omega)

/-! ## Conditions on all keys of a group or block -/

theorem forall_big (P : Fin 896 → Prop) (c : Fin 3) (r : Fin 8) :
    (∀ j, P (keyB c r j)) ↔ ∀ t, P (Row.k32 (grpC (.big c) r) t) := by
  have e : ∀ t, keyB c r t = Row.k32 (grpC (.big c) r) t := fun t => Fin.ext (by simp only [keyB, Row.k32, grpC]; omega)
  exact forall_congr' fun t => by rw [e]

theorem forall_small (P : Fin 896 → Prop) (c : Fin 4) (r r' : Fin 8) (h : (r : ℕ) / 2 = r' / 2) (h' : (r : ℕ) ≠ r') :
    ((∀ j, P (keyS c r j)) ∧ ∀ j, P (keyS c r' j)) ↔ ∀ t, P (Row.k32 (grpC (.small c) r) t) := by
  constructor
  · rintro ⟨h1, h2⟩ t
    by_cases ht : (r : ℕ) % 2 = t / 16
    · have e : Row.k32 (grpC (.small c) r) t = keyS c r ⟨t % 16, by omega⟩ :=
        Fin.ext (by simp only [keyS, Row.k32, grpC]; omega)
      rw [e]; exact h1 _
    · have e : Row.k32 (grpC (.small c) r) t = keyS c r' ⟨t % 16, by omega⟩ :=
        Fin.ext (by simp only [keyS, Row.k32, grpC]; omega)
      rw [e]; exact h2 _
  · intro hh
    refine ⟨fun j => ?_, fun j => ?_⟩
    · have e : keyS c r j = Row.k32 (grpC (.small c) r) ⟨16 * (r % 2) + j, by omega⟩ :=
        Fin.ext (by simp only [keyS, Row.k32, grpC]; omega)
      rw [e]; exact hh _
    · have e : keyS c r' j = Row.k32 (grpC (.small c) r) ⟨16 * (r' % 2) + j, by omega⟩ :=
        Fin.ext (by simp only [keyS, Row.k32, grpC]; omega)
      rw [e]; exact hh _

theorem forall_block (P : Fin 896 → Prop) (γ γ' : Fin 28) (h : (γ : ℕ) / 2 = γ' / 2) (h' : (γ : ℕ) ≠ γ') :
    ((∀ t, P (Row.k32 γ t)) ∧ ∀ t, P (Row.k32 γ' t)) ↔ ∀ j, P (Row.k64 (KRow.blk γ) j) := by
  constructor
  · rintro ⟨h1, h2⟩ t
    by_cases ht : (γ : ℕ) % 2 = t / 32
    · have e : Row.k64 (KRow.blk γ) t = Row.k32 γ ⟨t % 32, by omega⟩ :=
        Fin.ext (by simp only [Row.k64, Row.k32, KRow.blk]; omega)
      rw [e]; exact h1 _
    · have e : Row.k64 (KRow.blk γ) t = Row.k32 γ' ⟨t % 32, by omega⟩ :=
        Fin.ext (by simp only [Row.k64, Row.k32, KRow.blk]; omega)
      rw [e]; exact h2 _
  · intro hh
    refine ⟨fun j => ?_, fun j => ?_⟩
    · have e : Row.k32 γ j = Row.k64 (KRow.blk γ) ⟨32 * (γ % 2) + j, by omega⟩ :=
        Fin.ext (by simp only [Row.k64, Row.k32, KRow.blk]; omega)
      rw [e]; exact hh _
    · have e : Row.k32 γ' j = Row.k64 (KRow.blk γ) ⟨32 * (γ' % 2) + j, by omega⟩ :=
        Fin.ext (by simp only [Row.k64, Row.k32, KRow.blk]; omega)
      rw [e]; exact hh _

/-! ## Sums over the keys of the chunks -/

/-- The sum over a chunk's keys, row by row. -/
def chunkSum (F : Fin 896 → EReal) : Chunk → EReal
  | .big c => ∑ r : Fin 8, ∑ j : Fin 32, F (keyB c r j)
  | .small c => ∑ r : Fin 8, ∑ j : Fin 16, F (keyS c r j)

/-- A function of a key as one of a number. -/
def ext (F : Fin 896 → EReal) (n : ℕ) : EReal := if h : n < 896 then F ⟨n, h⟩ else 0

theorem ext_val (F : Fin 896 → EReal) (k : Fin 896) : ext F k = F k := dif_pos k.isLt

theorem chunkSum_big (F : Fin 896 → EReal) (c : Fin 3) : chunkSum F (.big c) = ∑ t ∈ Finset.range 256, ext F (256 * c + t) := by
  rw [← Fin.sum_univ_eq_sum_range (fun t => ext F (256 * c + t)) 256, Fin.sum_univ_tiles (N := 256) 8 32 rfl]
  refine Finset.sum_congr rfl fun r _ => Finset.sum_congr rfl fun j _ => ?_
  rw [← ext_val F]
  exact congrArg (ext F) (by simp only [keyB]; omega)

theorem chunkSum_small (F : Fin 896 → EReal) (c : Fin 4) : chunkSum F (.small c) = ∑ t ∈ Finset.range 128, ext F (256 * c + t) := by
  rw [← Fin.sum_univ_eq_sum_range (fun t => ext F (256 * c + t)) 128, Fin.sum_univ_tiles (N := 128) 8 16 rfl]
  refine Finset.sum_congr rfl fun r _ => Finset.sum_congr rfl fun j _ => ?_
  rw [← ext_val F]
  exact congrArg (ext F) (by simp only [keyS]; omega)

theorem chunks_sum (F : Fin 896 → EReal) (i : Fin 7) (h0 : ∀ k : Fin 896, 128 * ((i : ℕ) + 1) ≤ k → F k = 0) :
    ((chunks i).map (chunkSum F)).sum = ∑ k, F k := by
  have e : ∑ k, F k = ∑ t ∈ Finset.range (128 * ((i : ℕ) + 1)), ext F t := by
    have e1 : ∑ k, F k = ∑ t ∈ Finset.range 896, ext F t := by
      rw [← Fin.sum_univ_eq_sum_range (ext F) 896]; exact Finset.sum_congr rfl fun k _ => (ext_val F k).symm
    rw [e1]
    refine (Finset.sum_subset (fun t ht => ?_) fun t ht hn => ?_).symm
    · rw [Finset.mem_range] at ht ⊢; omega
    · rw [Finset.mem_range] at ht hn
      exact (dif_pos ht).trans (h0 ⟨t, ht⟩ (by simpa using hn))
  rw [e]
  fin_cases i
  · show (List.map (chunkSum F) [.small 0]).sum = _
    simp only [List.map_cons, List.map_nil, List.sum_cons, List.sum_nil, chunkSum_big, chunkSum_small, add_zero]
    simp
  · show (List.map (chunkSum F) [.big 0]).sum = _
    simp only [List.map_cons, List.map_nil, List.sum_cons, List.sum_nil, chunkSum_big, chunkSum_small, add_zero]
    simp
  · show (List.map (chunkSum F) [.big 0, .small 1]).sum = _
    simp only [List.map_cons, List.map_nil, List.sum_cons, List.sum_nil, chunkSum_big, chunkSum_small, add_zero]
    exact (by simpa using (Finset.sum_range_add (ext F) 256 128).symm)
  · show (List.map (chunkSum F) [.big 0, .big 1]).sum = _
    simp only [List.map_cons, List.map_nil, List.sum_cons, List.sum_nil, chunkSum_big, chunkSum_small, add_zero]
    exact (by simpa using (Finset.sum_range_add (ext F) 256 256).symm)
  · show (List.map (chunkSum F) [.big 0, .big 1, .small 2]).sum = _
    simp only [List.map_cons, List.map_nil, List.sum_cons, List.sum_nil, chunkSum_big, chunkSum_small, add_zero]
    have := Finset.sum_range_add (ext F) 512 128
    rw [Finset.sum_range_add (ext F) 256 256] at this
    simpa [add_assoc] using this.symm
  · show (List.map (chunkSum F) [.big 0, .big 1, .big 2]).sum = _
    simp only [List.map_cons, List.map_nil, List.sum_cons, List.sum_nil, chunkSum_big, chunkSum_small, add_zero]
    have := Finset.sum_range_add (ext F) 512 256
    rw [Finset.sum_range_add (ext F) 256 256] at this
    simpa [add_assoc] using this.symm
  · show (List.map (chunkSum F) [.big 0, .big 1, .big 2, .small 3]).sum = _
    simp only [List.map_cons, List.map_nil, List.sum_cons, List.sum_nil, chunkSum_big, chunkSum_small, add_zero]
    have := Finset.sum_range_add (ext F) 768 128
    rw [Finset.sum_range_add (ext F) 512 256, Finset.sum_range_add (ext F) 256 256] at this
    simpa [add_assoc] using this.symm

end Cert.Unit
-- ==== Proof.Perm.lean ====
/-
What the permuted copies of the keys and values hold, and how the score buffer is read back.
-/
module

public import proofs.«01_k».proof.Proof.Lane
public import proofs.«01_k».proof.Proof.Keys
public import Idealize.ShloMosaic.Lib.Pipeline.ValueKit
public import Idealize.ShloMosaic.Lib.Pipeline.ReadBack
public import Idealize.ShloMosaic.Lib.Claim

@[expose] public section

set_option maxRecDepth 16384

noncomputable section

namespace Cert.Unit

open Cert.KernelIdeal Cert.KernelIdeal.Gen Cert.Body Idealize.ShloMosaic Idealize.ShloMosaic.TcCoe Idealize.SL.Sem
open Idealize.ShloMosaic.View

/-- A fill of the whole buffer holds the fill. -/
theorem canon_whole (Z : Vec Ideal S896x128 .f32) (L : List (View.Piece (Elt Ideal) S896x128 .f32)) (y : S896x128.Idx) :
    canon (⟨Rect.unit ![0, 0] S896x128.size inb_S896x128_S896x128_0_0, Z⟩ :: L) y = Z y := by
  have e : (Rect.unit (s := S896x128) ![0, 0] S896x128.size inb_S896x128_S896x128_0_0).emb y = y := by
    funext a; apply Fin.ext
    fin_cases a
    · show 0 + 1 * (y 0 : ℕ) = y 0; omega
    · show 0 + 1 * (y 1 : ℕ) = y 1; omega
  exact (congrArg (canon _) e.symm).trans (canon_cons_emb _ _ _ _)

theorem rect32_idx (c : Fin 3) (j : Fin 32) (r : Fin 8) (d : Fin 128) :
    (rect32 c j).idx (ix2 r d) = (ix2 (keyB c r j) d : S896x128.Idx) := by
  funext a; apply Fin.ext
  fin_cases a
  · show 256 * (c : ℕ) + j + 32 * (r : ℕ) = 256 * c + 32 * r + j; omega
  · show 0 + 1 * (d : ℕ) = d; omega

theorem rect16_idx (c : Fin 4) (j : Fin 16) (r : Fin 8) (d : Fin 128) :
    (rect16 c j).idx (ix2 r d) = (ix2 (keyS c r j) d : S896x128.Idx) := by
  funext a; apply Fin.ext
  fin_cases a
  · show 256 * (c : ℕ) + j + 16 * (r : ℕ) = 256 * c + 16 * r + j; omega
  · show 0 + 1 * (d : ℕ) = d; omega

variable (arg12 : Memref sig .tc .vmem S896x128 .f32) (arg13 : Memref sig .tc .vmem S768x128 .bf16)
  (arg14 : Memref sig .tc .vmem S512x128 .bf16) (arg15 : Memref sig .tc .vmem S128x768 .bf16)
  (arg16 : Memref sig .tc .vmem S128x512 .bf16)
  (K V : Vec Ideal S1x1x896x128 .bf16)

theorem perm256_apply (Z : Vec Ideal S896x128 .f32) (L : List (View.Piece (Elt Ideal) S896x128 .f32)) (c : Fin 3) (w : Fin 256) (d : Fin 128) :
    perm256 arg12 (⟨Rect.unit ![0, 0] S896x128.size inb_S896x128_S896x128_0_0, Z⟩ :: L) c (ix2 w d)
      = Z (ix2 (keyB c ⟨w % 8, by omega⟩ ⟨w / 8, by omega⟩) d) := by
  unfold perm256
  rw [Lane.perm256_cat (fun j => View.readCov arg12.view
    (⟨Rect.unit ![0, 0] S896x128.size inb_S896x128_S896x128_0_0, Z⟩ :: L) (rect32 c j)), readCov_eq_canon']
  beta_reduce
  rw [rect32_idx, canon_whole]

theorem perm128_apply (Z : Vec Ideal S896x128 .f32) (L : List (View.Piece (Elt Ideal) S896x128 .f32)) (c : Fin 4) (w : Fin 128) (d : Fin 128) :
    perm128 arg12 (⟨Rect.unit ![0, 0] S896x128.size inb_S896x128_S896x128_0_0, Z⟩ :: L) c (ix2 w d)
      = Z (ix2 (keyS c ⟨w % 8, by omega⟩ ⟨w / 8, by omega⟩) d) := by
  unfold perm128
  rw [Lane.perm128_cat (fun j => View.readCov arg12.view
    (⟨Rect.unit ![0, 0] S896x128.size inb_S896x128_S896x128_0_0, Z⟩ :: L) (rect16 c j)), readCov_eq_canon']
  beta_reduce
  rw [rect16_idx, canon_whole]

theorem same256 (x : FVec Ideal S256x128 .f32) (w : Fin 256) (d : Fin 128) :
    (shapeCast S256x128 (truncf .bf16 x bitsLt_bf16_f32) shapeCasts_S256x128_S256x128 (ix2 w d) : EReal) = x (ix2 w d) := by
  pointwise

theorem same128 (x : FVec Ideal S128x128 .f32) (w : Fin 128) (d : Fin 128) :
    (shapeCast S128x128 (truncf .bf16 x bitsLt_bf16_f32) shapeCasts_S128x128_S128x128 (ix2 w d) : EReal) = x (ix2 w d) := by
  pointwise

theorem flip256 (x : FVec Ideal S256x128 .f32) (w : Fin 256) (d : Fin 128) :
    (shapeCast S128x256 (truncf .bf16 (transpose S128x256 [1, 0] x transposes_S256x128_p1_0_S128x256) bitsLt_bf16_f32)
      shapeCasts_S128x256_S128x256 (ix2 d w) : EReal) = x (ix2 w d) := by
  pointwise

theorem flip128 (x : FVec Ideal S128x128 .f32) (w : Fin 128) (d : Fin 128) :
    (shapeCast S128x128 (truncf .bf16 (transpose S128x128 [1, 0] x transposes_S128x128_p1_0_S128x128) bitsLt_bf16_f32)
      shapeCasts_S128x128_S128x128 (ix2 d w) : EReal) = x (ix2 w d) := by
  pointwise

theorem k256 (c : Fin 3) (w : Fin 256) (d : Fin 128) :
    (View.readCov arg13.view (hs1 arg12 K) (rectK256 c).toLoadRect (ix2 w d) : EReal)
      = kW K (ix2 (keyB c ⟨w % 8, by omega⟩ ⟨w / 8, by omega⟩) d) := by
  have e : View.readCov arg13.view (hs1 arg12 K) (rectK256 c).toLoadRect
      = shapeCast S256x128 (truncf .bf16 (perm256 arg12 (tmpK K) c) bitsLt_bf16_f32) shapeCasts_S256x128_S256x128 := by
    unfold hs1
    simp only [List.map_cons, List.map_nil]
    fin_cases c
    · exact (readCov_skip _ _ _ _ _ (by decide)).trans ((readCov_skip _ _ _ _ _ (by decide)).trans (readCov_cons_toLoadRect _ _ _ _))
    · exact (readCov_skip _ _ _ _ _ (by decide)).trans (readCov_cons_toLoadRect _ _ _ _)
    · exact readCov_cons_toLoadRect _ _ _ _
  rw [e, same256]
  exact perm256_apply arg12 (kW K) [] c w d

theorem k128 (c : Fin 4) (w : Fin 128) (d : Fin 128) :
    (View.readCov arg14.view (hs2 arg12 K) (rectK128 c).toLoadRect (ix2 w d) : EReal)
      = kW K (ix2 (keyS c ⟨w % 8, by omega⟩ ⟨w / 8, by omega⟩) d) := by
  have e : View.readCov arg14.view (hs2 arg12 K) (rectK128 c).toLoadRect
      = shapeCast S128x128 (truncf .bf16 (perm128 arg12 (tmpK K) c) bitsLt_bf16_f32) shapeCasts_S128x128_S128x128 := by
    unfold hs2
    simp only [List.map_cons, List.map_nil]
    fin_cases c
    · exact (readCov_skip _ _ _ _ _ (by decide)).trans ((readCov_skip _ _ _ _ _ (by decide)).trans
        ((readCov_skip _ _ _ _ _ (by decide)).trans (readCov_cons_toLoadRect _ _ _ _)))
    · exact (readCov_skip _ _ _ _ _ (by decide)).trans ((readCov_skip _ _ _ _ _ (by decide)).trans (readCov_cons_toLoadRect _ _ _ _))
    · exact (readCov_skip _ _ _ _ _ (by decide)).trans (readCov_cons_toLoadRect _ _ _ _)
    · exact readCov_cons_toLoadRect _ _ _ _
  rw [e, same128]
  exact perm128_apply arg12 (kW K) [] c w d

theorem v256 (c : Fin 3) (w : Fin 256) (d : Fin 128) :
    (View.readCov arg15.view (hs3 arg12 K V) (rectV256 c).toLoadRect (ix2 d w) : EReal)
      = vW V (ix2 (keyB c ⟨w % 8, by omega⟩ ⟨w / 8, by omega⟩) d) := by
  have e : View.readCov arg15.view (hs3 arg12 K V) (rectV256 c).toLoadRect
      = shapeCast S128x256 (truncf .bf16 (transpose S128x256 [1, 0] (perm256 arg12 (tmpV K V) c)
          transposes_S256x128_p1_0_S128x256) bitsLt_bf16_f32) shapeCasts_S128x256_S128x256 := by
    unfold hs3
    simp only [List.map_cons, List.map_nil]
    fin_cases c
    · exact (readCov_skip _ _ _ _ _ (by decide)).trans ((readCov_skip _ _ _ _ _ (by decide)).trans (readCov_cons_toLoadRect _ _ _ _))
    · exact (readCov_skip _ _ _ _ _ (by decide)).trans (readCov_cons_toLoadRect _ _ _ _)
    · exact readCov_cons_toLoadRect _ _ _ _
  rw [e, flip256]
  exact perm256_apply arg12 (vW V) (tmpK K) c w d

theorem v128 (c : Fin 4) (w : Fin 128) (d : Fin 128) :
    (View.readCov arg16.view (hs4 arg12 K V) (rectV128 c).toLoadRect (ix2 d w) : EReal)
      = vW V (ix2 (keyS c ⟨w % 8, by omega⟩ ⟨w / 8, by omega⟩) d) := by
  have e : View.readCov arg16.view (hs4 arg12 K V) (rectV128 c).toLoadRect
      = shapeCast S128x128 (truncf .bf16 (transpose S128x128 [1, 0] (perm128 arg12 (tmpV K V) c)
          transposes_S128x128_p1_0_S128x128) bitsLt_bf16_f32) shapeCasts_S128x128_S128x128 := by
    unfold hs4
    simp only [List.map_cons, List.map_nil]
    fin_cases c
    · exact (readCov_skip _ _ _ _ _ (by decide)).trans ((readCov_skip _ _ _ _ _ (by decide)).trans
        ((readCov_skip _ _ _ _ _ (by decide)).trans (readCov_cons_toLoadRect _ _ _ _)))
    · exact (readCov_skip _ _ _ _ _ (by decide)).trans ((readCov_skip _ _ _ _ _ (by decide)).trans (readCov_cons_toLoadRect _ _ _ _))
    · exact (readCov_skip _ _ _ _ _ (by decide)).trans (readCov_cons_toLoadRect _ _ _ _)
    · exact readCov_cons_toLoadRect _ _ _ _
  rw [e, flip128]
  exact perm128_apply arg12 (vW V) (tmpK K) c w d

end Cert.Unit
-- ==== Proof.Scores.lean ====
/-
The scores: what a chunk's tile holds and what is read back from the score buffer.
-/
module

public import proofs.«01_k».proof.Proof.Perm

@[expose] public section

set_option maxRecDepth 16384

noncomputable section

namespace Cert.Unit

open Cert.KernelIdeal Cert.KernelIdeal.Gen Cert.Body Idealize.ShloMosaic Idealize.ShloMosaic.TcCoe Idealize.SL.Sem
open Idealize.ShloMosaic.View

variable (arg12 : Memref sig .tc .vmem S896x128 .f32) (arg13 : Memref sig .tc .vmem S768x128 .bf16)
  (arg14 : Memref sig .tc .vmem S512x128 .bf16) (arg17 : Memref sig .tc .vmem S2x896x256 .f32)
  (Q : Fin 4 → Fin 7 → Vec Ideal S1x1x128x128 .bf16) (K : Vec Ideal S1x1x896x128 .bf16)

/-- The score of a key against the query of lane `L`, the keys after the query masked. -/
def xx (i : Fin 7) (p : Fin 2) (L : Fin 256) (k : Fin 896) : EReal :=
  if (k : ℕ) ≤ 128 * i + L % 128 then ∑ d : Fin 128, (kW K (ix2 k d) : EReal) * qw Q i p (ix2 d L) else ⊥

theorem raw256_apply (i : Fin 7) (p : Fin 2) (c : Fin 3) (j : Fin 32) (r : Fin 8) (L : Fin 256) :
    (raw256 arg12 arg13 Q K i p c (ix3 j r L) : EReal)
      = ∑ d : Fin 128, (kW K (ix2 (keyB c r j) d) : EReal) * qw Q i p (ix2 d L) := by
  unfold raw256
  refine (Lane.mm256 _ _ j r L).trans ?_
  refine Finset.sum_congr rfl fun d _ => congrArg (fun a : EReal => a * qw Q i p (ix2 d L)) ?_
  refine (k256 arg12 arg13 K c (⟨j * 8 + r, by omega⟩ : Fin 256) d).trans ?_
  exact congrArg (fun a => kW K (ix2 a d)) (Fin.ext (by simp only [keyB]; omega))

theorem s256_apply (i : Fin 7) (p : Fin 2) (c : Fin 3) (hc : Chunk.big c ∈ chunks i) (j : Fin 32) (r : Fin 8) (L : Fin 256) :
    (s256 arg12 arg13 Q K i p c (ix3 j r L) : EReal) = xx Q K i p L (keyB c r j) := by
  have hm := mem_big hc
  unfold s256 xx
  cases hd : diag i c with
  | true =>
    have h1 : 128 * (i : ℕ) ≤ 256 * c + 128 := Nat.le_of_ble_eq_true hd
    rw [cond_true, Lane.mask256 _ _ _ _ _ (Lane.qpos_apply r L), raw256_apply]
    refine if_congr ?_ rfl rfl
    simp only [keyB]; omega
  | false =>
    have h1 : ¬ 128 * (i : ℕ) ≤ 256 * c + 128 := fun h => by
      have := Nat.ble_eq_true_of_le h
      rw [show diag i c = true from this] at hd; cases hd
    rw [cond_false, raw256_apply, if_pos]
    simp only [keyB]; omega

theorem s128_apply (i : Fin 7) (p : Fin 2) (c : Fin 4) (hc : Chunk.small c ∈ chunks i) (j : Fin 16) (r : Fin 8) (L : Fin 256) :
    (s128 arg12 arg14 Q K i p c (ix3 j r L) : EReal) = xx Q K i p L (keyS c r j) := by
  have hm := mem_small hc
  unfold s128 xx
  rw [Lane.mask128 _ _ _ _ _ (Lane.qpos_apply r L)]
  refine if_congr (by simp only [keyS]; omega) ((Lane.mm128 _ _ j r L).trans (Finset.sum_congr rfl fun d _ => ?_)) rfl
  refine congrArg (fun a : EReal => a * qw Q i p (ix2 d L)) ?_
  refine (k128 arg12 arg14 K c (⟨j * 8 + r, by omega⟩ : Fin 128) d).trans ?_
  exact congrArg (fun a => kW K (ix2 a d)) (Fin.ext (by simp only [keyS]; omega))

/-! ## The score buffer -/

/-- The key a row of the score buffer belongs to. -/
def keyOf (i : Fin 7) (R : Fin 896) : Fin 896 :=
  if h : (R : ℕ) < 256 * ((i + 1) / 2) then keyB ⟨R / 256, by omega⟩ ⟨R % 8, by omega⟩ ⟨R % 256 / 8, by omega⟩
  else keyS ⟨R / 256, by omega⟩ ⟨R % 8, by omega⟩ ⟨R % 128 / 8, by omega⟩

/-- What a unit leaves in its half of the buffer. -/
def G (i : Fin 7) (p : Fin 2) (y : S2x896x256.Idx) : EReal := xx Q K i p (y 2) (keyOf i (y 1))

theorem flat256 (x : FVec Ideal S32x8x256 .f32) (w L : Fin 256) :
    (shapeCast S1x256x256 (shapeCast S256x256 x shapeCasts_S32x8x256_S256x256) shapeCasts_S256x256_S1x256x256 (ix3 0 w L) : EReal)
      = x (ix3 (⟨w / 8, by omega⟩ : Fin 32) (⟨w % 8, by omega⟩ : Fin 8) L) := by
  pointwise

theorem flat128 (x : FVec Ideal S16x8x256 .f32) (w : Fin 128) (L : Fin 256) :
    (shapeCast S1x128x256 (shapeCast S128x256 x shapeCasts_S16x8x256_S128x256) shapeCasts_S128x256_S1x128x256 (ix3 0 w L) : EReal)
      = x (ix3 (⟨w / 8, by omega⟩ : Fin 16) (⟨w % 8, by omega⟩ : Fin 8) L) := by
  pointwise

theorem emb256 (p : Fin 2) (c : Fin 3) (a : Fin 1) (w L : Fin 256) :
    (Rect.unit (s := S2x896x256) ![p.val, 256 * c.val, 0] S1x256x256.size (inbS256 p c)).emb (ix3 a w L)
      = (ix3 p ⟨256 * c + w, by omega⟩ L : S2x896x256.Idx) := by
  funext b; apply Fin.ext
  fin_cases b
  · show (p : ℕ) + 1 * (a : ℕ) = p; omega
  · show 256 * (c : ℕ) + 1 * (w : ℕ) = 256 * c + w; omega
  · show 0 + 1 * (L : ℕ) = L; omega

theorem emb128 (p : Fin 2) (c : Fin 4) (a : Fin 1) (w : Fin 128) (L : Fin 256) :
    (Rect.unit (s := S2x896x256) ![p.val, 256 * c.val, 0] S1x128x256.size (inbS128 p c)).emb (ix3 a w L)
      = (ix3 p ⟨256 * c + w, by omega⟩ L : S2x896x256.Idx) := by
  funext b; apply Fin.ext
  fin_cases b
  · show (p : ℕ) + 1 * (a : ℕ) = p; omega
  · show 256 * (c : ℕ) + 1 * (w : ℕ) = 256 * c + w; omega
  · show 0 + 1 * (L : ℕ) = L; omega

theorem piece_val (i : Fin 7) (p : Fin 2) (k : Chunk) (hk : k ∈ chunks i) (x : (sPiece arg12 arg13 arg14 Q K i p k).1.shape.Idx) :
    (sPiece arg12 arg13 arg14 Q K i p k).2 x = G Q K i p ((sPiece arg12 arg13 arg14 Q K i p k).1.emb x) := by
  cases k with
  | big c =>
    have hm := mem_big hk
    obtain ⟨a, w, L, rfl⟩ : ∃ (a : Fin 1) (w L : Fin 256), x = ix3 a w L := ⟨_, _, _, eq_ix3 x⟩
    obtain rfl : a = 0 := Subsingleton.elim _ _
    refine (flat256 _ w L).trans ((s256_apply arg12 arg13 Q K i p c hk _ _ L).trans ?_)
    refine Eq.trans ?_ (congrArg (G Q K i p) (emb256 p c 0 w L)).symm
    refine congrArg (xx Q K i p L) ?_
    show _ = keyOf i ⟨256 * c + w, by omega⟩
    unfold keyOf
    rw [dif_pos (show 256 * (c : ℕ) + w < 256 * ((i + 1) / 2) by omega)]
    refine Fin.ext ?_
    simp only [keyB]; omega
  | small c =>
    have hm := mem_small hk
    obtain ⟨a, w, L, rfl⟩ : ∃ (a : Fin 1) (w : Fin 128) (L : Fin 256), x = ix3 a w L := ⟨_, _, _, eq_ix3 x⟩
    obtain rfl : a = 0 := Subsingleton.elim _ _
    refine (flat128 _ w L).trans ((s128_apply arg12 arg14 Q K i p c hk _ _ L).trans ?_)
    refine Eq.trans ?_ (congrArg (G Q K i p) (emb128 p c 0 w L)).symm
    refine congrArg (xx Q K i p L) ?_
    show _ = keyOf i ⟨256 * c + w, by omega⟩
    unfold keyOf
    rw [dif_neg (show ¬ 256 * (c : ℕ) + w < 256 * ((i + 1) / 2) by omega)]
    refine Fin.ext ?_
    simp only [keyS]; omega

theorem piece_first (i : Fin 7) (p : Fin 2) (k : Chunk) (y : S2x896x256.Idx) (h : y ∈ (sPiece arg12 arg13 arg14 Q K i p k).1.set) :
    y 0 = p := by
  cases k with
  | big c =>
    obtain ⟨x, rfl⟩ := LoadRect.exists_idx_of_mem _ h
    obtain ⟨a, w, L, rfl⟩ : ∃ (a : Fin 1) (w L : Fin 256), x = ix3 a w L := ⟨_, _, _, eq_ix3 x⟩
    exact congrFun (emb256 p c a w L) 0
  | small c =>
    obtain ⟨x, rfl⟩ := LoadRect.exists_idx_of_mem _ h
    obtain ⟨a, w, L, rfl⟩ : ∃ (a : Fin 1) (w : Fin 128) (L : Fin 256), x = ix3 a w L := ⟨_, _, _, eq_ix3 x⟩
    exact congrFun (emb128 p c a w L) 0

theorem canon_skip {S : Shape} {e : EltTy} (L' : List (View.Piece (Elt Ideal) S e)) (y : S.Idx) :
    ∀ L : List (View.Piece (Elt Ideal) S e), (∀ p ∈ L, y ∉ p.1.set) → canon (L ++ L') y = canon L' y
  | [], _ => rfl
  | p :: L, h => by
    rw [List.cons_append, canon_cons_of_not_mem _ _ (h p (by simp))]
    exact canon_skip L' y L fun q hq => h q (by simp [hq])

/-- The stores of one unit. -/
def unitL (i : Fin 7) (p : Fin 2) : List (View.Piece (Elt Ideal) S2x896x256 .f32) :=
  ((chunks i).map (sPiece arg12 arg13 arg14 Q K i p)).reverse

theorem sList_unit (i : Fin 7) (p : Fin 2) (u : ℕ) (hu : u = 2 * i + p) :
    sList arg12 arg13 arg14 Q K (u + 1) = unitL arg12 arg13 arg14 Q K i p ++ sList arg12 arg13 arg14 Q K u := by
  have e1 : (⟨u / 2 % 7, Nat.mod_lt _ (by decide)⟩ : Fin 7) = i := Fin.ext (by show u / 2 % 7 = i; omega)
  have e2 : (⟨u % 2, Nat.mod_lt _ (by decide)⟩ : Fin 2) = p := Fin.ext (by show u % 2 = p; omega)
  unfold unitL
  conv_lhs => unfold sList
  rw [e1, e2]

theorem canon_unit (i : Fin 7) (p : Fin 2) (u : ℕ) (hu : u = 2 * i + p) (y : S2x896x256.Idx) (k : Chunk) (hk : k ∈ chunks i)
    (hy : y ∈ (sPiece arg12 arg13 arg14 Q K i p k).1.set) :
    canon (sList arg12 arg13 arg14 Q K (u + 1)) y = G Q K i p y := by
  rw [sList_unit arg12 arg13 arg14 Q K i p u hu]
  refine canon_append_of_pieces (G Q K i p) _ _ (fun q hq x => ?_) y ⟨_, List.mem_reverse.2 (List.mem_map.2 ⟨k, hk, rfl⟩), hy⟩
  obtain ⟨k', hk', rfl⟩ := List.mem_map.1 (List.mem_reverse.1 hq)
  exact piece_val arg12 arg13 arg14 Q K i p k' hk' x

theorem canon_read (i : Fin 7) (p : Fin 2) (y : S2x896x256.Idx) (k : Chunk) (hk : k ∈ chunks i)
    (hy : y ∈ (sPiece arg12 arg13 arg14 Q K i p k).1.set) :
    canon (sList arg12 arg13 arg14 Q K (min (2 * i.val + p.val + 2) 14)) y = G Q K i p y := by
  by_cases h : 2 * (i : ℕ) + p = 13
  · rw [show min (2 * i.val + p.val + 2) 14 = 13 + 1 by omega]
    exact canon_unit arg12 arg13 arg14 Q K i p 13 h.symm y k hk hy
  · have hi := i.isLt
    have hp := p.isLt
    rw [show min (2 * i.val + p.val + 2) 14 = (2 * i.val + p.val + 1) + 1 by omega,
      sList_unit arg12 arg13 arg14 Q K ⟨(2 * i.val + p.val + 1) / 2, by omega⟩ ⟨(2 * i.val + p.val + 1) % 2, by omega⟩ _
        (by show 2 * i.val + p.val + 1 = 2 * ((2 * i.val + p.val + 1) / 2) + (2 * i.val + p.val + 1) % 2; omega),
      canon_skip]
    · exact canon_unit arg12 arg13 arg14 Q K i p _ rfl y k hk hy
    · intro q hq hm
      obtain ⟨k', _, rfl⟩ := List.mem_map.1 (List.mem_reverse.1 hq)
      have h1 := piece_first _ _ _ _ _ _ _ _ _ hm
      have h2 := piece_first _ _ _ _ _ _ _ _ _ hy
      have h3 := congrArg Fin.val (h2.symm.trans h1)
      have h4 : (p : ℕ) = (2 * i.val + p.val + 1) % 2 := h3
      omega

theorem read_idx (p : Fin 2) (r : Fin 14) (w : Fin 64) (L : Fin 256) :
    (Rect.unit (s := S2x896x256) ![p.val, 64 * r.val, 0] S1x64x256.size (inbS64 p r)).toLoadRect.idx (ix3 0 w L)
      = (ix3 p ⟨64 * r + w, by omega⟩ L : S2x896x256.Idx) := by
  funext b; apply Fin.ext
  fin_cases b
  · show (p : ℕ) + 1 * 0 = p; omega
  · show 64 * (r : ℕ) + 1 * (w : ℕ) = 64 * r + w; omega
  · show 0 + 1 * (L : ℕ) = L; omega

theorem sRead_big (i : Fin 7) (p : Fin 2) (c : Fin 3) (hc : Chunk.big c ∈ chunks i) (u : Fin 4) (w : Fin 64) (L : Fin 256) :
    (sRead arg12 arg13 arg14 arg17 Q K i p ⟨4 * c + u, by omega⟩ (ix3 0 w L) : EReal)
      = xx Q K i p L (keyB c ⟨w % 8, by omega⟩ ⟨8 * u + w / 8, by omega⟩) := by
  have hm := mem_big hc
  unfold sRead
  rw [readCov_eq_canon']
  beta_reduce
  rw [read_idx]
  have hy : (ix3 p ⟨64 * (4 * c + u) + w, by omega⟩ L : S2x896x256.Idx) ∈ (sPiece arg12 arg13 arg14 Q K i p (.big c)).1.set := by
    have e : (ix3 p ⟨64 * (4 * c + u) + w, by omega⟩ L : S2x896x256.Idx)
        = (Rect.unit (s := S2x896x256) ![p.val, 256 * c.val, 0] S1x256x256.size (inbS256 p c)).emb (ix3 (0 : Fin 1) (⟨64 * u + w, by omega⟩ : Fin 256) L) := by
      rw [emb256]; exact congrArg (fun a => (ix3 p a L : S2x896x256.Idx)) (Fin.ext (by show 64 * (4 * (c : ℕ) + u) + w = 256 * c + (64 * u + w); omega))
    rw [e]; exact LoadRect.idx_mem _ _
  refine (canon_read arg12 arg13 arg14 Q K i p _ _ hc hy).trans (congrArg (xx Q K i p L) ?_)
  show keyOf i ⟨64 * (4 * c + u) + w, by omega⟩ = _
  unfold keyOf
  rw [dif_pos (show 64 * (4 * (c : ℕ) + u) + w < 256 * ((i + 1) / 2) by omega)]
  refine Fin.ext ?_
  simp only [keyB]; omega

theorem sRead_small (i : Fin 7) (p : Fin 2) (c : Fin 4) (hc : Chunk.small c ∈ chunks i) (u : Fin 2) (w : Fin 64) (L : Fin 256) :
    (sRead arg12 arg13 arg14 arg17 Q K i p ⟨4 * c + u, by omega⟩ (ix3 0 w L) : EReal)
      = xx Q K i p L (keyS c ⟨w % 8, by omega⟩ ⟨8 * u + w / 8, by omega⟩) := by
  have hm := mem_small hc
  unfold sRead
  rw [readCov_eq_canon']
  beta_reduce
  rw [read_idx]
  have hy : (ix3 p ⟨64 * (4 * c + u) + w, by omega⟩ L : S2x896x256.Idx) ∈ (sPiece arg12 arg13 arg14 Q K i p (.small c)).1.set := by
    have e : (ix3 p ⟨64 * (4 * c + u) + w, by omega⟩ L : S2x896x256.Idx)
        = (Rect.unit (s := S2x896x256) ![p.val, 256 * c.val, 0] S1x128x256.size (inbS128 p c)).emb (ix3 (0 : Fin 1) (⟨64 * u + w, by omega⟩ : Fin 128) L) := by
      rw [emb128]; exact congrArg (fun a => (ix3 p a L : S2x896x256.Idx)) (Fin.ext (by show 64 * (4 * (c : ℕ) + u) + w = 256 * c + (64 * u + w); omega))
    rw [e]; exact LoadRect.idx_mem _ _
  refine (canon_read arg12 arg13 arg14 Q K i p _ _ hc hy).trans (congrArg (xx Q K i p L) ?_)
  show keyOf i ⟨64 * (4 * c + u) + w, by omega⟩ = _
  unfold keyOf
  rw [dif_neg (show ¬ 64 * (4 * (c : ℕ) + u) + w < 256 * ((i + 1) / 2) by omega)]
  refine Fin.ext ?_
  simp only [keyS]; omega

end Cert.Unit
-- ==== Proof.Round6.lean ====
/-
Rounding to a few bits keeps real numbers real.
-/
module

public import proofs.«01_k».proof.Proof.Quant
public import Idealize.ShloMosaic.Lib.Pointwise

@[expose] public section

set_option maxRecDepth 16384

noncomputable section

namespace Cert.Lane

open Cert.KernelIdeal Cert.KernelIdeal.Gen Cert.Body Idealize.ShloMosaic Idealize.ShloMosaic.TcCoe Idealize.SL.Sem

theorem round6_real (x : FVec Ideal S8x256 .f32) (r : Fin 8) (L : Fin 256) (a : ℝ) (h : (x (ix2 r L) : EReal) = (a : EReal)) :
    ∃ b : ℝ, (round6 x (ix2 r L) : EReal) = (b : EReal) := by
  unfold round6
  have e : expo 8 256 okP (absf x) (ix2 r L) = BitVec.ofNat 32 (Spec.E (absf x (ix2 r L) : EReal)) :=
    Quant.expo_8_256 _ _ _ _ (show (0 : EReal) ≤ max (x (ix2 r L) : EReal) (-(x (ix2 r L) : EReal)) by
      rw [h, ← EReal.coe_neg, ← Spec.coe_max]; exact_mod_cast le_max_iff.2 (by rcases le_total 0 a with h | h; exact Or.inl h; exact Or.inr (by linarith)))
  have hE := Spec.E_le (absf x (ix2 r L) : EReal)
  generalize Spec.E (absf x (ix2 r L) : EReal) = n at e hE
  generalize expo 8 256 okP (absf x) = w at e
  pointwise [invOf, scOf]
  have e1 : Ideal.ofBits FTy.f32 (IntOp.shli ArithUnit.vector (IntOp.subi (254#32) (BitVec.ofNat 32 n)) 23#32) = ((Spec.pw (254 - n) : ℝ) : EReal) := by
    refine Spec.shl_23 _ _ (by omega) _ ?_
    unfold IntOp.subi
    rw [BitVec.toNat_sub, BitVec.toNat_ofNat, BitVec.toNat_ofNat]
    omega
  rw [e, e1, Quant.sc_word n hE, h, Spec.ofBits_n32, Spec.ofBits_th32]
  refine ⟨(Ideal.roundHalfAway (a * Spec.pw (254 - n) * 32) : ℝ) * (1 / 32) * Spec.pw n, ?_⟩
  rw [EReal.coe_mul, EReal.coe_mul, ← EReal.coe_mul, ← EReal.coe_mul, Spec.liftRound_coe]

end Cert.Lane
-- ==== Proof.Unit.lean ====
/-
One unit of the kernel: the outputs of a query block for a pair of heads.

Every lane is one query.  The tiles of group maxima, block maxima, shifts, factors and weights are those of `KRow.lean`
for the query's row of scores, and the unit's output is that row's.
-/
module

public import proofs.«01_k».proof.Proof.Scores
public import proofs.«01_k».proof.Proof.Round6

@[expose] public section

set_option maxRecDepth 16384

noncomputable section

namespace Cert.Unit

open Cert.KernelIdeal Cert.KernelIdeal.Gen Cert.Body Idealize.ShloMosaic Idealize.ShloMosaic.TcCoe Idealize.SL.Sem
open Idealize.ShloMosaic.View

/-! ## Lists of tiles -/

theorem foldl_max_le (j : S8x256.Idx) (B : EReal) : ∀ (l : List (FVec Ideal S8x256 .f32)) (a : FVec Ideal S8x256 .f32),
    ((l.foldl maximumf a) j : EReal) ≤ B ↔ (a j : EReal) ≤ B ∧ ∀ y ∈ l, (y j : EReal) ≤ B
  | [], a => by simp
  | y :: l, a => by
    rw [List.foldl_cons, foldl_max_le j B l]
    show max (a j : EReal) (y j) ≤ B ∧ _ ↔ _
    rw [max_le_iff, List.forall_mem_cons, and_assoc]

theorem fold1_max_le (z : FVec Ideal S8x256 .f32) (j : S8x256.Idx) (B : EReal) (l : List (FVec Ideal S8x256 .f32)) (h : l ≠ []) :
    (fold1 maximumf z l j : EReal) ≤ B ↔ ∀ y ∈ l, (y j : EReal) ≤ B := by
  cases l with
  | nil => exact absurd rfl h
  | cons a l => rw [List.forall_mem_cons]; exact foldl_max_le j B l a

theorem foldl_add (j : S128x256.Idx) : ∀ (l : List (FVec Ideal S128x256 .f32)) (a : FVec Ideal S128x256 .f32),
    ((l.foldl addf a) j : EReal) = (a j : EReal) + (l.map fun y => (y j : EReal)).sum
  | [], a => by simp
  | y :: l, a => by
    rw [List.foldl_cons, foldl_add j l, List.map_cons, List.sum_cons, ← add_assoc]; rfl

theorem fold1_add (z : FVec Ideal S128x256 .f32) (j : S128x256.Idx) (l : List (FVec Ideal S128x256 .f32)) (h : l ≠ []) :
    (fold1 addf z l j : EReal) = (l.map fun y => (y j : EReal)).sum := by
  cases l with
  | nil => exact absurd rfl h
  | cons a l => rw [List.map_cons, List.sum_cons]; exact foldl_add j l a

theorem foldl_addf {α : Type} (f : α → FVec Ideal S8x256 .f32) (j : S8x256.Idx) : ∀ (l : List α) (a : FVec Ideal S8x256 .f32),
    ((l.foldl (fun l k => addf l (f k)) a) j : EReal) = (a j : EReal) + (l.map fun k => (f k j : EReal)).sum
  | [], a => by simp
  | y :: l, a => by
    rw [List.foldl_cons, foldl_addf f j l, List.map_cons, List.sum_cons, ← add_assoc]; rfl

theorem sum_map_comm {α : Type} (f : α → Fin 8 → EReal) : ∀ l : List α,
    ∑ r : Fin 8, (l.map fun k => f k r).sum = (l.map fun k => ∑ r : Fin 8, f k r).sum
  | [] => by simp
  | k :: l => by simp only [List.map_cons, List.sum_cons, Finset.sum_add_distrib, sum_map_comm f l]

/-! ## Rotations -/

theorem roll8_le (a : Fin 8 → EReal) (B : EReal) (r : Fin 8) (b c : Fin 8 → EReal)
    (hb : ∀ r, b r = max (a r) (a ⟨(r + 8 - 4) % 8, by omega⟩)) (hc : ∀ r, c r = max (b r) (b ⟨(r + 8 - 2) % 8, by omega⟩)) :
    max (c r) (c ⟨(r + 8 - 1) % 8, by omega⟩) ≤ B ↔ ∀ r', a r' ≤ B := by
  simp only [hc, hb, max_le_iff]
  constructor
  · rintro ⟨⟨⟨h0, h1⟩, h2, h3⟩, ⟨h4, h5⟩, h6, h7⟩ r'
    fin_cases r <;> fin_cases r' <;> first | exact h0 | exact h1 | exact h2 | exact h3 | exact h4 | exact h5 | exact h6 | exact h7
  · intro h; simp only [h, and_self]

theorem roll8_sum (a : Fin 8 → EReal) (r : Fin 8) (b c : Fin 8 → EReal)
    (hb : ∀ r, b r = a r + a ⟨(r + 8 - 4) % 8, by omega⟩) (hc : ∀ r, c r = b r + b ⟨(r + 8 - 2) % 8, by omega⟩) :
    c r + c ⟨(r + 8 - 1) % 8, by omega⟩ = ∑ r', a r' := by
  simp only [hc, hb, Fin.sum_univ_eight]
  fin_cases r <;> abel!

theorem rowMax_le (l : List (FVec Ideal S8x256 .f32)) (hl : l ≠ []) (r : Fin 8) (L : Fin 256) (B : EReal) :
    (rowMax l (ix2 r L) : EReal) ≤ B ↔ ∀ y ∈ l, ∀ r' : Fin 8, (y (ix2 r' L) : EReal) ≤ B := by
  unfold rowMax
  generalize hA : fold1 maximumf (fc S8x256 0x00000000#32) l = A
  have key := roll8_le (fun r => (A (ix2 r L) : EReal)) B r
    (fun r => (maximumf A (roll 4#32 A) (ix2 r L) : EReal))
    (fun r => (maximumf (maximumf A (roll 4#32 A)) (roll 2#32 (maximumf A (roll 4#32 A))) (ix2 r L) : EReal))
    (fun r => congrArg (fun z : EReal => max (A (ix2 r L) : EReal) z) (Lane.roll_apply 4 (by norm_num) A r L))
    (fun r => congrArg (fun z : EReal => max (maximumf A (roll 4#32 A) (ix2 r L) : EReal) z)
      (Lane.roll_apply 2 (by norm_num) (maximumf A (roll 4#32 A)) r L))
  refine Iff.trans (Eq.to_iff (congrArg (fun z : EReal => max
    (maximumf (maximumf A (roll 4#32 A)) (roll 2#32 (maximumf A (roll 4#32 A))) (ix2 r L) : EReal) z ≤ B)
    (Lane.roll_apply 1 (by norm_num) _ r L))) (key.trans ?_)
  subst hA
  constructor
  · intro h y hy r'; exact (fold1_max_le _ _ B l hl).1 (h r') y hy
  · intro h r'; exact (fold1_max_le _ _ B l hl).2 fun y hy => h y hy r'

theorem bm0_apply (g m : FVec Ideal S8x256 .f32) (r : Fin 8) (L : Fin 256) :
    (bm0 g m (ix2 r L) : EReal) = if (g (ix2 r L) : EReal) = ⊥ then (m (ix2 r L) : EReal) else g (ix2 r L) := by
  pointwise [bm0]
  rw [Spec.ofBits_bot]

theorem red256 (x : FVec Ideal S32x8x256 .f32) (r : Fin 8) (L : Fin 256) :
    (multiReduction (F := Ideal) .maximumf [0] S8x256 x 0xFF800000#32 reduces_S32x8x256_S8x256 (.inl rfl) rfl (ix2 r L) : EReal)
      = Finset.univ.fold max ⊥ fun j : Fin 32 => (x (ix3 j r L) : EReal) := by
  pointwise; rw [Spec.ofBits_bot]

theorem red128 (x : FVec Ideal S16x8x256 .f32) (r : Fin 8) (L : Fin 256) :
    (multiReduction (F := Ideal) .maximumf [0] S8x256 x 0xFF800000#32 reduces_S16x8x256_S8x256 (.inl rfl) rfl (ix2 r L) : EReal)
      = Finset.univ.fold max ⊥ fun j : Fin 16 => (x (ix3 j r L) : EReal) := by
  pointwise; rw [Spec.ofBits_bot]

theorem fold_le {n : ℕ} (f : Fin n → EReal) (B : EReal) : Finset.univ.fold max ⊥ f ≤ B ↔ ∀ k, f k ≤ B := by
  rw [Finset.fold_max_le]; simp

end Cert.Unit
-- ==== Proof.Attn.lean ====
/-
The unit's row: maxima, shifts, factors and weights.
-/
module

public import proofs.«01_k».proof.Proof.Unit

@[expose] public section

set_option maxRecDepth 16384

noncomputable section

namespace Cert.Unit

open Cert.KernelIdeal Cert.KernelIdeal.Gen Cert.Body Idealize.ShloMosaic Idealize.ShloMosaic.TcCoe Idealize.SL.Sem
open Idealize.ShloMosaic.View

variable (arg12 : Memref sig .tc .vmem S896x128 .f32) (arg13 : Memref sig .tc .vmem S768x128 .bf16)
  (arg14 : Memref sig .tc .vmem S512x128 .bf16) (arg17 : Memref sig .tc .vmem S2x896x256 .f32)
  (Q : Fin 4 → Fin 7 → Vec Ideal S1x1x128x128 .bf16) (K : Vec Ideal S1x1x896x128 .bf16) (i : Fin 7) (p : Fin 2) (L : Fin 256)

theorem xx_bot (k : Fin 896) (h : 128 * ((i : ℕ) + 1) ≤ k) : xx Q K i p L k = ⊥ := by
  unfold xx; rw [if_neg]; omega

/-! ## Maxima -/

theorem gm0_big (c : Fin 3) (hc : Chunk.big c ∈ chunks i) (r : Fin 8) (B : EReal) :
    (gm0 arg12 arg13 arg14 Q K i p (.big c) (ix2 r L) : EReal) ≤ B ↔ ∀ j, xx Q K i p L (keyB c r j) ≤ B :=
  (Eq.to_iff (congrArg (fun z : EReal => z ≤ B) (red256 (s256 arg12 arg13 Q K i p c) r L))).trans
    ((fold_le _ B).trans (forall_congr' fun j => Eq.to_iff (congrArg (fun z : EReal => z ≤ B) (s256_apply arg12 arg13 Q K i p c hc j r L))))

theorem gm0_small (c : Fin 4) (hc : Chunk.small c ∈ chunks i) (r : Fin 8) (B : EReal) :
    (gm0 arg12 arg13 arg14 Q K i p (.small c) (ix2 r L) : EReal) ≤ B ↔ ∀ j, xx Q K i p L (keyS c r j) ≤ B :=
  (Eq.to_iff (congrArg (fun z : EReal => z ≤ B) (red128 (s128 arg12 arg14 Q K i p c) r L))).trans
    ((fold_le _ B).trans (forall_congr' fun j => Eq.to_iff (congrArg (fun z : EReal => z ≤ B) (s128_apply arg12 arg14 Q K i p c hc j r L))))

/-- The other row of a pair. -/
abbrev o2 (r : Fin 8) : Fin 8 := ⟨if (r : ℕ) % 2 = 0 then r + 1 else r - 1, by split_ifs <;> omega⟩

/-- The row two away within four. -/
abbrev o4 (r : Fin 8) : Fin 8 := ⟨if (r : ℕ) % 4 < 2 then r + 2 else r - 2, by split_ifs <;> omega⟩

theorem o2_div (r : Fin 8) : (r : ℕ) / 2 = o2 r / 2 := by
  show (r : ℕ) / 2 = (if (r : ℕ) % 2 = 0 then (r : ℕ) + 1 else r - 1) / 2; split_ifs <;> omega

theorem o2_ne (r : Fin 8) : (r : ℕ) ≠ o2 r := by
  show (r : ℕ) ≠ (if (r : ℕ) % 2 = 0 then (r : ℕ) + 1 else r - 1); split_ifs <;> omega

theorem o4_div (r : Fin 8) : (r : ℕ) / 4 = o4 r / 4 := by
  show (r : ℕ) / 4 = (if (r : ℕ) % 4 < 2 then (r : ℕ) + 2 else r - 2) / 4; split_ifs <;> omega

theorem o4_ne (r : Fin 8) : (r : ℕ) / 2 ≠ o4 r / 2 := by
  show (r : ℕ) / 2 ≠ (if (r : ℕ) % 4 < 2 then (r : ℕ) + 2 else r - 2) / 2; split_ifs <;> omega

theorem max_swap2 (g : FVec Ideal S8x256 .f32) (r : Fin 8) (B : EReal) :
    (maximumf g (swap2 g) (ix2 r L) : EReal) ≤ B ↔ (g (ix2 r L) : EReal) ≤ B ∧ (g (ix2 (o2 r) L) : EReal) ≤ B :=
  (Eq.to_iff (congrArg (fun z : EReal => max (g (ix2 r L) : EReal) z ≤ B) (Lane.swap2_apply g r L))).trans max_le_iff

theorem max_swap4 (g : FVec Ideal S8x256 .f32) (r : Fin 8) (B : EReal) :
    (maximumf g (swap4 g) (ix2 r L) : EReal) ≤ B ↔ (g (ix2 r L) : EReal) ≤ B ∧ (g (ix2 (o4 r) L) : EReal) ≤ B :=
  (Eq.to_iff (congrArg (fun z : EReal => max (g (ix2 r L) : EReal) z ≤ B) (Lane.swap4_apply g r L))).trans max_le_iff

theorem gmax_le (k : Chunk) (hk : k ∈ chunks i) (r : Fin 8) (B : EReal) :
    (gmax (gm0 arg12 arg13 arg14 Q K i p k) k (ix2 r L) : EReal) ≤ B ↔ ∀ t, xx Q K i p L (Row.k32 (grpC k r) t) ≤ B := by
  cases k with
  | big c => exact (gm0_big arg12 arg13 arg14 Q K i p L c hk r B).trans (forall_big (fun k => xx Q K i p L k ≤ B) c r)
  | small c =>
    exact (max_swap2 L _ r B).trans ((and_congr (gm0_small arg12 arg13 arg14 Q K i p L c hk r B)
      (gm0_small arg12 arg13 arg14 Q K i p L c hk (o2 r) B)).trans
        (forall_small (fun k => xx Q K i p L k ≤ B) c r (o2 r) (o2_div r) (o2_ne r)))

theorem gmax_eq (k : Chunk) (hk : k ∈ chunks i) (r : Fin 8) :
    (gmax (gm0 arg12 arg13 arg14 Q K i p k) k (ix2 r L) : EReal) = KRow.g (xx Q K i p L) (grpC k r) :=
  eq_of_forall_ge_iff fun B => (gmax_le arg12 arg13 arg14 Q K i p L k hk r B).trans (fold_le _ B).symm

theorem bms_le (k : Chunk) (hk : k ∈ chunks i) (r : Fin 8) (B : EReal) :
    (bms arg12 arg13 arg14 Q K i p k (ix2 r L) : EReal) ≤ B ↔ ∀ j, xx Q K i p L (Row.k64 (KRow.blk (grpC k r)) j) ≤ B := by
  have hd := o2_div r
  have hn := o2_ne r
  have hd4 := o4_div r
  have hn4 := o4_ne r
  cases k with
  | big c =>
    exact (max_swap2 L _ r B).trans ((and_congr (gmax_le arg12 arg13 arg14 Q K i p L (.big c) hk r B)
      (gmax_le arg12 arg13 arg14 Q K i p L (.big c) hk (o2 r) B)).trans
        (forall_block (fun k => xx Q K i p L k ≤ B) _ _
          (by show (8 * (c : ℕ) + r) / 2 = (8 * (c : ℕ) + (o2 r : ℕ)) / 2; omega)
          (by show (8 * (c : ℕ) + r) ≠ (8 * (c : ℕ) + (o2 r : ℕ)); omega)))
  | small c =>
    exact (max_swap4 L _ r B).trans ((and_congr (gmax_le arg12 arg13 arg14 Q K i p L (.small c) hk r B)
      (gmax_le arg12 arg13 arg14 Q K i p L (.small c) hk (o4 r) B)).trans
        (forall_block (fun k => xx Q K i p L k ≤ B) _ _
          (by show (8 * (c : ℕ) + r / 2) / 2 = (8 * (c : ℕ) + (o4 r : ℕ) / 2) / 2; omega)
          (by show (8 * (c : ℕ) + r / 2) ≠ (8 * (c : ℕ) + (o4 r : ℕ) / 2); omega)))

theorem bms_eq (k : Chunk) (hk : k ∈ chunks i) (r : Fin 8) :
    (bms arg12 arg13 arg14 Q K i p k (ix2 r L) : EReal) = Row.bm (xx Q K i p L) (KRow.blk (grpC k r)) :=
  eq_of_forall_ge_iff fun B => (bms_le arg12 arg13 arg14 Q K i p L k hk r B).trans (fold_le _ B).symm

theorem mOf_eq (r : Fin 8) : (mOf arg12 arg13 arg14 Q K i p (ix2 r L) : EReal) = Row.m (xx Q K i p L) := by
  refine eq_of_forall_ge_iff fun B => ?_
  refine (rowMax_le _ (by simpa using chunks_ne i) r L B).trans (Iff.trans ?_ (fold_le _ B).symm)
  constructor
  · intro h k
    by_cases hk : 128 * ((i : ℕ) + 1) ≤ k
    · rw [xx_bot Q K i p L k hk]; exact bot_le
    · obtain ⟨kk, hkk, r', hb⟩ := cover i ⟨k / 64, by omega⟩ (by show (k : ℕ) / 64 < 2 * (i + 1); omega)
      have h1 := (bms_le arg12 arg13 arg14 Q K i p L kk hkk r' B).1 (h _ (List.mem_map.2 ⟨kk, hkk, rfl⟩) r') ⟨k % 64, by omega⟩
      rw [hb, show Row.k64 ⟨k / 64, by omega⟩ ⟨k % 64, by omega⟩ = k from Fin.ext (by show (k : ℕ) / 64 * 64 + k % 64 = k; omega)] at h1
      exact h1
  · intro h y hy r'
    obtain ⟨kk, hkk, rfl⟩ := List.mem_map.1 hy
    exact (bms_le arg12 arg13 arg14 Q K i p L kk hkk r' B).2 fun j => h _

theorem bOf_eq (k : Chunk) (hk : k ∈ chunks i) (r : Fin 8) :
    (bOf arg12 arg13 arg14 Q K i p k (ix2 r L) : EReal) = Row.bm0 (xx Q K i p L) (KRow.blk (grpC k r)) := by
  refine (bm0_apply _ _ r L).trans ?_
  rw [bms_eq arg12 arg13 arg14 Q K i p L k hk r, mOf_eq]
  rfl

/-! ## Shifts and factors -/

theorem pC_eq (k : Chunk) (hk : k ∈ chunks i) (r : Fin 8) :
    pCode (gmax (gm0 arg12 arg13 arg14 Q K i p k) k) (bOf arg12 arg13 arg14 Q K i p k) (ix2 r L)
      = BitVec.ofNat 32 (KRow.code (xx Q K i p L) (grpC k r)) := by
  have h := Lane.pCode_apply (gmax (gm0 arg12 arg13 arg14 Q K i p k) k) (bOf arg12 arg13 arg14 Q K i p k) r L
    (mul_nonneg (by exact_mod_cast (by norm_num : (0 : ℝ) ≤ 6)) (KRow.exp2_nonneg _))
  rw [gmax_eq arg12 arg13 arg14 Q K i p L k hk r, bOf_eq arg12 arg13 arg14 Q K i p L k hk r] at h
  exact h

theorem tC_eq (k : Chunk) (hk : k ∈ chunks i) (r : Fin 8) :
    (tC arg12 arg13 arg14 Q K i p k (ix2 r L) : EReal) = KRow.t (xx Q K i p L) (grpC k r) := by
  refine (Lane.tOf_apply _ _ r L _ (Spec.codeN_le _) (pC_eq arg12 arg13 arg14 Q K i p L k hk r)).trans ?_
  rw [bOf_eq arg12 arg13 arg14 Q K i p L k hk r]
  rfl

theorem fC_eq (k : Chunk) (hk : k ∈ chunks i) (r : Fin 8) :
    (fC arg12 arg13 arg14 Q K i p k (ix2 r L) : EReal) = KRow.f (xx Q K i p L) (grpC k r) := by
  refine (Lane.fOf_apply _ _ _ r L _ (Spec.codeN_le _) (pC_eq arg12 arg13 arg14 Q K i p L k hk r)).trans ?_
  rw [bOf_eq arg12 arg13 arg14 Q K i p L k hk r, mOf_eq]
  rfl

/-! ## Weights -/

theorem y_big (c : Fin 3) (hc : Chunk.big c ∈ chunks i) (u : Fin 4) (a r : Fin 8) :
    (yC64 arg12 arg13 arg14 arg17 Q K i p (.big c) ⟨4 * c + u, by omega⟩ (ix3 a r L) : EReal)
      = KRow.y (xx Q K i p L) (keyB c r ⟨8 * u + a, by omega⟩) := by
  refine (Lane.yOf_apply _ _ a r L).trans ?_
  rw [sRead_big arg12 arg13 arg14 arg17 Q K i p c hc u _ L, tC_eq arg12 arg13 arg14 Q K i p L _ hc r]
  unfold KRow.y
  rw [grp_keyB]
  have e : keyB c ⟨(a * 8 + r) % 8, by omega⟩ ⟨8 * u + (a * 8 + r) / 8, by omega⟩ = keyB c r ⟨8 * u + a, by omega⟩ :=
    Fin.ext (by simp only [keyB]; omega)
  exact congrArg (fun k => Ideal.exp2 ((xx Q K i p L k - KRow.t (xx Q K i p L) (grpC (.big c) r)) * ((KRow.C : ℝ) : EReal))) e

theorem y_small (c : Fin 4) (hc : Chunk.small c ∈ chunks i) (u : Fin 2) (a r : Fin 8) :
    (yC64 arg12 arg13 arg14 arg17 Q K i p (.small c) ⟨4 * c + u, by omega⟩ (ix3 a r L) : EReal)
      = KRow.y (xx Q K i p L) (keyS c r ⟨8 * u + a, by omega⟩) := by
  refine (Lane.yOf_apply _ _ a r L).trans ?_
  rw [sRead_small arg12 arg13 arg14 arg17 Q K i p c hc u _ L, tC_eq arg12 arg13 arg14 Q K i p L _ hc r]
  unfold KRow.y
  rw [grp_keyS]
  have e : keyS c ⟨(a * 8 + r) % 8, by omega⟩ ⟨8 * u + (a * 8 + r) / 8, by omega⟩ = keyS c r ⟨8 * u + a, by omega⟩ :=
    Fin.ext (by simp only [keyS]; omega)
  exact congrArg (fun k => Ideal.exp2 ((xx Q K i p L k - KRow.t (xx Q K i p L) (grpC (.small c) r)) * ((KRow.C : ℝ) : EReal))) e

theorem fc0 (r : Fin 8) : ((fc S8x256 0x00000000#32 : FVec Ideal S8x256 .f32) (ix2 r L) : EReal) = 0 := Ideal.ofBits_zero .f32

theorem ys_big (c : Fin 3) (hc : Chunk.big c ∈ chunks i) (r : Fin 8) :
    (ysC arg12 arg13 arg14 arg17 Q K i p (.big c) (ix2 r L) : EReal) = ∑ j, KRow.y (xx Q K i p L) (keyB c r j) := by
  have h : ∀ u : Fin 4, (ySum (yC64 arg12 arg13 arg14 arg17 Q K i p (.big c) ⟨4 * c + u, by omega⟩) (ix2 r L) : EReal)
      = ∑ a : Fin 8, KRow.y (xx Q K i p L) (keyB c r ⟨u * 8 + a, by omega⟩) := fun u =>
    (Lane.ySum_apply _ r L).trans (Finset.sum_congr rfl fun a _ => (y_big arg12 arg13 arg14 arg17 Q K i p L c hc u a r).trans
      (congrArg (fun j => KRow.y (xx Q K i p L) (keyB c r j)) (Fin.ext (by show 8 * (u : ℕ) + a = u * 8 + a; omega))))
  refine (congrArg₂ (fun x y : EReal => x + y) (congrArg₂ (fun x y : EReal => x + y) (congrArg₂ (fun x y : EReal => x + y)
    (congrArg₂ (fun x y : EReal => x + y) (fc0 L r) (h 0)) (h 1)) (h 2)) (h 3)).trans ?_
  beta_reduce
  rw [zero_add, Fin.sum_univ_tiles (N := 32) 4 8 rfl, Fin.sum_univ_four]

theorem ys_small (c : Fin 4) (hc : Chunk.small c ∈ chunks i) (r : Fin 8) :
    (ysC arg12 arg13 arg14 arg17 Q K i p (.small c) (ix2 r L) : EReal) = ∑ j, KRow.y (xx Q K i p L) (keyS c r j) := by
  have h : ∀ u : Fin 2, (ySum (yC64 arg12 arg13 arg14 arg17 Q K i p (.small c) ⟨4 * c + u, by omega⟩) (ix2 r L) : EReal)
      = ∑ a : Fin 8, KRow.y (xx Q K i p L) (keyS c r ⟨u * 8 + a, by omega⟩) := fun u =>
    (Lane.ySum_apply _ r L).trans (Finset.sum_congr rfl fun a _ => (y_small arg12 arg13 arg14 arg17 Q K i p L c hc u a r).trans
      (congrArg (fun j => KRow.y (xx Q K i p L) (keyS c r j)) (Fin.ext (by show 8 * (u : ℕ) + a = u * 8 + a; omega))))
  refine (congrArg₂ (fun x y : EReal => x + y) (congrArg₂ (fun x y : EReal => x + y) (fc0 L r) (h 0)) (h 1)).trans ?_
  beta_reduce
  rw [zero_add, Fin.sum_univ_tiles (N := 16) 2 8 rfl, Fin.sum_univ_two]

theorem sum_mul_real {n : ℕ} (y : Fin n → EReal) (f : EReal) (hy : ∀ j, ∃ r : ℝ, y j = r) (hf : ∃ r : ℝ, f = r) :
    (∑ j, y j) * f = ∑ j, y j * f := by
  choose Y hY using hy
  obtain ⟨F, rfl⟩ := hf
  simp only [hY, ← EReal.coe_mul, ← KRow.coe_sum, Finset.sum_mul]

/-- The normaliser. -/
theorem lOf_eq (hx : KRow.Ok (xx Q K i p L)) (r : Fin 8) :
    (lOf arg12 arg13 arg14 arg17 Q K i p (ix2 r L) : EReal) = KRow.l (xx Q K i p L) := by
  unfold lOf
  generalize hA : lPart arg12 arg13 arg14 arg17 Q K i p = A
  refine (congrArg (fun z : EReal => (addf (addf A (roll 4#32 A)) (roll 2#32 (addf A (roll 4#32 A))) (ix2 r L) : EReal) + z)
    (Lane.roll_apply 1 (by norm_num) _ r L)).trans ((roll8_sum (fun r => (A (ix2 r L) : EReal)) r
    (fun r => (addf A (roll 4#32 A) (ix2 r L) : EReal))
    (fun r => (addf (addf A (roll 4#32 A)) (roll 2#32 (addf A (roll 4#32 A))) (ix2 r L) : EReal))
    (fun r => congrArg (fun z : EReal => (A (ix2 r L) : EReal) + z) (Lane.roll_apply 4 (by norm_num) A r L))
    (fun r => congrArg (fun z : EReal => (addf A (roll 4#32 A) (ix2 r L) : EReal) + z)
      (Lane.roll_apply 2 (by norm_num) (addf A (roll 4#32 A)) r L))).trans ?_)
  subst hA
  have e : ∀ r : Fin 8, (lPart arg12 arg13 arg14 arg17 Q K i p (ix2 r L) : EReal)
      = ((chunks i).map fun k => (ysC arg12 arg13 arg14 arg17 Q K i p k (ix2 r L) : EReal) * fC arg12 arg13 arg14 Q K i p k (ix2 r L)).sum := fun r =>
    (foldl_addf (fun k => mulf (ysC arg12 arg13 arg14 arg17 Q K i p k) (fC arg12 arg13 arg14 Q K i p k)) (ix2 r L) (chunks i) _).trans
      (by rw [fc0, zero_add]; rfl)
  simp only [e]
  rw [sum_map_comm]
  unfold KRow.l
  rw [← chunks_sum _ i fun k hk => by rw [KRow.y_bot k (xx_bot Q K i p L k hk), zero_mul]]
  refine congrArg List.sum (List.map_congr_left fun k hk => ?_)
  cases k with
  | big c =>
    refine Finset.sum_congr rfl fun r _ => ?_
    rw [ys_big arg12 arg13 arg14 arg17 Q K i p L c hk r, fC_eq arg12 arg13 arg14 Q K i p L _ hk r,
      sum_mul_real _ _ (fun j => KRow.y_real hx _) (KRow.f_real hx _)]
    exact Finset.sum_congr rfl fun j _ => by beta_reduce; rw [grp_keyB]
  | small c =>
    refine Finset.sum_congr rfl fun r _ => ?_
    rw [ys_small arg12 arg13 arg14 arg17 Q K i p L c hk r, fC_eq arg12 arg13 arg14 Q K i p L _ hk r,
      sum_mul_real _ _ (fun j => KRow.y_real hx _) (KRow.f_real hx _)]
    exact Finset.sum_congr rfl fun j _ => by beta_reduce; rw [grp_keyS]

end Cert.Unit
-- ==== Proof.Acc.lean ====
/-
The unit's products and its output.
-/
module

public import proofs.«01_k».proof.Proof.Attn

@[expose] public section

set_option maxRecDepth 16384

noncomputable section

namespace Cert.Unit

open Cert.KernelIdeal Cert.KernelIdeal.Gen Cert.Body Idealize.ShloMosaic Idealize.ShloMosaic.TcCoe Idealize.SL.Sem
open Idealize.ShloMosaic.View

/-! ## The factor in three parts -/

theorem parts_real (x : FVec Ideal S8x256 .f32) (r : Fin 8) (L : Fin 256) (a : ℝ) (h : (x (ix2 r L) : EReal) = (a : EReal)) :
    ∃ b1 b2 : ℝ, (round6 x (ix2 r L) : EReal) = b1 ∧ (round6 (subf x (round6 x)) (ix2 r L) : EReal) = b2
      ∧ (subf (subf x (round6 x)) (round6 (subf x (round6 x))) (ix2 r L) : EReal) = ((a - b1 - b2 : ℝ) : EReal) := by
  obtain ⟨b1, h1⟩ := Lane.round6_real x r L a h
  have hs : (subf x (round6 x) (ix2 r L) : EReal) = ((a - b1 : ℝ) : EReal) := by
    refine (congrArg₂ (fun x y : EReal => x - y) h h1).trans (EReal.coe_sub _ _).symm
  obtain ⟨b2, h2⟩ := Lane.round6_real (subf x (round6 x)) r L _ hs
  exact ⟨b1, b2, h1, h2, (congrArg₂ (fun x y : EReal => x - y) hs h2).trans (EReal.coe_sub _ _).symm⟩

theorem three {n : ℕ} (v e f z1 z2 z3 : Fin n → EReal) (hv : ∀ w, ∃ r : ℝ, v w = r) (he : ∀ w, ∃ r : ℝ, e w = r)
    (hz : ∀ w, ∃ a b1 b2 : ℝ, f w = a ∧ z1 w = b1 ∧ z2 w = b2 ∧ z3 w = ((a - b1 - b2 : ℝ) : EReal)) :
    ∑ w, v w * (e w * z1 w) + (∑ w, v w * (e w * z2 w) + (∑ w, v w * (e w * z3 w) + 0)) = ∑ w, v w * (e w * f w) := by
  rw [add_zero, ← Finset.sum_add_distrib, ← Finset.sum_add_distrib]
  refine Finset.sum_congr rfl fun w _ => ?_
  obtain ⟨V, hV⟩ := hv w
  obtain ⟨E, hE⟩ := he w
  obtain ⟨a, b1, b2, ha, h1, h2, h3⟩ := hz w
  rw [hV, hE, ha, h1, h2, h3]
  simp only [← EReal.coe_mul, ← EReal.coe_add]
  congr 1
  ring

theorem sum_flatMap {α β : Type} (g : α → List β) (h : β → EReal) : ∀ l : List α,
    ((l.flatMap g).map h).sum = (l.map fun k => ((g k).map h).sum).sum
  | [] => rfl
  | k :: l => by
    rw [List.flatMap_cons, List.map_append, List.sum_append, sum_flatMap g h l, List.map_cons, List.sum_cons]

theorem rint_zero : Ideal.roundHalfEven 0 = 0 := by
  simp [Ideal.roundHalfEven]

theorem fp4S_zero : Spec.fp4S 0 = 0 := by
  have h : ∀ s : ℝ, s ≠ 0 → Ideal.div (0 : EReal) (s : EReal) = 0 := fun s hs => by rw [Spec.div_real _ _ hs, zero_mul]
  have hs : Spec.stp 0 ≠ 0 := by unfold Spec.stp; split_ifs <;> norm_num
  unfold Spec.fp4S
  rw [h _ hs]
  have e : Ideal.liftRound Ideal.roundHalfEven (0 : EReal) = 0 := by
    show (((Ideal.roundHalfEven 0 : ℤ) : ℝ) : EReal) = 0
    rw [rint_zero]; norm_num
  rw [e, mul_zero, max_eq_right (by exact_mod_cast (by norm_num : (-6 : ℝ) ≤ 0)), min_eq_right (by exact_mod_cast (by norm_num : (0 : ℝ) ≤ 6))]

variable (arg12 : Memref sig .tc .vmem S896x128 .f32) (arg13 : Memref sig .tc .vmem S768x128 .bf16)
  (arg14 : Memref sig .tc .vmem S512x128 .bf16) (arg15 : Memref sig .tc .vmem S128x768 .bf16)
  (arg16 : Memref sig .tc .vmem S128x512 .bf16) (arg17 : Memref sig .tc .vmem S2x896x256 .f32)
  (Q : Fin 4 → Fin 7 → Vec Ideal S1x1x128x128 .bf16) (K V : Vec Ideal S1x1x896x128 .bf16) (i : Fin 7) (p : Fin 2) (L : Fin 256)
  (d : Fin 128)

/-! ## The products of a chunk -/

theorem d_big (c : Fin 3) (hc : Chunk.big c ∈ chunks i) (z : FVec Ideal S8x256 .f32) :
    (dOf arg12 arg13 arg14 arg15 arg16 arg17 Q K V i p (.big c) (twice z) (ix2 d L) : EReal)
      = ∑ w : Fin 256, (vW V (ix2 (keyB c ⟨w % 8, by omega⟩ ⟨w / 8, by omega⟩) d) : EReal)
        * (Spec.fp4S (KRow.y (xx Q K i p L) (keyB c ⟨w % 8, by omega⟩ ⟨w / 8, by omega⟩)) * z (ix2 (⟨w % 8, by omega⟩ : Fin 8) L)) := by
  refine (Lane.mv256 _ _ _ d L).trans (Finset.sum_congr rfl fun w _ => ?_)
  refine congrArg₂ (fun a b : EReal => a * b) (v256 arg12 arg15 K V c w d) (congrArg₂ (fun a b : EReal => a * b) ?_ ?_)
  · refine (Lane.cat4 (fun u : Fin 4 => yC (yC64 arg12 arg13 arg14 arg17 Q K i p (.big c) ⟨4 * c + u, by omega⟩)) _ w L).trans ?_
    refine (Lane.yC_apply _ _ L).trans (congrArg Spec.fp4S ?_)
    refine (y_big arg12 arg13 arg14 arg17 Q K i p L c hc ⟨w / 64, by omega⟩ _ _).trans (congrArg (KRow.y (xx Q K i p L)) ?_)
    exact Fin.ext (by simp only [keyB]; omega)
  · refine (Lane.twice_apply z _ L).trans (congrArg (fun r => z (ix2 r L)) ?_)
    exact Fin.ext (by show (w : ℕ) % 16 % 8 = w % 8; omega)

theorem d_small (c : Fin 4) (hc : Chunk.small c ∈ chunks i) (z : FVec Ideal S8x256 .f32) :
    (dOf arg12 arg13 arg14 arg15 arg16 arg17 Q K V i p (.small c) (twice z) (ix2 d L) : EReal)
      = ∑ w : Fin 128, (vW V (ix2 (keyS c ⟨w % 8, by omega⟩ ⟨w / 8, by omega⟩) d) : EReal)
        * (Spec.fp4S (KRow.y (xx Q K i p L) (keyS c ⟨w % 8, by omega⟩ ⟨w / 8, by omega⟩)) * z (ix2 (⟨w % 8, by omega⟩ : Fin 8) L)) := by
  refine (Lane.mv128 _ _ _ d L).trans (Finset.sum_congr rfl fun w _ => ?_)
  refine congrArg₂ (fun a b : EReal => a * b) (v128 arg12 arg16 K V c w d) (congrArg₂ (fun a b : EReal => a * b) ?_ ?_)
  · refine (Lane.cat2 (fun u : Fin 2 => yC (yC64 arg12 arg13 arg14 arg17 Q K i p (.small c) ⟨4 * c + u, by omega⟩)) _ w L).trans ?_
    refine (Lane.yC_apply _ _ L).trans (congrArg Spec.fp4S ?_)
    refine (y_small arg12 arg13 arg14 arg17 Q K i p L c hc ⟨w / 64, by omega⟩ _ _).trans (congrArg (KRow.y (xx Q K i p L)) ?_)
    exact Fin.ext (by simp only [keyS]; omega)
  · refine (Lane.twice_apply z _ L).trans (congrArg (fun r => z (ix2 r L)) ?_)
    exact Fin.ext (by show (w : ℕ) % 16 % 8 = w % 8; omega)

/-- A key's part of the product. -/
def H (k : Fin 896) : EReal :=
  (vW V (ix2 k d) : EReal) * (Spec.fp4S (KRow.y (xx Q K i p L) k) * KRow.f (xx Q K i p L) (KRow.grp k))

theorem fC_parts (hx : KRow.Ok (xx Q K i p L)) (k : Chunk) (hk : k ∈ chunks i) (r : Fin 8) : ∃ a b1 b2 : ℝ,
    KRow.f (xx Q K i p L) (grpC k r) = a ∧ (round6 (fC arg12 arg13 arg14 Q K i p k) (ix2 r L) : EReal) = b1
      ∧ (round6 (subf (fC arg12 arg13 arg14 Q K i p k) (round6 (fC arg12 arg13 arg14 Q K i p k))) (ix2 r L) : EReal) = b2
      ∧ (subf (subf (fC arg12 arg13 arg14 Q K i p k) (round6 (fC arg12 arg13 arg14 Q K i p k)))
          (round6 (subf (fC arg12 arg13 arg14 Q K i p k) (round6 (fC arg12 arg13 arg14 Q K i p k)))) (ix2 r L) : EReal) = ((a - b1 - b2 : ℝ) : EReal) := by
  obtain ⟨a, ha⟩ := KRow.f_real hx (grpC k r)
  obtain ⟨b1, b2, h1, h2, h3⟩ := parts_real (fC arg12 arg13 arg14 Q K i p k) r L a ((fC_eq arg12 arg13 arg14 Q K i p L k hk r).trans ha)
  exact ⟨a, b1, b2, ha, h1, h2, h3⟩

theorem chunk_prod (hx : KRow.Ok (xx Q K i p L)) (hv : ∀ k, ∃ r : ℝ, (vW V (ix2 k d) : EReal) = r) (k : Chunk) (hk : k ∈ chunks i) :
    (((parts (fC arg12 arg13 arg14 Q K i p k)).map (dOf arg12 arg13 arg14 arg15 arg16 arg17 Q K V i p k)).map
      fun y => (y (ix2 d L) : EReal)).sum = chunkSum (H Q K V i p L d) k := by
  unfold parts
  simp only [List.map_cons, List.map_nil, List.sum_cons, List.sum_nil]
  cases k with
  | big c =>
    simp only [d_big arg12 arg13 arg14 arg15 arg16 arg17 Q K V i p L d c hk]
    refine (three _ _ (fun w : Fin 256 => KRow.f (xx Q K i p L) (grpC (.big c) ⟨w % 8, by omega⟩)) _ _ _ (fun w => hv _) (fun w => Spec.fp4S_coe _)
      (fun w => fC_parts arg12 arg13 arg14 Q K i p L hx _ hk _)).trans ?_
    refine (Fin.sum_univ_tiles (N := 256) 32 8 rfl _).trans (Finset.sum_comm.trans ?_)
    refine Finset.sum_congr rfl fun r _ => Finset.sum_congr rfl fun j _ => ?_
    have e1 : (⟨(j * 8 + r) % 8, by omega⟩ : Fin 8) = r := Fin.ext (by show ((j : ℕ) * 8 + r) % 8 = r; omega)
    have e2 : (⟨(j * 8 + r) / 8, by omega⟩ : Fin 32) = j := Fin.ext (by show ((j : ℕ) * 8 + r) / 8 = j; omega)
    unfold H
    rw [grp_keyB]
    exact congrArg₂ (fun (r : Fin 8) (j : Fin 32) => (vW V (ix2 (keyB c r j) d) : EReal)
      * (Spec.fp4S (KRow.y (xx Q K i p L) (keyB c r j)) * KRow.f (xx Q K i p L) (grpC (.big c) r))) e1 e2
  | small c =>
    simp only [d_small arg12 arg13 arg14 arg15 arg16 arg17 Q K V i p L d c hk]
    refine (three _ _ (fun w : Fin 128 => KRow.f (xx Q K i p L) (grpC (.small c) ⟨w % 8, by omega⟩)) _ _ _ (fun w => hv _) (fun w => Spec.fp4S_coe _)
      (fun w => fC_parts arg12 arg13 arg14 Q K i p L hx _ hk _)).trans ?_
    refine (Fin.sum_univ_tiles (N := 128) 16 8 rfl _).trans (Finset.sum_comm.trans ?_)
    refine Finset.sum_congr rfl fun r _ => Finset.sum_congr rfl fun j _ => ?_
    have e1 : (⟨(j * 8 + r) % 8, by omega⟩ : Fin 8) = r := Fin.ext (by show ((j : ℕ) * 8 + r) % 8 = r; omega)
    have e2 : (⟨(j * 8 + r) / 8, by omega⟩ : Fin 16) = j := Fin.ext (by show ((j : ℕ) * 8 + r) / 8 = j; omega)
    unfold H
    rw [grp_keyS]
    exact congrArg₂ (fun (r : Fin 8) (j : Fin 16) => (vW V (ix2 (keyS c r j) d) : EReal)
      * (Spec.fp4S (KRow.y (xx Q K i p L) (keyS c r j)) * KRow.f (xx Q K i p L) (grpC (.small c) r))) e1 e2

/-- The sum of the products. -/
theorem accOf_eq (hx : KRow.Ok (xx Q K i p L)) (hv : ∀ k, ∃ r : ℝ, (vW V (ix2 k d) : EReal) = r) :
    (accOf arg12 arg13 arg14 arg15 arg16 arg17 Q K V i p (ix2 d L) : EReal) = ∑ k, H Q K V i p L d k := by
  have hne : ((chunks i).flatMap fun k => (parts (fC arg12 arg13 arg14 Q K i p k)).map (dOf arg12 arg13 arg14 arg15 arg16 arg17 Q K V i p k)) ≠ [] := by
    obtain ⟨k, l, hkl⟩ := List.exists_cons_of_ne_nil (chunks_ne i)
    rw [hkl, List.flatMap_cons]
    simp [parts]
  refine (fold1_add _ (ix2 d L) _ hne).trans ?_
  rw [sum_flatMap, ← chunks_sum _ i fun k hk => by
    unfold H
    rw [KRow.y_bot k (xx_bot Q K i p L k hk), fp4S_zero, zero_mul, mul_zero]]
  exact congrArg List.sum (List.map_congr_left fun k hk => chunk_prod arg12 arg13 arg14 arg15 arg16 arg17 Q K V i p L d hx hv k hk)

/-- The unit's output. -/
theorem oT_eq (hx : KRow.Ok (xx Q K i p L)) (hv : ∀ k, ∃ r : ℝ, (vW V (ix2 k d) : EReal) = r) :
    (oT arg12 arg13 arg14 arg15 arg16 arg17 Q K V i p (ix2 d L) : EReal)
      = Row.out (fun k => KRow.sc (xx Q K i p L k)) fun k => vW V (ix2 k d) := by
  rw [← KRow.out_eq hx _ hv]
  unfold oT
  refine (Lane.oT_apply _ _ d L).trans ?_
  rw [accOf_eq arg12 arg13 arg14 arg15 arg16 arg17 Q K V i p L d hx hv, lOf_eq arg12 arg13 arg14 arg17 Q K i p L hx]
  rfl

end Cert.Unit
-- ==== Proof.KerAttn.lean ====
/-
The kernel's attention array.
-/
module

public import proofs.«01_k».proof.Proof.KerArr
public import proofs.«01_k».proof.Proof.Acc

@[expose] public section

set_option maxRecDepth 16384

noncomputable section

namespace Cert.KerOut

open Cert.KernelIdeal Cert.KernelIdeal.Gen Cert.Body Idealize.ShloMosaic Idealize.ShloMosaic.TcCoe Idealize.SL.Sem
open Idealize.ShloMosaic.View

/-! ## The widened entries are real numbers -/

theorem wd_real {n : ℕ} (x : Fin n → Fin 32 → EReal) (g : Fin n) (r : Fin 32) : ∃ a : ℝ, Grp.wd x g r = a := by
  obtain ⟨a, ha⟩ := Spec.fp4S_coe (x g r * ((Spec.invN (Grp.code x g) : ℝ) : EReal))
  exact ⟨a * Spec.pw (Grp.code x g), (congrArg (fun z : EReal => z * ((Spec.pw (Grp.code x g) : ℝ) : EReal)) ha).trans (EReal.coe_mul _ _).symm⟩

theorem sum_real {n : ℕ} (a b : Fin n → EReal) (ha : ∀ k, ∃ r : ℝ, a k = r) (hb : ∀ k, ∃ r : ℝ, b k = r) :
    ∃ r : ℝ, ∑ k, a k * b k = r := by
  choose A hA using ha
  choose B hB using hb
  exact ⟨∑ k, A k * B k, by simp only [hA, hB, ← EReal.coe_mul, ← KRow.coe_sum]⟩

section Blocks

variable (arg12 : Memref sig .tc .vmem S896x128 .f32) (arg13 : Memref sig .tc .vmem S768x128 .bf16)
  (arg14 : Memref sig .tc .vmem S512x128 .bf16) (arg15 : Memref sig .tc .vmem S128x768 .bf16)
  (arg16 : Memref sig .tc .vmem S128x512 .bf16) (arg17 : Memref sig .tc .vmem S2x896x256 .f32)
  (Q : Fin 4 → Fin 7 → Vec Ideal S1x1x128x128 .bf16) (K V : Vec Ideal S1x1x896x128 .bf16)

theorem qw_apply (i : Fin 7) (p : Fin 2) (d : Fin 128) (L : Fin 256) :
    (qw Q i p (ix2 d L) : EReal) = qWt (Q ⟨2 * p + L / 128, by omega⟩ i) (ix2 d (⟨L % 128, by omega⟩ : Fin 128)) :=
  concatenate_ofFn_apply (t := S128x256) (s₁ := S128x128) 1 (fun u : Fin 2 => qWt (Q ⟨2 * p + u, by omega⟩ i))
    concatenates_S128x128_S128x128_S128x256_d1 rfl 128 rfl (ix2 d L) ⟨L / 128, by omega⟩ rfl _ rfl fun b hb => by
      fin_cases b
      · rfl
      · exact absurd rfl hb

theorem xx_ok (i : Fin 7) (p : Fin 2) (L : Fin 256) : KRow.Ok (Unit.xx Q K i p L) := by
  have h : ∀ k, ∃ r : ℝ, ∑ d : Fin 128, (kW K (ix2 k d) : EReal) * qw Q i p (ix2 d L) = r := fun k =>
    sum_real _ _ (fun d => by rw [kW_apply]; exact wd_real _ _ _) (fun d => by rw [qw_apply, qWt_apply]; exact wd_real _ _ _)
  constructor
  · intro k
    obtain ⟨r, hr⟩ := h k
    unfold Unit.xx
    split_ifs
    · rw [hr]; exact EReal.coe_ne_top _
    · exact bot_ne_top
  · obtain ⟨r, hr⟩ := h 0
    refine ⟨0, ?_⟩
    unfold Unit.xx
    rw [if_pos (show ((0 : Fin 896) : ℕ) ≤ 128 * (i : ℕ) + (L : ℕ) % 128 from Nat.zero_le _), hr]
    exact EReal.coe_ne_bot _

/-- What is stored for a head and a query block. -/
def oP (h : Fin 4) (i : Fin 7) : Vec Ideal S1x1x128x128 .bf16 :=
  match h with
  | 0 => oOut0 arg12 arg13 arg14 arg15 arg16 arg17 Q K V i 0
  | 1 => oOut1 arg12 arg13 arg14 arg15 arg16 arg17 Q K V i 0
  | 2 => oOut0 arg12 arg13 arg14 arg15 arg16 arg17 Q K V i 1
  | 3 => oOut1 arg12 arg13 arg14 arg15 arg16 arg17 Q K V i 1

theorem mem_oList (p) : p ∈ oList arg12 arg13 arg14 arg15 arg16 arg17 Q K V
    ↔ ∃ h i, p = ⟨rectO h i, oP arg12 arg13 arg14 arg15 arg16 arg17 Q K V h i⟩ := by
  unfold oList
  constructor
  · intro hp
    obtain ⟨i, _, hp⟩ := List.mem_flatMap.1 hp
    simp only [List.mem_cons, List.not_mem_nil, or_false] at hp
    rcases hp with rfl | rfl | rfl | rfl
    · exact ⟨3, i, rfl⟩
    · exact ⟨2, i, rfl⟩
    · exact ⟨1, i, rfl⟩
    · exact ⟨0, i, rfl⟩
  · rintro ⟨h, i, rfl⟩
    refine List.mem_flatMap.2 ⟨i, mem_is7 i, ?_⟩
    simp only [List.mem_cons, List.not_mem_nil, or_false]
    match h with
    | 0 => exact Or.inr (Or.inr (Or.inr rfl))
    | 1 => exact Or.inr (Or.inr (Or.inl rfl))
    | 2 => exact Or.inr (Or.inl rfl)
    | 3 => exact Or.inl rfl

theorem vW_real (d : Fin 128) (k : Fin 896) : ∃ r : ℝ, (vW V (ix2 k d) : EReal) = r := by
  rw [vW_apply]; exact wd_real _ _ _

/-- The scores of a head's query against a key. -/
def sx (h : Fin 4) (i : Fin 7) (q : Fin 128) (k : Fin 896) : EReal :=
  if (k : ℕ) ≤ 128 * i + q then ∑ d : Fin 128, (kW K (ix2 k d) : EReal) * qWt (Q h i) (ix2 d q) else ⊥

theorem xx_sx (i : Fin 7) (p : Fin 2) (L : Fin 256) (h : Fin 4) (q : Fin 128) (hh : (h : ℕ) = 2 * p + L / 128) (hq : (q : ℕ) = L % 128) :
    Unit.xx Q K i p L = sx Q K h i q := by
  funext k
  unfold Unit.xx sx
  rw [hq]
  refine if_congr Iff.rfl (Finset.sum_congr rfl fun d _ => ?_) rfl
  rw [qw_apply]
  have e1 : (⟨2 * p + L / 128, by omega⟩ : Fin 4) = h := Fin.ext hh.symm
  have e2 : (⟨L % 128, by omega⟩ : Fin 128) = q := Fin.ext hq.symm
  rw [e1, e2]

theorem oP_apply (h : Fin 4) (i : Fin 7) (q d : Fin 128) :
    (oP arg12 arg13 arg14 arg15 arg16 arg17 Q K V h i (ix4 0 0 q d) : EReal)
      = Row.out (fun k => KRow.sc (sx Q K h i q k)) fun k => vW V (ix2 k d) := by
  have key : ∀ (p : Fin 2) (L : Fin 256), (h : ℕ) = 2 * p + L / 128 → (q : ℕ) = L % 128 →
      (oT arg12 arg13 arg14 arg15 arg16 arg17 Q K V i p (ix2 d L) : EReal)
        = Row.out (fun k => KRow.sc (sx Q K h i q k)) fun k => vW V (ix2 k d) := fun p L h1 h2 => by
    rw [← xx_sx Q K i p L h q h1 h2]
    exact Unit.oT_eq arg12 arg13 arg14 arg15 arg16 arg17 Q K V i p L d (xx_ok Q K i p L) (vW_real V d)
  match h with
  | 0 => exact (Lane.o0_apply _ 0 0 q d).trans (key 0 ⟨q, by omega⟩ (by show 0 = 2 * 0 + (q : ℕ) / 128; omega) (by show (q : ℕ) = q % 128; omega))
  | 1 => exact (Lane.o1_apply _ 0 0 q d).trans (key 0 ⟨128 + q, by omega⟩ (by show 1 = 2 * 0 + (128 + (q : ℕ)) / 128; omega) (by show (q : ℕ) = (128 + q) % 128; omega))
  | 2 => exact (Lane.o0_apply _ 0 0 q d).trans (key 1 ⟨q, by omega⟩ (by show 2 = 2 * 1 + (q : ℕ) / 128; omega) (by show (q : ℕ) = q % 128; omega))
  | 3 => exact (Lane.o1_apply _ 0 0 q d).trans (key 1 ⟨128 + q, by omega⟩ (by show 3 = 2 * 1 + (128 + (q : ℕ)) / 128; omega) (by show (q : ℕ) = (128 + q) % 128; omega))

end Blocks

/-! ## The array -/

variable (m : (ℓ : Loc nD τ sig) → Buf (Elt Ideal) ℓ)

/-- An output number by its coordinates. -/
def att (c : Dev nD) (b : Fin 2) (h : Fin 20) (q : Fin 896) (d : Fin 128) : EReal :=
  Row.out (fun κ : Fin 896 => if (κ : ℕ) ≤ (q : ℕ) then
      Ideal.div (∑ d : Fin 128, Arg.qw (aQ m c) b h q d * Arg.kw (aK m c) b (⟨h / 4, by omega⟩ : Fin 5) κ d) (Ideal.sqrt ((128 : ℝ) : EReal))
    else ⊥) fun κ => Arg.vw (aV m c) b (⟨h / 4, by omega⟩ : Fin 5) κ d

theorem sc_div (a : EReal) : KRow.sc a = Ideal.div a (Ideal.sqrt ((128 : ℝ) : EReal)) := by
  have e : Ideal.sqrt ((128 : ℝ) : EReal) = ((Real.sqrt 128 : ℝ) : EReal) := if_neg (by norm_num)
  rw [e]
  exact (Spec.div_real a (Real.sqrt 128) (ne_of_gt KRow.s128)).symm

theorem ent_k (c : Dev nD) (t : Fin cfg0.N) (s : Fin 896) (d : Fin 128) :
    (kW (iblk m c 1 t) (ix2 s d) : EReal) = Arg.kw (aK m c) (tb t) (tk t) s d := by
  rw [kW_apply, rowK]; rfl

theorem ent_v (c : Dev nD) (t : Fin cfg0.N) (s : Fin 896) (d : Fin 128) :
    (vW (iblk m c 2 t) (ix2 s d) : EReal) = Arg.vw (aV m c) (tb t) (tk t) s d := by
  rw [vW_apply, colV]; rfl

theorem ent_q (c : Dev nD) (t : Fin cfg0.N) (h : Fin 4) (i : Fin 7) (q d : Fin 128) :
    (qWt (tQ m c t h i) (ix2 d q) : EReal) = Arg.qw (aQ m c) (tb t) (th t h) ⟨128 * i + q, by omega⟩ d := by
  rw [qWt_apply, rowQ]; rfl

theorem out (c : Dev nD) : (dats m 0 c).arrAt 3 cfg0.N = fun j : S2x20x896x128.Idx => att m c (j 0) (j 1) (j 2) (j 3) := by
  refine (dats m 0 c).arrAt_eq_of_covers 3 (fun j : S2x20x896x128.Idx => att m c (j 0) (j 1) (j 2) (j 3)) (by decide +kernel) fun t hf y => ?_
  blk_simp
  rw [after0_3]
  obtain ⟨a, h, q, d, rfl⟩ : ∃ (a : Fin 1) (h : Fin 4) (q : Fin 896) (d : Fin 128), y = ix4 a h q d := ⟨_, _, _, _, eq_ix4 y⟩
  obtain rfl : a = 0 := Subsingleton.elim _ _
  have e : ((cfg0.win 3).blk t).view.emb (ix4 0 h q d) = (ix4 (tb t) (th t h) q d : S2x20x896x128.Idx) := by
    blk_ext [idx t, tb, th]
  refine Eq.trans ?_ (congrArg (fun j : S2x20x896x128.Idx => att m c (j 0) (j 1) (j 2) (j 3)) e).symm
  refine (outs_o m c t _).trans ((canon_tiles28 _ _ (mem_oList _ _ _ _ _ _ _ _ _) h q d).trans ((oP_apply _ _ _ _ _ _ _ _ _ h _ _ d).trans ?_))
  show _ = att m c (tb t) (th t h) q d
  unfold att
  have e5 : (⟨(th t h : ℕ) / 4, by omega⟩ : Fin 5) = tk t := Fin.ext (by
    show (t.val % 5 * 4 + (h : ℕ)) / 4 = t.val % 5; omega)
  rw [e5]
  refine congrArg₂ Row.out (funext fun κ => ?_) (funext fun κ => ent_v m c t κ d)
  unfold sx
  have hq : 128 * ((⟨q / 128, by omega⟩ : Fin 7) : ℕ) + ((⟨q % 128, by omega⟩ : Fin 128) : ℕ) = q := congrArg Fin.val (divmod q)
  rw [hq]
  split_ifs
  · rw [sc_div]
    refine congrArg (fun s : EReal => Ideal.div s (Ideal.sqrt ((128 : ℝ) : EReal))) (Finset.sum_congr rfl fun d _ => ?_)
    rw [mul_comm]
    refine congrArg₂ (fun x y : EReal => x * y) ((ent_q m c t h _ _ d).trans ?_) (ent_k m c t κ d)
    rw [divmod]
  · exact KRow.sc_bot

end Cert.KerOut
-- ==== Proof.RefQuant.lean ====
/-
The reference's quantiser, read entry by entry.

For the queries, the centred keys and the values: the stored codes, the scale codes and the widened values at one entry
are functions of the entry's group.
-/
module

public import proofs.«01_k».proof.Proof.Gen.ReferenceIdeal.Frame
public import proofs.«01_k».proof.Proof.Grp
public import Idealize.ShloMosaic.Lib.Pointwise

@[expose] public section

set_option maxRecDepth 16384

noncomputable section

namespace Cert.RefQuant

open Cert.ReferenceIdeal Cert.ReferenceIdeal.Gen Idealize.ShloMosaic Idealize.ShloMosaic.TcCoe Idealize.SL.Sem

theorem fp4_if (y : EReal) :
    (if y < 0 then 0 - min ((if (FloatOps.absf (F := Ideal) (φ := .f32) y : EReal) < Ideal.ofBits FTy.f32 1073741824#32 then Ideal.ofBits FTy.f32 1056964608#32
        else if (FloatOps.absf (F := Ideal) (φ := .f32) y : EReal) < Ideal.ofBits FTy.f32 1082130432#32 then 1 else Ideal.ofBits FTy.f32 1073741824#32)
      * Ideal.liftRound Ideal.roundHalfEven (Ideal.div (FloatOps.absf (F := Ideal) (φ := .f32) y)
        (if (FloatOps.absf (F := Ideal) (φ := .f32) y : EReal) < Ideal.ofBits FTy.f32 1073741824#32 then Ideal.ofBits FTy.f32 1056964608#32
        else if (FloatOps.absf (F := Ideal) (φ := .f32) y : EReal) < Ideal.ofBits FTy.f32 1082130432#32 then 1 else Ideal.ofBits FTy.f32 1073741824#32)))
      (Ideal.ofBits FTy.f32 1086324736#32)
    else min ((if (FloatOps.absf (F := Ideal) (φ := .f32) y : EReal) < Ideal.ofBits FTy.f32 1073741824#32 then Ideal.ofBits FTy.f32 1056964608#32
        else if (FloatOps.absf (F := Ideal) (φ := .f32) y : EReal) < Ideal.ofBits FTy.f32 1082130432#32 then 1 else Ideal.ofBits FTy.f32 1073741824#32)
      * Ideal.liftRound Ideal.roundHalfEven (Ideal.div (FloatOps.absf (F := Ideal) (φ := .f32) y)
        (if (FloatOps.absf (F := Ideal) (φ := .f32) y : EReal) < Ideal.ofBits FTy.f32 1073741824#32 then Ideal.ofBits FTy.f32 1056964608#32
        else if (FloatOps.absf (F := Ideal) (φ := .f32) y : EReal) < Ideal.ofBits FTy.f32 1082130432#32 then 1 else Ideal.ofBits FTy.f32 1073741824#32)))
      (Ideal.ofBits FTy.f32 1086324736#32)) = Spec.fp4S y := by
  have h : (if (FloatOps.absf (F := Ideal) (φ := .f32) y : EReal) < Ideal.ofBits FTy.f32 1073741824#32 then Ideal.ofBits FTy.f32 1056964608#32
      else if (FloatOps.absf (F := Ideal) (φ := .f32) y : EReal) < Ideal.ofBits FTy.f32 1082130432#32 then 1
      else Ideal.ofBits FTy.f32 1073741824#32) = ((Spec.stp y : ℝ) : EReal) := by
    rw [Spec.ofBits_two, Spec.ofBits_half, Spec.ofBits_four]
    unfold Spec.stp
    show (if max y (-y) < _ then _ else if max y (-y) < _ then _ else _) = _
    split_ifs <;> rfl
  rw [← Spec.fp4R_eq]
  unfold Spec.fp4R
  rw [h, Spec.ofBits_six]
  rfl

theorem xe_if (a : EReal) :
    (if a = 0 then 0 else max (min (Ideal.ofBits FTy.f32 1123942400#32) (max (Ideal.ofBits FTy.f32 3271426048#32)
        (Ideal.liftRound Int.floor (Ideal.div (Ideal.log a) (Ideal.log (Ideal.ofBits FTy.f32 1073741824#32)))))
        - Ideal.ofBits FTy.f32 1073741824#32) (Ideal.ofBits FTy.f32 3271426048#32)) = Spec.xeR a := by
  rw [Spec.ofBits_n127, Spec.ofBits_neg_127, Spec.ofBits_two]
  rfl

theorem pow_pt {S : Shape} (c : EReal) (y : FVec Ideal S .f32) (j : S.Idx) :
    (powf (broadcast S (show Ideal .f32 from c)) y j : EReal) = Ideal.pow c (y j) := rfl

theorem log_pt {S : Shape} (c : EReal) (y : FVec Ideal S .f32) (j : S.Idx) :
    (floor (divf (log y) (log (broadcast S (show Ideal .f32 from c)))) j : EReal)
      = Ideal.liftRound Int.floor (Ideal.div (Ideal.log (y j)) (Ideal.log c)) := rfl

theorem round_pt {S : Shape} (y s : FVec Ideal S .f32) (j : S.Idx) :
    (roundeven (divf (absf y) s) j : EReal)
      = Ideal.liftRound Ideal.roundHalfEven (Ideal.div (FloatOps.absf (F := Ideal) (φ := .f32) (y j)) (s j)) := rfl

theorem step_pt {S : Shape} (c2 ch c4 c1 : EReal) (a : FVec Ideal S .f32) (j : S.Idx) :
    (select (cmpf .olt (absf a) (broadcast S (show Ideal .f32 from c2))) (broadcast S (show Ideal .f32 from ch))
      (select (cmpf .olt (absf a) (broadcast S (show Ideal .f32 from c4))) (broadcast S (show Ideal .f32 from c1)) (broadcast S (show Ideal .f32 from c2))) j : EReal)
      = if (FloatOps.absf (F := Ideal) (φ := .f32) (a j) : EReal) < c2 then ch
        else if (FloatOps.absf (F := Ideal) (φ := .f32) (a j) : EReal) < c4 then c1 else c2 := by
  pointwise

/-! ## Queries -/

theorem q6 (x : Vec Ideal S2x20x896x128 .bf16) (b : Fin 2) (h : Fin 20) (q : Fin 896) (g : Fin 4) (r : Fin 32) :
    k0_pay6 x (ix5 b h q g r) = Grp.row4 (fun d => x (ix4 b h q d)) g r := by
  pointwise [k0_pay6]
  rfl

theorem q7a (p : FVec Ideal S2x20x896x4x32 .f32) (b : Fin 2) (h : Fin 20) (q : Fin 896) (g : Fin 4) :
    (multiReduction (F := Ideal) .maximumf [4] S2x20x896x4 (absf p) 0xFF800000#32 reduces_S2x20x896x4x32_S2x20x896x4 (.inl rfl) rfl) (ix4 b h q g) = Spec.amx fun r : Fin 32 => (p (ix5 b h q g r) : EReal) := by
  pointwise
  rw [Spec.ofBits_bot]; rfl

/-- The exponents of groups with the largest magnitudes `a`. -/
def q7x (a : FVec Ideal S2x20x896x4 .f32) : FVec Ideal S2x20x896x4 .f32 :=
  select (cmpf .oeq a (broadcast S2x20x896x4 (Scalar.ofBits .f32 0x00000000#32))) (broadcast S2x20x896x4 (Scalar.ofBits .f32 0x00000000#32))
    (maximumf (subf (minimumf (broadcast S2x20x896x4 (Scalar.ofBits .f32 0x42FE0000#32)) (maximumf (broadcast S2x20x896x4 (Scalar.ofBits .f32 0xC2FE0000#32)) (floor (divf (log a) (log (broadcast S2x20x896x4 (Scalar.ofBits .f32 0x40000000#32)))))))
      (broadcast S2x20x896x4 (Scalar.ofBits .f32 0x40000000#32))) (broadcast S2x20x896x4 (Scalar.ofBits .f32 0xC2FE0000#32)))

theorem q7b (a : FVec Ideal S2x20x896x4 .f32) (b : Fin 2) (h : Fin 20) (q : Fin 896) (g : Fin 4) :
    q7x a (ix4 b h q g) = Spec.xeR (a (ix4 b h q g)) := by
  pointwise [q7x]
  exact xe_if _

theorem q7 (x : Vec Ideal S2x20x896x128 .bf16) (b : Fin 2) (h : Fin 20) (q : Fin 896) (g : Fin 4) :
    k0_pay7 x (ix4 b h q g) = Spec.xeR (Spec.amx (Grp.row4 (fun d => x (ix4 b h q d)) g)) := by
  have e : k0_pay7 x = q7x (multiReduction (F := Ideal) .maximumf [4] S2x20x896x4 (absf (k0_pay6 x)) 0xFF800000#32 reduces_S2x20x896x4x32_S2x20x896x4 (.inl rfl) rfl) := rfl
  rw [e, q7b, q7a]
  simp only [q6]

theorem q8 (x : Vec Ideal S2x20x896x128 .bf16) (b : Fin 2) (h : Fin 20) (q : Fin 896) (g : Fin 4) :
    k0_pay8 x (ix4 b h q g) = Ideal.pow ((2 : ℝ) : EReal) (k0_pay7 x (ix4 b h q g)) := by
  unfold k0_pay8
  generalize k0_pay7 x = y
  rw [← Spec.ofBits_two]
  exact pow_pt (Ideal.ofBits .f32 0x40000000#32) y _

theorem q9 (v : FVec Ideal S2x20x896x4x32 .f32) (u : FVec Ideal S2x20x896x4 .f32) (b : Fin 2) (h : Fin 20) (q : Fin 896) (g : Fin 4) (r : Fin 32) :
    k0_pay9 v u (ix5 b h q g r) = Spec.fp4S (Ideal.div (v (ix5 b h q g r)) (u (ix4 b h q g))) := by
  pointwise [k0_pay9]
  exact fp4_if _

theorem q9' (x : Vec Ideal S2x20x896x128 .bf16) (b : Fin 2) (h : Fin 20) (q : Fin 896) (g : Fin 4) (r : Fin 32) :
    k0_pay9 (k0_pay6 x) (k0_pay8 x) (ix5 b h q g r) = Grp.cd (Grp.row4 fun d => x (ix4 b h q d)) g r := by
  rw [q9, q8, q7, q6, Spec.div_unit _ _ (Spec.amx_nonneg _)]; rfl

theorem q11 (y : FVec Ideal S2x20x896x4x32 .f32) (u : FVec Ideal S2x20x896x4 .f32) (b : Fin 2) (h : Fin 20) (q : Fin 896) (d : Fin 128) :
    k0_pay11 y u (ix4 b h q d) = k0_pay9 y u (ix5 b h q ⟨d / 32, by omega⟩ ⟨d % 32, by omega⟩) := by
  unfold k0_pay11
  generalize k0_pay9 y u = c
  pointwise

theorem q10 (y : FVec Ideal S2x20x896x4x32 .f32) (x u : FVec Ideal S2x20x896x4 .f32) (b : Fin 2) (h : Fin 20) (q : Fin 896) (d : Fin 128) :
    k0_pay10 y x u (ix4 b h q d) = (k0_pay9 y u (ix5 b h q ⟨d / 32, by omega⟩ ⟨d % 32, by omega⟩) : EReal)
      * (if Ideal.ofBits FTy.f32 3271426048#32 < (x (ix4 b h q ⟨d / 32, by omega⟩) : EReal) then (u (ix4 b h q ⟨d / 32, by omega⟩) : EReal) else 0) := by
  unfold k0_pay10
  generalize k0_pay9 y u = c
  pointwise

theorem q12 (x : FVec Ideal S2x20x896x4 .f32) (b : Fin 2) (h : Fin 20) (g : Fin 4) (q : Fin 896) :
    k0_pay12 x (ix4 b h g q) = BitVec.setWidth 8 (Ideal.fptosi 32 ((x (ix4 b h q g) : EReal) + ((127 : ℝ) : EReal))) := by
  pointwise [k0_pay12]
  rw [Spec.ofBits_n127]
  rfl

theorem q_codes (x : Vec Ideal S2x20x896x128 .bf16) (b : Fin 2) (h : Fin 20) (q : Fin 896) (d : Fin 128) :
    k0_pay11 (k0_pay6 x) (k0_pay8 x) (ix4 b h q d)
      = Grp.cd (Grp.row4 fun d => x (ix4 b h q d)) ⟨d / 32, by omega⟩ ⟨d % 32, by omega⟩ := by
  rw [q11, q9']

theorem q_w (x : Vec Ideal S2x20x896x128 .bf16) (b : Fin 2) (h : Fin 20) (q : Fin 896) (d : Fin 128) :
    k0_pay10 (k0_pay6 x) (k0_pay7 x) (k0_pay8 x) (ix4 b h q d)
      = Grp.wd (Grp.row4 fun d => x (ix4 b h q d)) ⟨d / 32, by omega⟩ ⟨d % 32, by omega⟩ := by
  rw [q10, q9', q8, q7, Spec.ofBits_neg_127, Spec.scale_eq _ (Spec.amx_nonneg _)]
  rfl

theorem q_scales (x : Vec Ideal S2x20x896x128 .bf16) (b : Fin 2) (h : Fin 20) (g : Fin 4) (q : Fin 896) :
    k0_pay12 (k0_pay7 x) (ix4 b h g q) = BitVec.setWidth 8 (BitVec.ofNat 32 (Grp.code (Grp.row4 fun d => x (ix4 b h q d)) g)) := by
  rw [q12, q7, Spec.code_word _ (Spec.amx_nonneg _)]
  rfl

/-! ## Keys -/

theorem k5 (x : Vec Ideal S2x5x896x128 .bf16) (b : Fin 2) (h : Fin 5) (q : Fin 896) (d : Fin 128) :
    k0_pay5 x (ix4 b h q d) = (show EReal from x (ix4 b h q d)) - (∑ s : Fin 896, (show EReal from x (ix4 b h s d))) * ((1 / 896 : ℝ) : EReal) := by
  pointwise [k0_pay5]
  rw [Spec.ofBits_n896, Spec.div_real _ _ (by norm_num), ← one_div]

theorem k13 (v : FVec Ideal S2x5x896x128 .f32) (b : Fin 2) (h : Fin 5) (q : Fin 896) (g : Fin 4) (r : Fin 32) :
    k0_pay13 v (ix5 b h q g r) = Grp.row4 (fun d => v (ix4 b h q d)) g r := by
  pointwise [k0_pay13]
  rfl

theorem k14a (p : FVec Ideal S2x5x896x4x32 .f32) (b : Fin 2) (h : Fin 5) (q : Fin 896) (g : Fin 4) :
    (multiReduction (F := Ideal) .maximumf [4] S2x5x896x4 (absf p) 0xFF800000#32 reduces_S2x5x896x4x32_S2x5x896x4 (.inl rfl) rfl) (ix4 b h q g) = Spec.amx fun r : Fin 32 => (p (ix5 b h q g r) : EReal) := by
  pointwise
  rw [Spec.ofBits_bot]; rfl

/-- The exponents of groups with the largest magnitudes `a`. -/
def k14x (a : FVec Ideal S2x5x896x4 .f32) : FVec Ideal S2x5x896x4 .f32 :=
  select (cmpf .oeq a (broadcast S2x5x896x4 (Scalar.ofBits .f32 0x00000000#32))) (broadcast S2x5x896x4 (Scalar.ofBits .f32 0x00000000#32))
    (maximumf (subf (minimumf (broadcast S2x5x896x4 (Scalar.ofBits .f32 0x42FE0000#32)) (maximumf (broadcast S2x5x896x4 (Scalar.ofBits .f32 0xC2FE0000#32)) (floor (divf (log a) (log (broadcast S2x5x896x4 (Scalar.ofBits .f32 0x40000000#32)))))))
      (broadcast S2x5x896x4 (Scalar.ofBits .f32 0x40000000#32))) (broadcast S2x5x896x4 (Scalar.ofBits .f32 0xC2FE0000#32)))

theorem k14b (a : FVec Ideal S2x5x896x4 .f32) (b : Fin 2) (h : Fin 5) (q : Fin 896) (g : Fin 4) :
    k14x a (ix4 b h q g) = Spec.xeR (a (ix4 b h q g)) := by
  pointwise [k14x]
  exact xe_if _

theorem k14 (v : FVec Ideal S2x5x896x128 .f32) (b : Fin 2) (h : Fin 5) (q : Fin 896) (g : Fin 4) :
    k0_pay14 v (ix4 b h q g) = Spec.xeR (Spec.amx (Grp.row4 (fun d => v (ix4 b h q d)) g)) := by
  have e : k0_pay14 v = k14x (multiReduction (F := Ideal) .maximumf [4] S2x5x896x4 (absf (k0_pay13 v)) 0xFF800000#32 reduces_S2x5x896x4x32_S2x5x896x4 (.inl rfl) rfl) := rfl
  rw [e, k14b, k14a]
  simp only [k13]

theorem k15 (v : FVec Ideal S2x5x896x128 .f32) (b : Fin 2) (h : Fin 5) (q : Fin 896) (g : Fin 4) :
    k0_pay15 v (ix4 b h q g) = Ideal.pow ((2 : ℝ) : EReal) (k0_pay14 v (ix4 b h q g)) := by
  unfold k0_pay15
  generalize k0_pay14 v = y
  rw [← Spec.ofBits_two]
  exact pow_pt (Ideal.ofBits .f32 0x40000000#32) y _

theorem k16a (p : FVec Ideal S2x5x896x4x32 .f32) (u : FVec Ideal S2x5x896x4 .f32) (b : Fin 2) (h : Fin 5) (q : Fin 896) (g : Fin 4) (r : Fin 32) :
    divf p (broadcastTo S2x5x896x4x32 (shapeCast S2x5x896x4x1 u shapeCasts_S2x5x896x4_S2x5x896x4x1) broadcasts_S2x5x896x4x1_S2x5x896x4x32) (ix5 b h q g r)
      = Ideal.div (p (ix5 b h q g r)) (u (ix4 b h q g)) := by
  pointwise

theorem k16 (v : FVec Ideal S2x5x896x128 .f32) (b : Fin 2) (h : Fin 5) (q : Fin 896) (g : Fin 4) (r : Fin 32) :
    k0_pay16 v (ix5 b h q g r) = Grp.row4 (fun d => v (ix4 b h q d)) g r * ((Spec.invN (Grp.code (Grp.row4 fun d => v (ix4 b h q d)) g) : ℝ) : EReal) := by
  refine (k16a (k0_pay13 v) (k0_pay15 v) b h q g r).trans ?_
  rw [k13, k15, k14, Spec.div_unit _ _ (Spec.amx_nonneg _)]
  rfl

theorem k18 (v : FVec Ideal S2x5x896x128 .f32) (j : S2x5x896x4x32.Idx) : k0_pay18 v j =
    (if (FloatOps.absf (F := Ideal) (φ := .f32) (k0_pay16 v j) : EReal) < Ideal.ofBits FTy.f32 1073741824#32 then Ideal.ofBits FTy.f32 1056964608#32
        else if (FloatOps.absf (F := Ideal) (φ := .f32) (k0_pay16 v j) : EReal) < Ideal.ofBits FTy.f32 1082130432#32 then (1 : EReal) else Ideal.ofBits FTy.f32 1073741824#32) := by
  generalize hy : k0_pay16 v = y
  unfold k0_pay18 k0_pay17
  rw [hy]
  have h1 : (1 : EReal) = Ideal.ofBits .f32 0x3F800000#32 := by rw [Spec.ofBits_one]; rfl
  rw [h1]
  exact step_pt (Ideal.ofBits .f32 0x40000000#32) (Ideal.ofBits .f32 0x3F000000#32) (Ideal.ofBits .f32 0x40800000#32) (Ideal.ofBits .f32 0x3F800000#32) y j

theorem k19 (v : FVec Ideal S2x5x896x128 .f32) (j : S2x5x896x4x32.Idx) : k0_pay19 v j =
    Ideal.liftRound Ideal.roundHalfEven (Ideal.div (FloatOps.absf (F := Ideal) (φ := .f32) (k0_pay16 v j)) (k0_pay18 v j)) := by
  unfold k0_pay19 k0_pay17
  generalize k0_pay16 v = y
  generalize k0_pay18 v = s
  exact round_pt y s j

theorem k20a (y s r : FVec Ideal S2x5x896x4x32 .f32) (j : S2x5x896x4x32.Idx) :
    k0_pay20 y s r j = (if y j < (0 : EReal) then (0 : EReal) - min ((s j : EReal) * r j) (Ideal.ofBits FTy.f32 1086324736#32) else min ((s j : EReal) * r j) (Ideal.ofBits FTy.f32 1086324736#32)) := by
  pointwise [k0_pay20]

theorem k20 (v : FVec Ideal S2x5x896x128 .f32) (b : Fin 2) (h : Fin 5) (q : Fin 896) (g : Fin 4) (r : Fin 32) :
    k0_pay20 (k0_pay16 v) (k0_pay18 v) (k0_pay19 v) (ix5 b h q g r) = Grp.cd (Grp.row4 fun d => v (ix4 b h q d)) g r := by
  rw [k20a, k19, k18, fp4_if, k16]
  rfl

theorem k22 (y s r : FVec Ideal S2x5x896x4x32 .f32) (b : Fin 2) (h : Fin 5) (q : Fin 896) (d : Fin 128) :
    k0_pay22 y s r (ix4 b h q d) = k0_pay20 y s r (ix5 b h q ⟨d / 32, by omega⟩ ⟨d % 32, by omega⟩) := by
  unfold k0_pay22
  generalize k0_pay20 y s r = c
  pointwise

theorem k21 (x u : FVec Ideal S2x5x896x4 .f32) (y s r : FVec Ideal S2x5x896x4x32 .f32) (b : Fin 2) (h : Fin 5) (q : Fin 896) (d : Fin 128) :
    k0_pay21 x u y s r (ix4 b h q d) = (k0_pay20 y s r (ix5 b h q ⟨d / 32, by omega⟩ ⟨d % 32, by omega⟩) : EReal)
      * (if Ideal.ofBits FTy.f32 3271426048#32 < (x (ix4 b h q ⟨d / 32, by omega⟩) : EReal) then (u (ix4 b h q ⟨d / 32, by omega⟩) : EReal) else 0) := by
  unfold k0_pay21
  generalize k0_pay20 y s r = c
  pointwise

theorem k_codes (v : FVec Ideal S2x5x896x128 .f32) (b : Fin 2) (h : Fin 5) (q : Fin 896) (d : Fin 128) :
    k0_pay22 (k0_pay16 v) (k0_pay18 v) (k0_pay19 v) (ix4 b h q d)
      = Grp.cd (Grp.row4 fun d => v (ix4 b h q d)) ⟨d / 32, by omega⟩ ⟨d % 32, by omega⟩ := by
  rw [k22, k20]

theorem k_w (v : FVec Ideal S2x5x896x128 .f32) (b : Fin 2) (h : Fin 5) (q : Fin 896) (d : Fin 128) :
    k0_pay21 (k0_pay14 v) (k0_pay15 v) (k0_pay16 v) (k0_pay18 v) (k0_pay19 v) (ix4 b h q d)
      = Grp.wd (Grp.row4 fun d => v (ix4 b h q d)) ⟨d / 32, by omega⟩ ⟨d % 32, by omega⟩ := by
  rw [k21, k20, k15, k14, Spec.ofBits_neg_127, Spec.scale_eq _ (Spec.amx_nonneg _)]
  rfl

theorem k23 (x : FVec Ideal S2x5x896x4 .f32) (b : Fin 2) (h : Fin 5) (g : Fin 4) (q : Fin 896) :
    k0_pay23 x (ix4 b h g q) = BitVec.setWidth 8 (Ideal.fptosi 32 ((x (ix4 b h q g) : EReal) + ((127 : ℝ) : EReal))) := by
  pointwise [k0_pay23]
  rw [Spec.ofBits_n127]
  rfl

theorem k_scales (v : FVec Ideal S2x5x896x128 .f32) (b : Fin 2) (h : Fin 5) (g : Fin 4) (q : Fin 896) :
    k0_pay23 (k0_pay14 v) (ix4 b h g q) = BitVec.setWidth 8 (BitVec.ofNat 32 (Grp.code (Grp.row4 fun d => v (ix4 b h q d)) g)) := by
  rw [k23, k14, Spec.code_word _ (Spec.amx_nonneg _)]
  rfl

/-! ## Values -/

theorem v24 (x : Vec Ideal S2x5x896x128 .bf16) (b : Fin 2) (h : Fin 5) (g : Fin 28) (r : Fin 32) (d : Fin 128) :
    k0_pay24 (k0_pay4 x) (ix5 b h g r d) = Grp.col28 (fun s => x (ix4 b h s d)) g r := by
  pointwise [k0_pay24, k0_pay4]
  rfl

/-- The exponents of the values' groups. -/
abbrev vx (x : Vec Ideal S2x5x896x128 .bf16) : FVec Ideal S2x5x28x128 .f32 :=
  k0_pay27 (k0_pay25 (k0_pay4 x)) (k0_pay26 (k0_pay4 x)) (Scalar.ofBits .f32 0xC2FE0000#32)

theorem v25a (p : FVec Ideal S2x5x28x32x128 .f32) (b : Fin 2) (h : Fin 5) (g : Fin 28) (d : Fin 128) :
    (multiReduction (F := Ideal) .maximumf [3] S2x5x28x128 (absf p) 0xFF800000#32 reduces_S2x5x28x32x128_S2x5x28x128 (.inl rfl) rfl) (ix4 b h g d) = Spec.amx fun r : Fin 32 => (p (ix5 b h g r d) : EReal) := by
  pointwise
  rw [Spec.ofBits_bot]; rfl

theorem v25 (x : Vec Ideal S2x5x896x128 .bf16) (b : Fin 2) (h : Fin 5) (g : Fin 28) (d : Fin 128) :
    k0_pay25 (k0_pay4 x) (ix4 b h g d) = Spec.amx (Grp.col28 (fun s => x (ix4 b h s d)) g) := by
  refine (v25a (k0_pay24 (k0_pay4 x)) b h g d).trans ?_
  simp only [v24]

theorem v26 (v : FVec Ideal S2x5x896x128 .f32) (j : S2x5x28x128.Idx) :
    k0_pay26 v j = Ideal.liftRound Int.floor (Ideal.div (Ideal.log (k0_pay25 v j)) (Ideal.log (Ideal.ofBits FTy.f32 1073741824#32))) := by
  unfold k0_pay26
  generalize k0_pay25 v = y
  exact log_pt (Ideal.ofBits .f32 0x40000000#32) y j

theorem v27a (x y : FVec Ideal S2x5x28x128 .f32) (j : S2x5x28x128.Idx) :
    k0_pay27 x y (Scalar.ofBits .f32 0xC2FE0000#32) j = (if (x j : EReal) = 0 then 0 else
      max (min (Ideal.ofBits FTy.f32 1123942400#32) (max (Ideal.ofBits FTy.f32 3271426048#32) (y j : EReal)) - Ideal.ofBits FTy.f32 1073741824#32)
        (Ideal.ofBits FTy.f32 3271426048#32)) := by
  pointwise [k0_pay27]

theorem v27 (x : Vec Ideal S2x5x896x128 .bf16) (b : Fin 2) (h : Fin 5) (g : Fin 28) (d : Fin 128) :
    vx x (ix4 b h g d) = Spec.xeR (Spec.amx (Grp.col28 (fun s => x (ix4 b h s d)) g)) := by
  unfold vx
  rw [v27a, v26, v25]
  exact xe_if _

theorem v28 (a f : FVec Ideal S2x5x28x128 .f32) (j : S2x5x28x128.Idx) :
    k0_pay28 a f (Scalar.ofBits .f32 0xC2FE0000#32) j
      = Ideal.pow ((2 : ℝ) : EReal) (k0_pay27 a f (Scalar.ofBits .f32 0xC2FE0000#32) j) := by
  unfold k0_pay28
  generalize k0_pay27 a f (Scalar.ofBits .f32 0xC2FE0000#32) = y
  rw [← Spec.ofBits_two]
  exact pow_pt (Ideal.ofBits .f32 0x40000000#32) y _

theorem v29a (p : FVec Ideal S2x5x28x32x128 .f32) (a f : FVec Ideal S2x5x28x128 .f32) (b : Fin 2) (h : Fin 5) (g : Fin 28) (r : Fin 32) (d : Fin 128) :
    k0_pay29 p a f (Scalar.ofBits .f32 0xC2FE0000#32) (ix5 b h g r d)
      = Spec.fp4S (Ideal.div (p (ix5 b h g r d)) (k0_pay28 a f (Scalar.ofBits .f32 0xC2FE0000#32) (ix4 b h g d))) := by
  unfold k0_pay29
  generalize k0_pay28 a f (Scalar.ofBits .f32 0xC2FE0000#32) = u
  pointwise
  exact fp4_if _

theorem v29 (x : Vec Ideal S2x5x896x128 .bf16) (b : Fin 2) (h : Fin 5) (g : Fin 28) (r : Fin 32) (d : Fin 128) :
    k0_pay29 (k0_pay24 (k0_pay4 x)) (k0_pay25 (k0_pay4 x)) (k0_pay26 (k0_pay4 x)) (Scalar.ofBits .f32 0xC2FE0000#32) (ix5 b h g r d)
      = Grp.cd (Grp.col28 fun s => x (ix4 b h s d)) g r := by
  have e := v27 x b h g d
  unfold vx at e
  rw [v29a, v28, v24, e, Spec.div_unit _ _ (Spec.amx_nonneg _)]
  rfl

theorem v2 (c : FVec Ideal S2x5x28x32x128 .bf16) (b : Fin 2) (h : Fin 5) (s : Fin 896) (d : Fin 128) :
    k0_pay2 c (ix4 b h s d) = c (ix5 b h ⟨s / 32, by omega⟩ ⟨s % 32, by omega⟩ d) := by
  pointwise [k0_pay2]

theorem v1 (c : FVec Ideal S2x5x28x32x128 .bf16) (u : FVec Ideal S2x5x28x1x128 .bf16) (b : Fin 2) (h : Fin 5) (s : Fin 896) (d : Fin 128) :
    k0_pay1 c u (ix4 b h s d) = (c (ix5 b h ⟨s / 32, by omega⟩ ⟨s % 32, by omega⟩ d) : EReal) * u (ix5 b h ⟨s / 32, by omega⟩ 0 d) := by
  pointwise [k0_pay1]

theorem v30 (a f : FVec Ideal S2x5x28x128 .f32) (b : Fin 2) (h : Fin 5) (g : Fin 28) (d : Fin 128) :
    k0_pay30 a f (Scalar.ofBits .f32 0xC2FE0000#32) (ix5 b h g 0 d)
      = (if Ideal.ofBits FTy.f32 3271426048#32 < (k0_pay27 a f (Scalar.ofBits .f32 0xC2FE0000#32) (ix4 b h g d) : EReal)
        then (k0_pay28 a f (Scalar.ofBits .f32 0xC2FE0000#32) (ix4 b h g d) : EReal) else 0) := by
  unfold k0_pay30
  generalize k0_pay28 a f (Scalar.ofBits .f32 0xC2FE0000#32) = u
  generalize k0_pay27 a f (Scalar.ofBits .f32 0xC2FE0000#32) = x
  pointwise

theorem v3 (x : FVec Ideal S2x5x28x128 .f32) (b : Fin 2) (h : Fin 5) (g : Fin 28) (d : Fin 128) :
    k0_pay3 x (ix4 b h g d) = BitVec.setWidth 8 (Ideal.fptosi 32 ((x (ix4 b h g d) : EReal) + ((127 : ℝ) : EReal))) := by
  pointwise [k0_pay3]
  rw [Spec.ofBits_n127]
  rfl

theorem v_codes (x : Vec Ideal S2x5x896x128 .bf16) (b : Fin 2) (h : Fin 5) (s : Fin 896) (d : Fin 128) :
    k0_pay2 (k0_pay29 (k0_pay24 (k0_pay4 x)) (k0_pay25 (k0_pay4 x)) (k0_pay26 (k0_pay4 x)) (Scalar.ofBits .f32 0xC2FE0000#32)) (ix4 b h s d)
      = Grp.cd (Grp.col28 fun s => x (ix4 b h s d)) ⟨s / 32, by omega⟩ ⟨s % 32, by omega⟩ := by
  rw [v2, v29]

theorem v_w (x : Vec Ideal S2x5x896x128 .bf16) (b : Fin 2) (h : Fin 5) (s : Fin 896) (d : Fin 128) :
    k0_pay1 (k0_pay29 (k0_pay24 (k0_pay4 x)) (k0_pay25 (k0_pay4 x)) (k0_pay26 (k0_pay4 x)) (Scalar.ofBits .f32 0xC2FE0000#32))
        (k0_pay30 (k0_pay25 (k0_pay4 x)) (k0_pay26 (k0_pay4 x)) (Scalar.ofBits .f32 0xC2FE0000#32)) (ix4 b h s d)
      = Grp.wd (Grp.col28 fun s => x (ix4 b h s d)) ⟨s / 32, by omega⟩ ⟨s % 32, by omega⟩ := by
  rw [v1, v29, v30, v28, Spec.ofBits_neg_127]
  have e := v27 x b h ⟨s / 32, by omega⟩ d
  unfold vx at e
  rw [e, Spec.scale_eq _ (Spec.amx_nonneg _)]
  rfl

theorem v_scales (x : Vec Ideal S2x5x896x128 .bf16) (b : Fin 2) (h : Fin 5) (g : Fin 28) (d : Fin 128) :
    k0_pay3 (vx x) (ix4 b h g d) = BitVec.setWidth 8 (BitVec.ofNat 32 (Grp.code (Grp.col28 fun s => x (ix4 b h s d)) g)) := by
  rw [v3, v27, Spec.code_word _ (Spec.amx_nonneg _)]
  rfl

end Cert.RefQuant
-- ==== Proof.RefDefs.lean ====
/-
The stages of the reference's attention, each as a function of the arrays it reads.
-/
module

public import proofs.«01_k».proof.Proof.Gen.ReferenceIdeal.Run

@[expose] public section

set_option maxRecDepth 16384

noncomputable section

namespace Cert.RefTail

open Cert.ReferenceIdeal Cert.ReferenceIdeal.Gen Cert.ReferenceIdeal.Value Idealize.ShloMosaic Idealize.ShloMosaic.TcCoe Idealize.SL.Sem

variable {F : FTy → Type} [FloatOps F]

/-- The products of queries and keys. -/
def tDot (Q : FVec F S2x20x896x128 .bf16) (K : FVec F S2x5x896x128 .bf16) : FVec F S2x20x896x896 .f32 :=
  Host.dotGeneral dot_S2x20x896x128_S2x20x896x128_S2x20x896x896_3_3_2_2_01_01 none Q (shapeCast _ (broadcastInDim S2x5x4x896x128 ![0, 1, 2, 3, 4] bcast_S2x5x1x896x128_S2x5x4x896x128_0_1_2_3_4 (broadcastInDim S2x5x1x896x128 ![0, 1, 3, 4] bcast_S2x5x896x128_S2x5x1x896x128_0_1_3_4 K)) shapeCasts_S2x5x4x896x128_S2x20x896x128)

/-- The masked scores. -/
def tS (R : FVec F S2x20x896x896 .f32) : FVec F S2x20x896x896 .f32 :=
  select (broadcastInDim S2x20x896x896 ![2, 3] bcast_S896x896_S2x20x896x896_2_3 (cmpi .sle (broadcastInDim S896x896 ![0, 1] bcast_S1x896_S896x896_0_1 (broadcastInDim S1x896 ![1] bcast_S896_S1x896_1 (iotaInDim S896 32 0))) (broadcastInDim S896x896 ![0, 1] bcast_S896x1_S896x896_0_1 (broadcastInDim S896x1 ![0] bcast_S896_S896x1_0 (iotaInDim S896 32 0))))) (Host.divf R (id (Host.sqrt (broadcastInDim S2x20x896x896 ![] bcast_S_S2x20x896x896 (constant S_ .f32 0x43000000#32))))) (broadcastInDim S2x20x896x896 ![] bcast_S_S2x20x896x896 (id (constant S_ .f32 0xFF800000#32)))

/-- The row maxima. -/
def tM (s : FVec F S2x20x896x896 .f32) : FVec F S2x20x896 .f32 :=
  Host.reduce FloatOps.maximumf s (constant S_ .f32 0xFF800000#32) reducesTo_S2x20x896x896_S2x20x896_d3 h_S_

/-- The scores in blocks. -/
def tSb (s : FVec F S2x20x896x896 .f32) : FVec F S2x20x896x14x64 .f32 :=
  shapeCast _ s shapeCasts_S2x20x896x896_S2x20x896x14x64

/-- The block maxima. -/
def tBm (sb : FVec F S2x20x896x14x64 .f32) : FVec F S2x20x896x14 .f32 :=
  Host.reduce FloatOps.maximumf sb (constant S_ .f32 0xFF800000#32) reducesTo_S2x20x896x14x64_S2x20x896x14_d4 h_S_

/-- The block maxima, masked blocks filled. -/
def tB0 (bm : FVec F S2x20x896x14 .f32) (m : FVec F S2x20x896 .f32) : FVec F S2x20x896x14 .f32 :=
  select (cmpf .oeq bm (broadcastInDim S2x20x896x14 ![] bcast_S_S2x20x896x14 (constant S_ .f32 0xFF800000#32))) (broadcastInDim S2x20x896x14 ![0, 1, 2, 3] bcast_S2x20x896x1_S2x20x896x14_0_1_2_3 (broadcastInDim S2x20x896x1 ![0, 1, 2] bcast_S2x20x896_S2x20x896x1_0_1_2 m)) bm

/-- The weights times six, in groups. -/
def tP2 (sb : FVec F S2x20x896x14x64 .f32) (b : FVec F S2x20x896x14 .f32) : FVec F S2x20x896x28x32 .f32 :=
  shapeCast _ (shapeCast _ (mulf (broadcastInDim S2x20x896x14x64 ![] bcast_S_S2x20x896x14x64 (constant S_ .f32 0x40C00000#32)) (Host.exp (subf sb (broadcastInDim S2x20x896x14x64 ![0, 1, 2, 3, 4] bcast_S2x20x896x14x1_S2x20x896x14x64_0_1_2_3_4 (broadcastInDim S2x20x896x14x1 ![0, 1, 2, 3] bcast_S2x20x896x14_S2x20x896x14x1_0_1_2_3 b))))) shapeCasts_S2x20x896x14x64_S2x20x896x896) shapeCasts_S2x20x896x896_S2x20x896x28x32

/-- The largest weight of a group. -/
def tA (p : FVec F S2x20x896x28x32 .f32) : FVec F S2x20x896x28 .f32 :=
  Host.reduce FloatOps.maximumf (Host.absf p) (constant S_ .f32 0xFF800000#32) reducesTo_S2x20x896x28x32_S2x20x896x28_d4 h_S_

/-- The exponent. -/
def tX (a : FVec F S2x20x896x28 .f32) : FVec F S2x20x896x28 .f32 :=
  select (cmpf .oeq a (broadcastInDim S2x20x896x28 ![] bcast_S_S2x20x896x28 (constant S_ .f32 0x00000000#32))) (broadcastInDim S2x20x896x28 ![] bcast_S_S2x20x896x28 (id (constant S_ .f32 0x00000000#32))) (maximumf (subf (minimumf (broadcastInDim S2x20x896x28 ![] bcast_S_S2x20x896x28 (id (constant S_ .f32 0x42FE0000#32))) (maximumf (broadcastInDim S2x20x896x28 ![] bcast_S_S2x20x896x28 (id (constant S_ .f32 0xC2FE0000#32))) (Host.floor (Host.divf (Host.log a) (id (Host.log (broadcastInDim S2x20x896x28 ![] bcast_S_S2x20x896x28 (constant S_ .f32 0x40000000#32)))))))) (broadcastInDim S2x20x896x28 ![] bcast_S_S2x20x896x28 (constant S_ .f32 0x40000000#32))) (broadcastInDim S2x20x896x28 ![] bcast_S_S2x20x896x28 (constant S_ .f32 0xC2FE0000#32)))

/-- The unit. -/
def tU (x : FVec F S2x20x896x28 .f32) : FVec F S2x20x896x28 .f32 :=
  Host.powf (id (broadcastInDim S2x20x896x28 ![] bcast_S_S2x20x896x28 (constant S_ .f32 0x40000000#32))) x

/-- The weights over the unit. -/
def tY (p : FVec F S2x20x896x28x32 .f32) (u : FVec F S2x20x896x28 .f32) : FVec F S2x20x896x28x32 .f32 :=
  Host.divf p (broadcastInDim S2x20x896x28x32 ![0, 1, 2, 3, 4] bcast_S2x20x896x28x1_S2x20x896x28x32_0_1_2_3_4 (broadcastInDim S2x20x896x28x1 ![0, 1, 2, 3] bcast_S2x20x896x28_S2x20x896x28x1_0_1_2_3 u))

/-- The step. -/
def tSt (y : FVec F S2x20x896x28x32 .f32) : FVec F S2x20x896x28x32 .f32 :=
  select (cmpf .olt (Host.absf y) (broadcastInDim S2x20x896x28x32 ![] bcast_S_S2x20x896x28x32 (constant S_ .f32 0x40000000#32))) (broadcastInDim S2x20x896x28x32 ![] bcast_S_S2x20x896x28x32 (constant S_ .f32 0x3F000000#32)) (select (cmpf .olt (Host.absf y) (broadcastInDim S2x20x896x28x32 ![] bcast_S_S2x20x896x28x32 (constant S_ .f32 0x40800000#32))) (broadcastInDim S2x20x896x28x32 ![] bcast_S_S2x20x896x28x32 (constant S_ .f32 0x3F800000#32)) (broadcastInDim S2x20x896x28x32 ![] bcast_S_S2x20x896x28x32 (constant S_ .f32 0x40000000#32)))

/-- The magnitude, rounded. -/
def tR (y : FVec F S2x20x896x28x32 .f32) : FVec F S2x20x896x28x32 .f32 :=
  minimumf (mulf (id (tSt y)) (Host.roundeven (Host.divf (Host.absf y) (id (tSt y))))) (broadcastInDim S2x20x896x28x32 ![] bcast_S_S2x20x896x28x32 (constant S_ .f32 0x40C00000#32))

/-- The four-bit codes. -/
def tC (y : FVec F S2x20x896x28x32 .f32) : FVec F S2x20x896x28x32 .bf16 :=
  truncf .bf16 (select (cmpf .olt y (broadcastInDim S2x20x896x28x32 ![] bcast_S_S2x20x896x28x32 (constant S_ .f32 0x00000000#32))) (Host.negf (tR y)) (tR y)) bitsLt_bf16_f32

/-- The factors of the blocks. -/
def tS1 (b : FVec F S2x20x896x14 .f32) (m : FVec F S2x20x896 .f32) : FVec F S2x20x896x14 .f32 :=
  Host.divf (Host.exp (subf b (broadcastInDim S2x20x896x14 ![0, 1, 2, 3] bcast_S2x20x896x1_S2x20x896x14_0_1_2_3 (broadcastInDim S2x20x896x1 ![0, 1, 2] bcast_S2x20x896_S2x20x896x1_0_1_2 m)))) (broadcastInDim S2x20x896x14 ![] bcast_S_S2x20x896x14 (constant S_ .f32 0x40C00000#32))

/-- The quantised weights, in blocks. -/
def tW (c : FVec F S2x20x896x28x32 .bf16) (x u : FVec F S2x20x896x28 .f32) : FVec F S2x20x896x14x64 .bf16 :=
  shapeCast _ (shapeCast _ (mulf c (broadcastInDim S2x20x896x28x32 ![0, 1, 2, 3, 4] bcast_S2x20x896x28x1_S2x20x896x28x32_0_1_2_3_4 (broadcastInDim S2x20x896x28x1 ![0, 1, 2, 3] bcast_S2x20x896x28_S2x20x896x28x1_0_1_2_3 (truncf .bf16 (select (cmpf .ogt x (broadcastInDim S2x20x896x28 ![] bcast_S_S2x20x896x28 (constant S_ .f32 0xC2FE0000#32))) u (broadcastInDim S2x20x896x28 ![] bcast_S_S2x20x896x28 (id (constant S_ .f32 0x00000000#32)))) bitsLt_bf16_f32)))) shapeCasts_S2x20x896x28x32_S2x20x896x896) shapeCasts_S2x20x896x896_S2x20x896x14x64

/-- The values of every head, in blocks. -/
def tV (V : FVec F S2x5x896x128 .bf16) : FVec F S2x20x14x64x128 .bf16 :=
  shapeCast _ (shapeCast _ (broadcastInDim S2x5x4x896x128 ![0, 1, 2, 3, 4] bcast_S2x5x1x896x128_S2x5x4x896x128_0_1_2_3_4 (broadcastInDim S2x5x1x896x128 ![0, 1, 3, 4] bcast_S2x5x896x128_S2x5x1x896x128_0_1_3_4 V)) shapeCasts_S2x5x4x896x128_S2x20x896x128) shapeCasts_S2x20x896x128_S2x20x14x64x128

/-- The partial outputs of the blocks. -/
def tP (w : FVec F S2x20x896x14x64 .bf16) (v : FVec F S2x20x14x64x128 .bf16) : FVec F S2x20x14x896x128 .f32 :=
  Host.dotGeneral dot_S2x20x896x14x64_S2x20x14x64x128_S2x20x14x896x128_4_3_2_4_013_012 none w v

/-- The parts of the normaliser. -/
def tE (s : FVec F S2x20x896x896 .f32) (m : FVec F S2x20x896 .f32) (x : FVec F S2x20x896x28 .f32) : FVec F S2x20x896x28x32 .f32 :=
  select (broadcastInDim S2x20x896x28x32 ![0, 1, 2, 3, 4] bcast_S2x20x896x28x1_S2x20x896x28x32_0_1_2_3_4 (cmpi .sgt (broadcastInDim S2x20x896x28x1 ![0, 1, 2, 3] bcast_S2x20x896x28_S2x20x896x28x1_0_1_2_3 (fptosi 32 (addf x (broadcastInDim S2x20x896x28 ![] bcast_S_S2x20x896x28 (constant S_ .f32 0x42FE0000#32))))) (broadcastInDim S2x20x896x28x1 ![] bcast_S_S2x20x896x28x1 (constantI S_ 32 0#32)))) (shapeCast _ (Host.exp (subf s (broadcastInDim S2x20x896x896 ![0, 1, 2, 3] bcast_S2x20x896x1_S2x20x896x896_0_1_2_3 (broadcastInDim S2x20x896x1 ![0, 1, 2] bcast_S2x20x896_S2x20x896x1_0_1_2 m)))) shapeCasts_S2x20x896x896_S2x20x896x28x32) (broadcastInDim S2x20x896x28x32 ![] bcast_S_S2x20x896x28x32 (id (constant S_ .f32 0x00000000#32)))

/-- The normaliser. -/
def tL (e : FVec F S2x20x896x28x32 .f32) : FVec F S2x20x896 .f32 :=
  Host.reduceAdd (Host.reduceAdd e (constant S_ .f32 0x00000000#32) reducesTo_S2x20x896x28x32_S2x20x896x28_d4 h_S_) (constant S_ .f32 0x00000000#32) reducesTo_S2x20x896x28_S2x20x896_d3 h_S_

/-- The output. -/
def tO (f : FVec F S2x20x896x14 .f32) (p : FVec F S2x20x14x896x128 .f32) (l : FVec F S2x20x896 .f32) : FVec F S2x20x896x128 .bf16 :=
  truncf .bf16 (Host.divf (Host.reduceAdd (mulf (broadcastInDim S2x20x14x896x128 ![0, 1, 2, 3, 4] bcast_S2x20x14x896x1_S2x20x14x896x128_0_1_2_3_4 (broadcastInDim S2x20x14x896x1 ![0, 1, 2, 3] bcast_S2x20x14x896_S2x20x14x896x1_0_1_2_3 (transpose S2x20x14x896 [0, 1, 3, 2] f transposes_S2x20x896x14_S2x20x14x896_0_1_3_2))) p) (constant S_ .f32 0x00000000#32) reducesTo_S2x20x14x896x128_S2x20x896x128_d2 h_S_) (broadcastInDim S2x20x896x128 ![0, 1, 2, 3] bcast_S2x20x896x1_S2x20x896x128_0_1_2_3 (broadcastInDim S2x20x896x1 ![0, 1, 2] bcast_S2x20x896_S2x20x896x1_0_1_2 l))) bitsLt_bf16_f32

/-- The whole attention, from the widened queries, keys and values. -/
def tAll (Q : FVec F S2x20x896x128 .bf16) (K V : FVec F S2x5x896x128 .bf16) : FVec F S2x20x896x128 .bf16 :=
  have s := tS (tDot Q K)
  have m := tM s
  have b := tB0 (tBm (tSb s)) m
  have p := tP2 (tSb s) b
  have x := tX (tA p)
  tO (tS1 b m) (tP (tW (tC (tY p (tU x))) x (tU x)) (tV V)) (tL (tE s m x))

theorem val21_eq (V0 : Valuation τ sig (Elt F)) : val21 V0 (Proc.devRef .tc main_v118)
    = tAll (V0 (Proc.devRef .tc main_v3_2)) (V0 (Proc.devRef .tc main_v3_5)) (V0 (Proc.devRef .tc main_v3_8)) :=
  (val21_main_v118 V0).trans rfl

end Cert.RefTail
-- ==== Proof.RefTail.lean ====
/-
The reference's attention, read entry by entry.

Each stage of the reference's attention is read at one entry; composed, one output number is `Row.out` of the masked
scores of its query and of its column of values.
-/
module

public import proofs.«01_k».proof.Proof.RefDefs
public import proofs.«01_k».proof.Proof.Row
public import Idealize.ShloMosaic.Lib.Pointwise

@[expose] public section

set_option maxRecDepth 16384

noncomputable section

namespace Cert.RefTail

open Cert.ReferenceIdeal Cert.ReferenceIdeal.Gen Cert.ReferenceIdeal.Value Idealize.ShloMosaic Idealize.ShloMosaic.TcCoe Idealize.SL.Sem

theorem dot_apply (Q : FVec Ideal S2x20x896x128 .bf16) (K : FVec Ideal S2x5x896x128 .bf16) (b : Fin 2) (h : Fin 20) (q κ : Fin 896) :
    tDot Q K (ix4 b h q κ) = ∑ d : Fin 128, Q (ix4 b h q d) * K (ix4 b (⟨h / 4, by omega⟩ : Fin 5) κ d) := by
  pointwise [tDot]

theorem sle_word (a b : ℕ) (ha : a < 896) (hb : b < 896) (x y : EReal) :
    Scalar.select (IntOp.cmpi CmpIPredicate.sle (BitVec.ofNat 32 a) (BitVec.ofNat 32 b)) x y = if a ≤ b then x else y := by
  have h : ∀ n, n < 896 → (BitVec.ofNat 32 n).toInt = n := fun n hn => by
    have h : (BitVec.ofNat 32 n).toNat = n := by rw [BitVec.toNat_ofNat]; omega
    rw [BitVec.toInt_eq_toNat_of_lt (by rw [h]; omega), h]
  unfold Scalar.select IntOp.cmpi
  simp only [BitVec.sle, h a ha, h b hb]
  by_cases hab : a ≤ b <;> simp [hab]

theorem s_apply (R : FVec Ideal S2x20x896x896 .f32) (b : Fin 2) (h : Fin 20) (q κ : Fin 896) :
    tS R (ix4 b h q κ) = if (κ : ℕ) ≤ (q : ℕ) then Ideal.div (R (ix4 b h q κ)) (Ideal.sqrt ((128 : ℝ) : EReal)) else ⊥ := by
  pointwise [tS]
  rw [sle_word _ _ κ.2 q.2]
  show (if (κ : ℕ) ≤ (q : ℕ) then Ideal.div (R (ix4 b h q κ)) (Ideal.sqrt (Ideal.ofBits .f32 1124073472#32)) else Ideal.ofBits .f32 4286578688#32) = _
  rw [Spec.ofBits_bot, Spec.ofBits_n128]

theorem m_apply (s : FVec Ideal S2x20x896x896 .f32) (b : Fin 2) (h : Fin 20) (q : Fin 896) :
    tM s (ix3 b h q) = Row.m fun κ => s (ix4 b h q κ) := by
  pointwise [tM]
  rw [Spec.ofBits_bot]; rfl

theorem bm_apply (s : FVec Ideal S2x20x896x896 .f32) (b : Fin 2) (h : Fin 20) (q : Fin 896) (n : Fin 14) :
    tBm (tSb s) (ix4 b h q n) = Row.bm (fun κ => s (ix4 b h q κ)) n := by
  pointwise [tBm, tSb]
  rw [Spec.ofBits_bot]; rfl

theorem b0_apply (bm : FVec Ideal S2x20x896x14 .f32) (m : FVec Ideal S2x20x896 .f32) (b : Fin 2) (h : Fin 20) (q : Fin 896) (n : Fin 14) :
    tB0 bm m (ix4 b h q n) = if bm (ix4 b h q n) = (⊥ : EReal) then m (ix3 b h q) else bm (ix4 b h q n) := by
  pointwise [tB0]
  rw [Spec.ofBits_bot]

theorem p2_apply (s : FVec Ideal S2x20x896x896 .f32) (b0 : FVec Ideal S2x20x896x14 .f32) (b : Fin 2) (h : Fin 20) (q : Fin 896) (g : Fin 28) (r : Fin 32) :
    tP2 (tSb s) b0 (ix5 b h q g r) = ((6 : ℝ) : EReal) * Ideal.exp (s (ix4 b h q (Row.k32 g r)) - b0 (ix4 b h q (⟨(Row.k32 g r).val / 64, by omega⟩ : Fin 14))) := by
  pointwise [tP2, tSb]
  rw [Spec.ofBits_six]
  have e1 : (⟨g / 2 * 64 + (g % 2 * 32 + r), by omega⟩ : Fin 896) = Row.k32 g r := Fin.ext (by unfold Row.k32; dsimp only; omega)
  have e2 : (⟨g / 2, by omega⟩ : Fin 14) = ⟨(Row.k32 g r).val / 64, by omega⟩ := Fin.ext (by unfold Row.k32; dsimp only; omega)
  exact congrArg₂ (fun a c => ((6 : ℝ) : EReal) * Ideal.exp (s (ix4 b h q a) - b0 (ix4 b h q c))) e1 e2

theorem a_apply (p : FVec Ideal S2x20x896x28x32 .f32) (b : Fin 2) (h : Fin 20) (q : Fin 896) (g : Fin 28) :
    tA p (ix4 b h q g) = Spec.amx fun r : Fin 32 => (p (ix5 b h q g r) : EReal) := by
  pointwise [tA]
  rw [Spec.ofBits_bot]; rfl

theorem x_apply (a : FVec Ideal S2x20x896x28 .f32) (b : Fin 2) (h : Fin 20) (q : Fin 896) (g : Fin 28) :
    tX a (ix4 b h q g) = Spec.xeR (a (ix4 b h q g)) := by
  pointwise [tX]
  show (if a (ix4 b h q g) = (0 : EReal) then Ideal.ofBits .f32 0#32 else
      max (min (Ideal.ofBits .f32 1123942400#32) (max (Ideal.ofBits .f32 3271426048#32)
        (Ideal.liftRound Int.floor (Ideal.div (Ideal.log (a (ix4 b h q g))) (Ideal.log (Ideal.ofBits .f32 1073741824#32)))))
        - Ideal.ofBits .f32 1073741824#32) (Ideal.ofBits .f32 3271426048#32)) = _
  rw [Spec.ofBits_n127, Spec.ofBits_neg_127, Spec.ofBits_two, Ideal.ofBits_zero]
  rfl

theorem u_apply (x : FVec Ideal S2x20x896x28 .f32) (b : Fin 2) (h : Fin 20) (q : Fin 896) (g : Fin 28) :
    tU x (ix4 b h q g) = Ideal.pow ((2 : ℝ) : EReal) (x (ix4 b h q g)) := by
  rw [← Spec.ofBits_two]; rfl

theorem y_apply (p : FVec Ideal S2x20x896x28x32 .f32) (u : FVec Ideal S2x20x896x28 .f32) (b : Fin 2) (h : Fin 20) (q : Fin 896) (g : Fin 28) (r : Fin 32) :
    tY p u (ix5 b h q g r) = Ideal.div (p (ix5 b h q g r)) (u (ix4 b h q g)) := by
  pointwise [tY]

theorem st_apply (y : FVec Ideal S2x20x896x28x32 .f32) (b : Fin 2) (h : Fin 20) (q : Fin 896) (g : Fin 28) (r : Fin 32) :
    tSt y (ix5 b h q g r) = ((Spec.stp (y (ix5 b h q g r)) : ℝ) : EReal) := by
  pointwise [tSt]
  rw [Spec.ofBits_two, Spec.ofBits_half, Spec.ofBits_four]
  unfold Spec.stp
  show (if max _ (-_) < _ then _ else if max _ (-_) < _ then _ else _) = _
  split_ifs <;> rfl

theorem c_apply (y : FVec Ideal S2x20x896x28x32 .f32) (b : Fin 2) (h : Fin 20) (q : Fin 896) (g : Fin 28) (r : Fin 32) :
    tC y (ix5 b h q g r) = Spec.fp4S (y (ix5 b h q g r)) := by
  have hR : tR y (ix5 b h q g r) = min ((Spec.stp (y (ix5 b h q g r)) : EReal) * Ideal.liftRound Ideal.roundHalfEven
      (Ideal.div (max (y (ix5 b h q g r)) (-(y (ix5 b h q g r) : EReal))) (Spec.stp (y (ix5 b h q g r)) : EReal))) ((6 : ℝ) : EReal) := by
    rw [← st_apply, ← Spec.ofBits_six]; rfl
  rw [← Spec.fp4R_eq]
  unfold Spec.fp4R
  rw [← hR, zero_sub]
  pointwise [tC]

theorem s1_apply (b0 : FVec Ideal S2x20x896x14 .f32) (m : FVec Ideal S2x20x896 .f32) (b : Fin 2) (h : Fin 20) (q : Fin 896) (n : Fin 14) :
    tS1 b0 m (ix4 b h q n) = Ideal.div (Ideal.exp (b0 (ix4 b h q n) - m (ix3 b h q))) ((6 : ℝ) : EReal) := by
  pointwise [tS1]
  rw [Spec.ofBits_six]

theorem w_apply (c : FVec Ideal S2x20x896x28x32 .bf16) (x u : FVec Ideal S2x20x896x28 .f32) (b : Fin 2) (h : Fin 20) (q : Fin 896) (n : Fin 14) (j : Fin 64) :
    tW c x u (ix5 b h q n j) = c (ix5 b h q (⟨(Row.k64 n j).val / 32, by omega⟩ : Fin 28) (⟨(Row.k64 n j).val % 32, by omega⟩ : Fin 32))
      * (if ((-127 : ℝ) : EReal) < x (ix4 b h q (⟨(Row.k64 n j).val / 32, by omega⟩ : Fin 28)) then u (ix4 b h q (⟨(Row.k64 n j).val / 32, by omega⟩ : Fin 28)) else (0 : EReal)) := by
  pointwise [tW]
  have e1 : (⟨n * 2 + j / 32, by omega⟩ : Fin 28) = ⟨(Row.k64 n j).val / 32, by omega⟩ := Fin.ext (by unfold Row.k64; dsimp only; omega)
  have e2 : (⟨j % 32, by omega⟩ : Fin 32) = ⟨(Row.k64 n j).val % 32, by omega⟩ := Fin.ext (by unfold Row.k64; dsimp only; omega)
  rw [← e1, ← e2, Spec.ofBits_neg_127]
  show _ = _ * (if _ then _ else (0 : EReal))
  rw [← Ideal.ofBits_zero .f32]
  rfl

theorem v_apply (V : FVec Ideal S2x5x896x128 .bf16) (b : Fin 2) (h : Fin 20) (n : Fin 14) (j : Fin 64) (d : Fin 128) :
    tV V (ix5 b h n j d) = V (ix4 b (⟨h / 4, by omega⟩ : Fin 5) (Row.k64 n j) d) := by
  pointwise [tV]
  rfl

theorem p_apply (w : FVec Ideal S2x20x896x14x64 .bf16) (v : FVec Ideal S2x20x14x64x128 .bf16) (b : Fin 2) (h : Fin 20) (q : Fin 896) (n : Fin 14) (d : Fin 128) :
    tP w v (ix5 b h n q d) = ∑ j : Fin 64, w (ix5 b h q n j) * v (ix5 b h n j d) := by
  pointwise [tP]

theorem sgt_word (c : ℕ) (hc : c ≤ 252) (x y : EReal) :
    Scalar.select (IntOp.cmpi CmpIPredicate.sgt (BitVec.ofNat 32 c) 0#32) x y = if 0 < c then x else y := by
  have h : (BitVec.ofNat 32 c).toInt = c := by
    have h : (BitVec.ofNat 32 c).toNat = c := by rw [BitVec.toNat_ofNat]; omega
    rw [BitVec.toInt_eq_toNat_of_lt (by rw [h]; omega), h]
  unfold Scalar.select IntOp.cmpi
  have h0 : (0#32 : BitVec 32).toInt = 0 := by decide
  simp only [BitVec.slt, h, h0]
  by_cases hab : 0 < c <;> simp [hab]

theorem e_apply (s : FVec Ideal S2x20x896x896 .f32) (m : FVec Ideal S2x20x896 .f32) (x : FVec Ideal S2x20x896x28 .f32) (b : Fin 2) (h : Fin 20) (q : Fin 896) (g : Fin 28) (r : Fin 32)
    (a : EReal) (ha : 0 ≤ a) (hx : x (ix4 b h q g) = Spec.xeR a) :
    tE s m x (ix5 b h q g r) = if 0 < Spec.codeN a then Ideal.exp (s (ix4 b h q (Row.k32 g r)) - m (ix3 b h q)) else (0 : EReal) := by
  pointwise [tE]
  rw [hx, Spec.ofBits_n127]
  rw [show FloatOps.fptosi (F := Ideal) (φ := .f32) 32 (Spec.xeR a + ((127 : ℝ) : EReal) : EReal) = Ideal.fptosi 32 (Spec.xeR a + ((127 : ℝ) : EReal)) from rfl, Spec.code_word a ha, sgt_word _ (Spec.codeN_le a), ← Ideal.ofBits_zero .f32]
  rfl

theorem l_apply (e : FVec Ideal S2x20x896x28x32 .f32) (b : Fin 2) (h : Fin 20) (q : Fin 896) :
    tL e (ix3 b h q) = ∑ g : Fin 28, ∑ r : Fin 32, (e (ix5 b h q g r) : EReal) := by
  pointwise [tL]

theorem o_apply (f : FVec Ideal S2x20x896x14 .f32) (p : FVec Ideal S2x20x14x896x128 .f32) (l : FVec Ideal S2x20x896 .f32) (b : Fin 2) (h : Fin 20) (q : Fin 896) (d : Fin 128) :
    tO f p l (ix4 b h q d) = Ideal.div (∑ n : Fin 14, f (ix4 b h q n) * p (ix5 b h n q d)) (l (ix3 b h q)) := by
  pointwise [tO]

/-- The masked scores of one query. -/
def sc (Q : FVec Ideal S2x20x896x128 .bf16) (K : FVec Ideal S2x5x896x128 .bf16) (b : Fin 2) (h : Fin 20) (q : Fin 896) : Fin 896 → EReal :=
  fun κ => if (κ : ℕ) ≤ (q : ℕ) then
    Ideal.div (∑ d : Fin 128, (Q (ix4 b h q d) : EReal) * K (ix4 b (⟨h / 4, by omega⟩ : Fin 5) κ d)) (Ideal.sqrt ((128 : ℝ) : EReal)) else ⊥

/-- One output number. -/
theorem all_apply (Q : FVec Ideal S2x20x896x128 .bf16) (K V : FVec Ideal S2x5x896x128 .bf16) (b : Fin 2) (h : Fin 20) (q : Fin 896) (d : Fin 128) :
    tAll Q K V (ix4 b h q d) = Row.out (sc Q K b h q) fun κ => V (ix4 b (⟨h / 4, by omega⟩ : Fin 5) κ d) := by
  unfold tAll
  generalize hs : tS (tDot Q K) = s
  generalize hm : tM s = m
  generalize hb : tB0 (tBm (tSb s)) m = b0
  generalize hp : tP2 (tSb s) b0 = p
  generalize hx : tX (tA p) = x
  have es : ∀ κ, s (ix4 b h q κ) = sc Q K b h q κ := fun κ => by
    rw [← hs, s_apply, dot_apply]; rfl
  have es' : (fun κ => (s (ix4 b h q κ) : EReal)) = sc Q K b h q := funext es
  have em : m (ix3 b h q) = Row.m (sc Q K b h q) := by rw [← hm, m_apply, es']
  have eb : ∀ n, b0 (ix4 b h q n) = Row.bm0 (sc Q K b h q) n := fun n => by
    rw [← hb, b0_apply, bm_apply, em, es']; rfl
  have ep : ∀ g r, p (ix5 b h q g r) = Row.p2 (sc Q K b h q) (Row.k32 g r) := fun g r => by
    rw [← hp, p2_apply, es, eb]; rfl
  have ea : ∀ g, tA p (ix4 b h q g) = Spec.amx fun r : Fin 32 => Row.p2 (sc Q K b h q) (Row.k32 g r) := fun g => by
    rw [a_apply]; congr 1; funext r; exact ep g r
  have ha : ∀ g, 0 ≤ Spec.amx fun r : Fin 32 => Row.p2 (sc Q K b h q) (Row.k32 g r) := fun g => Spec.amx_nonneg _
  have ex : ∀ g, x (ix4 b h q g) = Spec.xeR (Spec.amx fun r : Fin 32 => Row.p2 (sc Q K b h q) (Row.k32 g r)) := fun g => by
    rw [← hx, x_apply, ea]
  have ek : ∀ n j, Row.k32 ⟨(Row.k64 n j).val / 32, by omega⟩ ⟨(Row.k64 n j).val % 32, by omega⟩ = Row.k64 n j := fun n j =>
    Fin.ext (by unfold Row.k32; dsimp only; omega)
  have ew : ∀ n j, tW (tC (tY p (tU x))) x (tU x) (ix5 b h q n j) = Row.wt (sc Q K b h q) (Row.k64 n j) := fun n j => by
    rw [w_apply, c_apply, y_apply, u_apply, ex, ep, ek, Spec.div_unit _ _ (ha _), Spec.scale_eq _ (ha _)]; rfl
  have ee : ∀ g r, tE s m x (ix5 b h q g r) = Row.en (sc Q K b h q) (Row.k32 g r) := fun g r => by
    rw [e_apply _ _ _ _ _ _ _ _ _ (ha g) (ex g), es, em]
    have hg : (⟨(Row.k32 g r).val / 32, by omega⟩ : Fin 28) = g := Fin.ext (by unfold Row.k32; dsimp only; omega)
    unfold Row.en
    rw [hg]; rfl
  show tO (tS1 b0 m) (tP (tW (tC (tY p (tU x))) x (tU x)) (tV V)) (tL (tE s m x)) (ix4 b h q d) = _
  rw [o_apply, l_apply]
  simp only [ee, s1_apply, p_apply, ew, eb, em, v_apply]
  rfl

end Cert.RefTail
-- ==== Proof.RefOut.lean ====
/-
The reference's arrays of codes, scales and widened values, and its attention output, as functions of the arguments.
-/
module

public import proofs.«01_k».proof.Proof.RefQuant
public import proofs.«01_k».proof.Proof.RefTail
public import proofs.«01_k».proof.Proof.Spec
public import proofs.«01_k».proof.Proof.Gen.ReferenceIdeal.Run
public import Idealize.ShloMosaic.Lib.Pointwise
public import Idealize.ShloMosaic.Lib.Pipeline.ValueKit
public import Idealize.ShloMosaic.Lib.Claim

@[expose] public section

set_option maxRecDepth 16384

noncomputable section

namespace Cert.RefOut

open Cert.ReferenceIdeal Cert.ReferenceIdeal.Gen Idealize.ShloMosaic Idealize.ShloMosaic.TcCoe Idealize.SL.Sem

variable (m : (ℓ : Loc nD τ sig) → Buf (Elt Ideal) ℓ)

/-- The arguments by coordinates. -/
def aQ (c : Dev nD) (b : Fin 2) (q : Fin 896) (h : Fin 20) (d : Fin 128) : EReal := m ((c : Thread nD τ).loc main_arg0) (ix4 b q h d)
def aK (c : Dev nD) (b : Fin 2) (q : Fin 896) (h : Fin 5) (d : Fin 128) : EReal := m ((c : Thread nD τ).loc main_arg1) (ix4 b q h d)
def aV (c : Dev nD) (b : Fin 2) (q : Fin 896) (h : Fin 5) (d : Fin 128) : EReal := m ((c : Thread nD τ).loc main_arg2) (ix4 b q h d)

theorem idx : win0_0.index t0_0 = ![0, 0, 0, 0] ∧ win0_1.index t0_0 = ![0, 0, 0, 0] ∧ win0_2.index t0_0 = ![0, 0, 0, 0] := by
  decide +kernel

theorem ent0 (c : Dev nD) (b : Fin 2) (h : Fin 20) (q : Fin 896) (d : Fin 128) :
    V m c main_v0 (ix4 b h q d) = aQ m c b q h d := by
  unfold V V0
  simp only [hostOps0, List.flatten_cons, List.flatten_nil, List.append_nil, StableHlo.after_cons, StableHlo.after_nil]
  after_results_simp
  pointwise
  rfl

theorem ld0 (c : Dev nD) : View.ld (iblk m c 0 t0_0) r0_0 = V m c main_v0 := by
  funext i
  refine congrArg (V m c main_v0) (a₁ := ((cfg0.win 0).blk t0_0).view.emb (r0_0.emb i)) ?_
  blk_ext [idx]

theorem ent1 (c : Dev nD) (b : Fin 2) (h : Fin 5) (q : Fin 896) (d : Fin 128) :
    V m c main_v1 (ix4 b h q d) = aK m c b q h d := by
  unfold V V0
  simp only [hostOps0, List.flatten_cons, List.flatten_nil, List.append_nil, StableHlo.after_cons, StableHlo.after_nil]
  after_results_simp
  pointwise
  rfl

theorem ld1 (c : Dev nD) : View.ld (iblk m c 1 t0_0) r0_1 = V m c main_v1 := by
  funext i
  refine congrArg (V m c main_v1) (a₁ := ((cfg0.win 1).blk t0_0).view.emb (r0_1.emb i)) ?_
  blk_ext [idx]

theorem ent2 (c : Dev nD) (b : Fin 2) (h : Fin 5) (q : Fin 896) (d : Fin 128) :
    V m c main_v2 (ix4 b h q d) = aV m c b q h d := by
  unfold V V0
  simp only [hostOps0, List.flatten_cons, List.flatten_nil, List.append_nil, StableHlo.after_cons, StableHlo.after_nil]
  after_results_simp
  pointwise
  rfl

theorem ld2 (c : Dev nD) : View.ld (iblk m c 2 t0_0) r0_1 = V m c main_v2 := by
  funext i
  refine congrArg (V m c main_v2) (a₁ := ((cfg0.win 2).blk t0_0).view.emb (r0_1.emb i)) ?_
  blk_ext [idx]

theorem kent (c : Dev nD) (b : Fin 2) (h : Fin 5) (q : Fin 896) (d : Fin 128) :
    k0_pay5 (V m c main_v1) (ix4 b h q d) = aK m c b q h d - (∑ s, aK m c b s h d) * ((1 / 896 : ℝ) : EReal) := by
  rw [RefQuant.k5]
  exact congrArg₂ (fun x y : EReal => x - y * ((1 / 896 : ℝ) : EReal)) (ent1 m c b h q d) (Finset.sum_congr rfl fun s _ => ent1 m c b h s d)

theorem q_codes_arr (c : Dev nD) : (dats m 0 c).arrAt 3 cfg0.N
    = k0_pay11 (k0_pay6 (V m c main_v0)) (k0_pay8 (V m c main_v0)) := by
  refine (dats m 0 c).arrAt_eq_of_after_last 3 t0_0 (by decide +kernel) _ fun j => ?_
  blk_simp
  rw [after0_3]
  frame_out
  rw [← ld0 m c]
  rfl

theorem q_codes (c : Dev nD) (b : Fin 2) (h : Fin 20) (q : Fin 896) (d : Fin 128) :
    (dats m 0 c).arrAt 3 cfg0.N (ix4 b h q d) = Grp.cd (Arg.qg (aQ m c) b h q) ⟨d / 32, by omega⟩ ⟨d % 32, by omega⟩ := by
  rw [q_codes_arr, RefQuant.q_codes]
  exact congrArg (fun f => Grp.cd (Grp.row4 f) ⟨d / 32, by omega⟩ ⟨d % 32, by omega⟩) (funext fun d => ent0 m c b h q d)

theorem q_scales_arr (c : Dev nD) : (dats m 0 c).arrAt 4 cfg0.N
    = k0_pay12 (k0_pay7 (V m c main_v0)) := by
  refine (dats m 0 c).arrAt_eq_of_after_last 4 t0_0 (by decide +kernel) _ fun j => ?_
  blk_simp
  rw [after0_4]
  frame_out
  rw [← ld0 m c]
  rfl

theorem q_scales (c : Dev nD) (b : Fin 2) (h : Fin 20) (g : Fin 4) (q : Fin 896) :
    (dats m 0 c).arrAt 4 cfg0.N (ix4 b h g q) = Arg.byte (Arg.qg (aQ m c) b h q) g := by
  rw [q_scales_arr, RefQuant.q_scales]
  exact congrArg (fun f => Arg.byte (Grp.row4 f) g) (funext fun d => ent0 m c b h q d)

theorem q_w_arr (c : Dev nD) : (dats m 0 c).arrAt 5 cfg0.N
    = k0_pay10 (k0_pay6 (V m c main_v0)) (k0_pay7 (V m c main_v0)) (k0_pay8 (V m c main_v0)) := by
  refine (dats m 0 c).arrAt_eq_of_after_last 5 t0_0 (by decide +kernel) _ fun j => ?_
  blk_simp
  rw [after0_5]
  frame_out
  rw [← ld0 m c]
  rfl

theorem q_w (c : Dev nD) (b : Fin 2) (h : Fin 20) (q : Fin 896) (d : Fin 128) :
    (dats m 0 c).arrAt 5 cfg0.N (ix4 b h q d) = Arg.qw (aQ m c) b h q d := by
  rw [q_w_arr, RefQuant.q_w]
  exact congrArg (fun f => Grp.wd (Grp.row4 f) ⟨d / 32, by omega⟩ ⟨d % 32, by omega⟩) (funext fun d => ent0 m c b h q d)

theorem k_codes_arr (c : Dev nD) : (dats m 0 c).arrAt 6 cfg0.N
    = k0_pay22 (k0_pay16 (k0_pay5 (V m c main_v1))) (k0_pay18 (k0_pay5 (V m c main_v1))) (k0_pay19 (k0_pay5 (V m c main_v1))) := by
  refine (dats m 0 c).arrAt_eq_of_after_last 6 t0_0 (by decide +kernel) _ fun j => ?_
  blk_simp
  rw [after0_6]
  frame_out
  rw [← ld1 m c]
  rfl

theorem k_codes (c : Dev nD) (b : Fin 2) (h : Fin 5) (q : Fin 896) (d : Fin 128) :
    (dats m 0 c).arrAt 6 cfg0.N (ix4 b h q d) = Grp.cd (Arg.kg (aK m c) b h q) ⟨d / 32, by omega⟩ ⟨d % 32, by omega⟩ := by
  rw [k_codes_arr, RefQuant.k_codes]
  exact congrArg (fun f => Grp.cd (Grp.row4 f) ⟨d / 32, by omega⟩ ⟨d % 32, by omega⟩) (funext fun d => kent m c b h q d)

theorem k_scales_arr (c : Dev nD) : (dats m 0 c).arrAt 7 cfg0.N
    = k0_pay23 (k0_pay14 (k0_pay5 (V m c main_v1))) := by
  refine (dats m 0 c).arrAt_eq_of_after_last 7 t0_0 (by decide +kernel) _ fun j => ?_
  blk_simp
  rw [after0_7]
  frame_out
  rw [← ld1 m c]
  rfl

theorem k_scales (c : Dev nD) (b : Fin 2) (h : Fin 5) (g : Fin 4) (q : Fin 896) :
    (dats m 0 c).arrAt 7 cfg0.N (ix4 b h g q) = Arg.byte (Arg.kg (aK m c) b h q) g := by
  rw [k_scales_arr, RefQuant.k_scales]
  exact congrArg (fun f => Arg.byte (Grp.row4 f) g) (funext fun d => kent m c b h q d)

theorem k_w_arr (c : Dev nD) : (dats m 0 c).arrAt 8 cfg0.N
    = k0_pay21 (k0_pay14 (k0_pay5 (V m c main_v1))) (k0_pay15 (k0_pay5 (V m c main_v1))) (k0_pay16 (k0_pay5 (V m c main_v1))) (k0_pay18 (k0_pay5 (V m c main_v1))) (k0_pay19 (k0_pay5 (V m c main_v1))) := by
  refine (dats m 0 c).arrAt_eq_of_after_last 8 t0_0 (by decide +kernel) _ fun j => ?_
  blk_simp
  rw [after0_8]
  frame_out
  rw [← ld1 m c]
  rfl

theorem k_w (c : Dev nD) (b : Fin 2) (h : Fin 5) (q : Fin 896) (d : Fin 128) :
    (dats m 0 c).arrAt 8 cfg0.N (ix4 b h q d) = Arg.kw (aK m c) b h q d := by
  rw [k_w_arr, RefQuant.k_w]
  exact congrArg (fun f => Grp.wd (Grp.row4 f) ⟨d / 32, by omega⟩ ⟨d % 32, by omega⟩) (funext fun d => kent m c b h q d)

theorem v_codes_arr (c : Dev nD) : (dats m 0 c).arrAt 9 cfg0.N
    = k0_pay2 (k0_pay29 (k0_pay24 (k0_pay4 (V m c main_v2))) (k0_pay25 (k0_pay4 (V m c main_v2))) (k0_pay26 (k0_pay4 (V m c main_v2))) (Scalar.ofBits .f32 0xC2FE0000#32)) := by
  refine (dats m 0 c).arrAt_eq_of_after_last 9 t0_0 (by decide +kernel) _ fun j => ?_
  blk_simp
  rw [after0_9]
  frame_out
  rw [← ld2 m c]
  rfl

theorem v_codes (c : Dev nD) (b : Fin 2) (h : Fin 5) (q : Fin 896) (d : Fin 128) :
    (dats m 0 c).arrAt 9 cfg0.N (ix4 b h q d) = Grp.cd (Arg.vg (aV m c) b h d) ⟨q / 32, by omega⟩ ⟨q % 32, by omega⟩ := by
  rw [v_codes_arr, RefQuant.v_codes]
  exact congrArg (fun f => Grp.cd (Grp.col28 f) ⟨q / 32, by omega⟩ ⟨q % 32, by omega⟩) (funext fun s => ent2 m c b h s d)

theorem v_scales_arr (c : Dev nD) : (dats m 0 c).arrAt 10 cfg0.N
    = k0_pay3 (k0_pay27 (k0_pay25 (k0_pay4 (V m c main_v2))) (k0_pay26 (k0_pay4 (V m c main_v2))) (Scalar.ofBits .f32 0xC2FE0000#32)) := by
  refine (dats m 0 c).arrAt_eq_of_after_last 10 t0_0 (by decide +kernel) _ fun j => ?_
  blk_simp
  rw [after0_10]
  frame_out
  rw [← ld2 m c]
  rfl

theorem v_scales (c : Dev nD) (b : Fin 2) (h : Fin 5) (g : Fin 28) (d : Fin 128) :
    (dats m 0 c).arrAt 10 cfg0.N (ix4 b h g d) = Arg.byte (Arg.vg (aV m c) b h d) g := by
  rw [v_scales_arr, RefQuant.v_scales]
  exact congrArg (fun f => Arg.byte (Grp.col28 f) g) (funext fun s => ent2 m c b h s d)

theorem v_w_arr (c : Dev nD) : (dats m 0 c).arrAt 11 cfg0.N
    = k0_pay1 (k0_pay29 (k0_pay24 (k0_pay4 (V m c main_v2))) (k0_pay25 (k0_pay4 (V m c main_v2))) (k0_pay26 (k0_pay4 (V m c main_v2))) (Scalar.ofBits .f32 0xC2FE0000#32)) (k0_pay30 (k0_pay25 (k0_pay4 (V m c main_v2))) (k0_pay26 (k0_pay4 (V m c main_v2))) (Scalar.ofBits .f32 0xC2FE0000#32)) := by
  refine (dats m 0 c).arrAt_eq_of_after_last 11 t0_0 (by decide +kernel) _ fun j => ?_
  blk_simp
  rw [after0_11]
  frame_out
  rw [← ld2 m c]
  rfl

theorem v_w (c : Dev nD) (b : Fin 2) (h : Fin 5) (q : Fin 896) (d : Fin 128) :
    (dats m 0 c).arrAt 11 cfg0.N (ix4 b h q d) = Arg.vw (aV m c) b h q d := by
  rw [v_w_arr, RefQuant.v_w]
  exact congrArg (fun f => Grp.wd (Grp.col28 f) ⟨q / 32, by omega⟩ ⟨q % 32, by omega⟩) (funext fun s => ent2 m c b h s d)

end Cert.RefOut
-- ==== Proof.Same.lean ====
/-
The two programs' results are the same functions of the arguments.
-/
module

public import proofs.«01_k».proof.Proof.KerAttn
public import proofs.«01_k».proof.Proof.RefOut

@[expose] public section

set_option maxRecDepth 16384

noncomputable section

namespace Cert.Same

open Idealize.ShloMosaic Idealize.ShloMosaic.TcCoe Idealize.SL.Sem
open Cert.KernelIdeal (S2x20x896x128 S2x20x4x896 S2x5x896x128 S2x5x4x896 S2x5x28x128)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's and the kernel's arrays after the run. -/
abbrev rA (c : Dev Cert.ReferenceIdeal.nD) (w) := (Cert.ReferenceIdeal.Gen.dats m' 0 c).arrAt w Cert.ReferenceIdeal.cfg0.N
abbrev kA (c : Dev Cert.KernelIdeal.nD) (w) := (Cert.KernelIdeal.Gen.dats m 0 c).arrAt w Cert.KernelIdeal.cfg0.N

theorem q_codes (c : Dev Cert.KernelIdeal.nD) (hQ : RefOut.aQ m' c = KerOut.aQ m c) :
    (rA m' c 3 : S2x20x896x128.Idx → EReal) = kA m c 4 := by
  refine Eq.trans (funext fun j => ?_) (KerOut.q_codes m c).symm
  obtain ⟨b, h, q, d, rfl⟩ : ∃ (b : Fin 2) (h : Fin 20) (q : Fin 896) (d : Fin 128), j = ix4 b h q d := ⟨_, _, _, _, eq_ix4 j⟩
  refine (RefOut.q_codes m' c b h q d).trans ?_
  rw [hQ]
  rfl

theorem q_scales (c : Dev Cert.KernelIdeal.nD) (hQ : RefOut.aQ m' c = KerOut.aQ m c) :
    (rA m' c 4 : S2x20x4x896.Idx → BitVec 8) = kA m c 5 := by
  refine Eq.trans (funext fun j => ?_) (KerOut.q_scales m c).symm
  obtain ⟨b, h, g, q, rfl⟩ : ∃ (b : Fin 2) (h : Fin 20) (g : Fin 4) (q : Fin 896), j = ix4 b h g q := ⟨_, _, _, _, eq_ix4 j⟩
  refine (RefOut.q_scales m' c b h g q).trans ?_
  rw [hQ]
  rfl

theorem k_codes (c : Dev Cert.KernelIdeal.nD) (hK : RefOut.aK m' c = KerOut.aK m c) :
    (rA m' c 6 : S2x5x896x128.Idx → EReal) = kA m c 6 := by
  refine Eq.trans (funext fun j => ?_) (KerOut.k_codes m c).symm
  obtain ⟨b, h, q, d, rfl⟩ : ∃ (b : Fin 2) (h : Fin 5) (q : Fin 896) (d : Fin 128), j = ix4 b h q d := ⟨_, _, _, _, eq_ix4 j⟩
  refine (RefOut.k_codes m' c b h q d).trans ?_
  rw [hK]
  rfl

theorem k_scales (c : Dev Cert.KernelIdeal.nD) (hK : RefOut.aK m' c = KerOut.aK m c) :
    (rA m' c 7 : S2x5x4x896.Idx → BitVec 8) = kA m c 7 := by
  refine Eq.trans (funext fun j => ?_) (KerOut.k_scales m c).symm
  obtain ⟨b, h, g, q, rfl⟩ : ∃ (b : Fin 2) (h : Fin 5) (g : Fin 4) (q : Fin 896), j = ix4 b h g q := ⟨_, _, _, _, eq_ix4 j⟩
  refine (RefOut.k_scales m' c b h g q).trans ?_
  rw [hK]
  rfl

theorem v_codes (c : Dev Cert.KernelIdeal.nD) (hV : RefOut.aV m' c = KerOut.aV m c) :
    (rA m' c 9 : S2x5x896x128.Idx → EReal) = kA m c 8 := by
  refine Eq.trans (funext fun j => ?_) (KerOut.v_codes m c).symm
  obtain ⟨b, h, q, d, rfl⟩ : ∃ (b : Fin 2) (h : Fin 5) (q : Fin 896) (d : Fin 128), j = ix4 b h q d := ⟨_, _, _, _, eq_ix4 j⟩
  refine (RefOut.v_codes m' c b h q d).trans ?_
  rw [hV]
  rfl

theorem v_scales (c : Dev Cert.KernelIdeal.nD) (hV : RefOut.aV m' c = KerOut.aV m c) :
    (rA m' c 10 : S2x5x28x128.Idx → BitVec 8) = kA m c 9 := by
  refine Eq.trans (funext fun j => ?_) (KerOut.v_scales m c).symm
  obtain ⟨b, h, g, d, rfl⟩ : ∃ (b : Fin 2) (h : Fin 5) (g : Fin 28) (d : Fin 128), j = ix4 b h g d := ⟨_, _, _, _, eq_ix4 j⟩
  refine (RefOut.v_scales m' c b h g d).trans ?_
  rw [hV]
  rfl

/-- The attention over the widened arrays that the reference's quantisers leave. -/
theorem ref_att (c : Dev Cert.KernelIdeal.nD) (hQ : RefOut.aQ m' c = KerOut.aQ m c) (hK : RefOut.aK m' c = KerOut.aK m c)
    (hV : RefOut.aV m' c = KerOut.aV m c) (b : Fin 2) (h : Fin 20) (q : Fin 896) (d : Fin 128) :
    (RefTail.tAll (F := Ideal) (rA m' c 5) (rA m' c 8) (rA m' c 11) (ix4 b h q d) : EReal) = KerOut.att m c b h q d := by
  refine (RefTail.all_apply _ _ _ b h q d).trans ?_
  unfold KerOut.att RefTail.sc
  rw [← hQ, ← hK, ← hV]
  refine congrArg₂ Row.out (funext fun κ => if_congr Iff.rfl ?_ rfl) (funext fun κ => RefOut.v_w m' c b _ κ d)
  exact congrArg (fun s : EReal => Ideal.div s (Ideal.sqrt ((128 : ℝ) : EReal)))
    (Finset.sum_congr rfl fun d _ => congrArg₂ (fun x y : EReal => x * y) (RefOut.q_w m' c b h q d) (RefOut.k_w m' c b _ κ d))

theorem out (c : Dev Cert.KernelIdeal.nD) (hQ : RefOut.aQ m' c = KerOut.aQ m c) (hK : RefOut.aK m' c = KerOut.aK m c)
    (hV : RefOut.aV m' c = KerOut.aV m c) :
    (Cert.ReferenceIdeal.Value.val21 (Cert.ReferenceIdeal.Value.exitV m' c) (Proc.devRef .tc Cert.ReferenceIdeal.main_v118) : S2x20x896x128.Idx → EReal)
      = kA m c 3 := by
  refine (RefTail.val21_eq _).trans ?_
  rw [Cert.ReferenceIdeal.Value.exit_main_v3_2, Cert.ReferenceIdeal.Value.exit_main_v3_5, Cert.ReferenceIdeal.Value.exit_main_v3_8]
  refine Eq.trans (funext fun j => ?_) (KerOut.out m c).symm
  obtain ⟨b, h, q, d, rfl⟩ : ∃ (b : Fin 2) (h : Fin 20) (q : Fin 896) (d : Fin 128), j = ix4 b h q d := ⟨_, _, _, _, eq_ix4 j⟩
  exact ref_att m m' c hQ hK hV b h q d

end Cert.Same
-- ==== Proof.Alg.lean ====
/- The value claim: kernel and reference leave the same results. -/
module

public import proofs.«01_k».proof.Defs
public import proofs.«01_k».proof.Proof.Same

@[expose] public section

set_option maxRecDepth 16384

noncomputable section

open Idealize.ShloMosaic Idealize.ShloMosaic.TcCoe Idealize.SL.Sem

theorem Cert.Proof.algebraic : Cert.algebraic_KernelIdeal_ReferenceIdeal := by
  pair_intro
  · run_from Cert.KernelIdeal.Value.run_blocks m g
  · have hQ : ∀ c, Cert.RefOut.aQ m' c = Cert.KerOut.aQ m c := fun c =>
      funext fun b => funext fun q => funext fun h => funext fun d => congrFun (hagree c).1 (ix4 b q h d)
    have hK : ∀ c, Cert.RefOut.aK m' c = Cert.KerOut.aK m c := fun c =>
      funext fun b => funext fun q => funext fun h => funext fun d => congrFun (hagree c).2.1 (ix4 b q h d)
    have hV : ∀ c, Cert.RefOut.aV m' c = Cert.KerOut.aV m c := fun c =>
      funext fun b => funext fun q => funext fun h => funext fun d => congrFun (hagree c).2.2 (ix4 b q h d)
    run_from Cert.ReferenceIdeal.Value.run m' g'
    · exact (Cert.ReferenceIdeal.Value.val21_main_v118 (Cert.ReferenceIdeal.Value.exitV m' c)).symm.trans
        (Cert.Same.out m m' c (hQ c) (hK c) (hV c))
    · exact Cert.Same.q_codes m m' c (hQ c)
    · exact Cert.Same.q_scales m m' c (hQ c)
    · exact Cert.Same.k_codes m m' c (hK c)
    · exact Cert.Same.k_scales m m' c (hK c)
    · exact Cert.Same.v_codes m m' c (hV c)
    · exact Cert.Same.v_scales m m' c (hV c)
-- ==== Proof.lean ====
/- The proof of the claims. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelIdeal.Value
public import proofs.«01_k».proof.Proof.Gen.ReferenceIdeal.Run
public import proofs.«01_k».proof.Proof.Alg

@[expose] public section

open Idealize.ShloMosaic

/-- The named constants of the kernel read as the real numbers they stand for. -/
theorem Cert.Proof.preserves : Cert.preserves_Kernel_KernelIdeal :=
  ⟨IdealRules.named_const.statement Cert.KernelIdeal.κ "inv_seq" .f32 0x3A924925#32 _ rfl,
    IdealRules.named_const.statement Cert.KernelIdeal.κ "c" .f32 0x3E0293EE#32 _ rfl,
    IdealRules.named_const.statement Cert.KernelIdeal.κ "log2_6" .f32 0x40257007#32 _ rfl,
    IdealRules.named_const.statement Cert.KernelIdeal.κ "inv_c" .f32 0x40FAF233#32 _ rfl,
    IdealRules.named_const.statement Cert.KernelIdeal.κ "sixth" .f32 0x3E2AAAAB#32 _ rfl⟩

theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, Cert.Proof.preserves, Cert.Proof.algebraic⟩
